-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.bf16_pair.Statement Cert.KernelIdeal.S64x128 Cert.KernelIdeal.S32x128
  ∧ IdealRules.named_const.Statement Cert.KernelIdeal.κ "log2e" .f32 0x3FB8AA3B#32 (((Real.log 2)⁻¹ : ℝ) : EReal)
  ∧ IdealRules.bf16_pair.SelectZeroStatement Cert.KernelIdeal.S32x128
  ∧ IdealRules.bf16_pair.Statement Cert.KernelIdeal.S64x256 Cert.KernelIdeal.S32x256

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v10)) (v1 : (c : Dev Cert.KernelIdeal.nD) → Buf (Elt Ideal) ((c.tc : Thread Cert.KernelIdeal.nD Cert.KernelIdeal.τ).loc Cert.KernelIdeal.main_v12)) (v2 : (c : Dev Cert.KernelIdeal.nD) → Buf (Elt Ideal) ((c.tc : Thread Cert.KernelIdeal.nD Cert.KernelIdeal.τ).loc Cert.KernelIdeal.main_v16)) (v3 : (c : Dev Cert.KernelIdeal.nD) → Buf (Elt Ideal) ((c.tc : Thread Cert.KernelIdeal.nD Cert.KernelIdeal.τ).loc Cert.KernelIdeal.main_v14)) (v4 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_v12) = v1 c
          ∧ r.2.mem ((c.tc : Thread Cert.KernelIdeal.nD Cert.KernelIdeal.τ).loc Cert.KernelIdeal.main_v16) = v2 c
          ∧ r.2.mem ((c.tc : Thread Cert.KernelIdeal.nD Cert.KernelIdeal.τ).loc Cert.KernelIdeal.main_v14) = v3 c
          ∧ r.2.mem ((c.tc : Thread Cert.KernelIdeal.nD Cert.KernelIdeal.τ).loc Cert.KernelIdeal.main_v18) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v123) = v0 c
          ∧ r.2.mem ((c.tc : Thread Cert.ReferenceIdeal.nD Cert.ReferenceIdeal.τ).loc Cert.ReferenceIdeal.main_v37_2) = v1 c
          ∧ r.2.mem ((c.tc : Thread Cert.ReferenceIdeal.nD Cert.ReferenceIdeal.τ).loc Cert.ReferenceIdeal.main_v38) = v2 c
          ∧ r.2.mem ((c.tc : Thread Cert.ReferenceIdeal.nD Cert.ReferenceIdeal.τ).loc Cert.ReferenceIdeal.main_v37_4) = v3 c
          ∧ r.2.mem ((c.tc : Thread Cert.ReferenceIdeal.nD Cert.ReferenceIdeal.τ).loc Cert.ReferenceIdeal.main_v39) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S8x4x16x128 : Shape := ⟨4, ![8, 4, 16, 128]⟩
abbrev S8x4x2x128 : Shape := ⟨4, ![8, 4, 2, 128]⟩
abbrev S8x131072x2x128 : Shape := ⟨4, ![8, 131072, 2, 128]⟩
abbrev S8x131072x2 : Shape := ⟨3, ![8, 131072, 2]⟩
abbrev S8 : Shape := ⟨1, ![8]⟩
abbrev S_ : Shape := ⟨0, ![]⟩
abbrev S8x4x2 : Shape := ⟨3, ![8, 4, 2]⟩

class Facts : Prop where
  bcast_S_S8 : S_.BroadcastsInDim S8 (![] : Fin 0 → Fin S8.rank)
  reducesTo_S8_S_d0 : S8.ReducesTo [0] S_
  h_S_ : 0 < S_.numel
  bitsLt_bf16_f32 : FTy.bits .bf16 < FTy.bits .f32
  reducesTo_S8x4x2x128_S8x4x2_d3 : S8x4x2x128.ReducesTo [3] S8x4x2
  bcast_S_S8x4x2 : S_.BroadcastsInDim S8x4x2 (![] : Fin 0 → Fin S8x4x2.rank)
  reducesTo_S8x4x2_S_d0_1_2 : S8x4x2.ReducesTo [0, 1, 2] S_

variable [Facts]

def fn_part1 {F : FTy → Type} [FloatOps F] (main_arg2 : FVec F S8x4x2x128 .bf16) (main_v5 : IVec S_ 1) (main_v16 : IVec S8x4x2 1) : IVec S_ 1 :=
  let main_c_5 : IVec S_ 1 := constantI S_ 1 1#1
  let main_v17 : IVec S_ 1 := (fun x v => Host.reduce IntOp.andi x v reducesTo_S8x4x2_S_d0_1_2 h_S_) main_v16 main_c_5
  let main_v18 : IVec S_ 1 := andi main_v5 main_v17
  let main_v19 : FVec F S8x4x2x128 .f32 := (extf .f32 · bitsLt_bf16_f32) main_arg2
  let main_v20 : FVec F S8x4x2x128 .f32 := Host.absf main_v19
  let main_cst_6 : FVec F S_ .f32 := constant S_ .f32 0xFF800000#32
  let main_v21 : FVec F S8x4x2 .f32 := (fun x v => Host.reduce FloatOps.maximumf x v reducesTo_S8x4x2x128_S8x4x2_d3 h_S_) main_v20 main_cst_6
  let main_cst_7 : FVec F S_ .f32 := constant S_ .f32 0x00000000#32
  let main_v22 : FVec F S8x4x2 .f32 := broadcastInDim S8x4x2 ![] bcast_S_S8x4x2 main_cst_7
  let main_v23 : IVec S8x4x2 1 := cmpf .oeq main_v21 main_v22
  let main_cst_8 : FVec F S_ .f32 := constant S_ .f32 0x05000000#32
  let main_v24 : FVec F S8x4x2 .f32 := broadcastInDim S8x4x2 ![] bcast_S_S8x4x2 main_cst_8
  let main_v25 : IVec S8x4x2 1 := cmpf .oge main_v21 main_v24
  let main_cst_9 : FVec F S_ .f32 := constant S_ .f32 0x7F7F0000#32
  let main_v26 : FVec F S8x4x2 .f32 := broadcastInDim S8x4x2 ![] bcast_S_S8x4x2 main_cst_9
  let main_v27 : IVec S8x4x2 1 := cmpf .ole main_v21 main_v26
  let main_v28 : IVec S8x4x2 1 := andi main_v25 main_v27
  let main_v29 : IVec S8x4x2 1 := ori main_v23 main_v28
  let main_c_10 : IVec S_ 1 := constantI S_ 1 1#1
  let main_v30 : IVec S_ 1 := (fun x v => Host.reduce IntOp.andi x v reducesTo_S8x4x2_S_d0_1_2 h_S_) main_v29 main_c_10
  let main_v31 : IVec S_ 1 := andi main_v18 main_v30
  main_v31

def fn {F : FTy → Type} [FloatOps F] (main_arg0 : FVec F S8x4x16x128 .bf16) (main_arg1 : FVec F S8x4x2x128 .bf16) (main_arg2 : FVec F S8x4x2x128 .bf16) (main_arg3 : FVec F S8x131072x2x128 .fp8e4m3) (main_arg4 : FVec F S8x131072x2 .f32) (main_arg5 : FVec F S8x131072x2x128 .fp8e4m3) (main_arg6 : FVec F S8x131072x2 .f32) (main_arg7 : IVec S8 32) : IVec S_ 1 :=
  let main_c : IVec S_ 32 := constantI S_ 32 1024#32
  let main_v0 : IVec S8 32 := broadcastInDim S8 ![] bcast_S_S8 main_c
  let main_v1 : IVec S8 1 := cmpi .sge main_arg7 main_v0
  let main_c_0 : IVec S_ 32 := constantI S_ 32 131072#32
  let main_v2 : IVec S8 32 := broadcastInDim S8 ![] bcast_S_S8 main_c_0
  let main_v3 : IVec S8 1 := cmpi .sle main_arg7 main_v2
  let main_v4 : IVec S8 1 := andi main_v1 main_v3
  let main_c_1 : IVec S_ 1 := constantI S_ 1 1#1
  let main_v5 : IVec S_ 1 := (fun x v => Host.reduce IntOp.andi x v reducesTo_S8_S_d0 h_S_) main_v4 main_c_1
  let main_v6 : FVec F S8x4x2x128 .f32 := (extf .f32 · bitsLt_bf16_f32) main_arg1
  let main_v7 : FVec F S8x4x2x128 .f32 := Host.absf main_v6
  let main_cst : FVec F S_ .f32 := constant S_ .f32 0xFF800000#32
  let main_v8 : FVec F S8x4x2 .f32 := (fun x v => Host.reduce FloatOps.maximumf x v reducesTo_S8x4x2x128_S8x4x2_d3 h_S_) main_v7 main_cst
  let main_cst_2 : FVec F S_ .f32 := constant S_ .f32 0x00000000#32
  let main_v9 : FVec F S8x4x2 .f32 := broadcastInDim S8x4x2 ![] bcast_S_S8x4x2 main_cst_2
  let main_v10 : IVec S8x4x2 1 := cmpf .oeq main_v8 main_v9
  let main_cst_3 : FVec F S_ .f32 := constant S_ .f32 0x05000000#32
  let main_v11 : FVec F S8x4x2 .f32 := broadcastInDim S8x4x2 ![] bcast_S_S8x4x2 main_cst_3
  let main_v12 : IVec S8x4x2 1 := cmpf .oge main_v8 main_v11
  let main_cst_4 : FVec F S_ .f32 := constant S_ .f32 0x7F7F0000#32
  let main_v13 : FVec F S8x4x2 .f32 := broadcastInDim S8x4x2 ![] bcast_S_S8x4x2 main_cst_4
  let main_v14 : IVec S8x4x2 1 := cmpf .ole main_v8 main_v13
  let main_v15 : IVec S8x4x2 1 := andi main_v12 main_v14
  let main_v16 : IVec S8x4x2 1 := ori main_v10 main_v15
  fn_part1 (F := F) main_arg2 main_v5 main_v16
-- ==== Kernel.lean ====
abbrev S8x4x16x128 : Shape := ⟨4, ![8, 4, 16, 128]⟩
abbrev S8x4x2x128 : Shape := ⟨4, ![8, 4, 2, 128]⟩
abbrev S8x131072x2x128 : Shape := ⟨4, ![8, 131072, 2, 128]⟩
abbrev S8x131072x2 : Shape := ⟨3, ![8, 131072, 2]⟩
abbrev S8 : Shape := ⟨1, ![8]⟩
abbrev S8x64x128 : Shape := ⟨3, ![8, 64, 128]⟩
abbrev S64x128 : Shape := ⟨2, ![64, 128]⟩
abbrev S8x2x131072x128 : Shape := ⟨4, ![8, 2, 131072, 128]⟩
abbrev S8x2x131072 : Shape := ⟨3, ![8, 2, 131072]⟩
abbrev S8x8 : Shape := ⟨2, ![8, 8]⟩
abbrev S8x2x1088x128 : Shape := ⟨4, ![8, 2, 1088, 128]⟩
abbrev S8x2x1152 : Shape := ⟨3, ![8, 2, 1152]⟩
abbrev S16x4x128 : Shape := ⟨3, ![16, 4, 128]⟩
abbrev S4 : Shape := ⟨1, ![4]⟩
abbrev S1 : Shape := ⟨1, ![1]⟩
abbrev S_ : Shape := ⟨0, ![]⟩
abbrev S1x2x1152 : Shape := ⟨3, ![1, 2, 1152]⟩
abbrev S2x1152 : Shape := ⟨2, ![2, 1152]⟩
abbrev S1x2x1056x128 : Shape := ⟨4, ![1, 2, 1056, 128]⟩
abbrev S2x1056x128 : Shape := ⟨3, ![2, 1056, 128]⟩
abbrev S32x128 : Shape := ⟨2, ![32, 128]⟩
abbrev S32 : Shape := ⟨1, ![32]⟩
abbrev S32x1 : Shape := ⟨2, ![32, 1]⟩
abbrev S1x1x32x128 : Shape := ⟨4, ![1, 1, 32, 128]⟩
abbrev S8x4x128 : Shape := ⟨3, ![8, 4, 128]⟩
abbrev S128 : Shape := ⟨1, ![128]⟩
abbrev S1x128 : Shape := ⟨2, ![1, 128]⟩
abbrev S1x8 : Shape := ⟨2, ![1, 8]⟩
abbrev S8x128 : Shape := ⟨2, ![8, 128]⟩
abbrev S1x64x128 : Shape := ⟨3, ![1, 64, 128]⟩
abbrev S32x256 : Shape := ⟨2, ![32, 256]⟩
abbrev S64x256 : Shape := ⟨2, ![64, 256]⟩
abbrev S1x1024 : Shape := ⟨2, ![1, 1024]⟩
abbrev S1x64 : Shape := ⟨2, ![1, 64]⟩
abbrev S1x1x1088x128 : Shape := ⟨4, ![1, 1, 1088, 128]⟩
abbrev S1088x128 : Shape := ⟨2, ![1088, 128]⟩
abbrev S1088x256 : Shape := ⟨2, ![1088, 256]⟩
abbrev S64x1088 : Shape := ⟨2, ![64, 1088]⟩
abbrev S8x64 : Shape := ⟨2, ![8, 64]⟩
abbrev S8x1088 : Shape := ⟨2, ![8, 1088]⟩
abbrev S8x896 : Shape := ⟨2, ![8, 896]⟩
abbrev S1x896 : Shape := ⟨2, ![1, 896]⟩
abbrev S8x1 : Shape := ⟨2, ![8, 1]⟩
abbrev S8x1024 : Shape := ⟨2, ![8, 1024]⟩
abbrev S1x8x128 : Shape := ⟨3, ![1, 8, 128]⟩
abbrev S8x16x4x128 : Shape := ⟨4, ![8, 16, 4, 128]⟩
abbrev S8x4x2048 : Shape := ⟨3, ![8, 4, 2048]⟩
abbrev S8x2x4x128 : Shape := ⟨4, ![8, 2, 4, 128]⟩
abbrev S4x2x8 : Shape := ⟨3, ![4, 2, 8]⟩
abbrev S8x4x2 : Shape := ⟨3, ![8, 4, 2]⟩

abbrev nBuf : Space → Nat
  | .hbm => 31
  | .vmem => 14
  | .smem => 1
  | _ => 0

abbrev bufTy : (tb : Table) → Fin (tcTables nBuf tb) → BufTy
  | .hbm, ⟨0, _⟩ => ⟨S8x4x16x128, .bf16⟩
  | .hbm, ⟨1, _⟩ => ⟨S8x4x2x128, .bf16⟩
  | .hbm, ⟨2, _⟩ => ⟨S8x4x2x128, .bf16⟩
  | .hbm, ⟨3, _⟩ => ⟨S8x131072x2x128, .fp8e4m3⟩
  | .hbm, ⟨4, _⟩ => ⟨S8x131072x2, .f32⟩
  | .hbm, ⟨5, _⟩ => ⟨S8x131072x2x128, .fp8e4m3⟩
  | .hbm, ⟨6, _⟩ => ⟨S8x131072x2, .f32⟩
  | .hbm, ⟨7, _⟩ => ⟨S8, .i32⟩
  | .hbm, ⟨8, _⟩ => ⟨S8x64x128, .bf16⟩
  | .hbm, ⟨9, _⟩ => ⟨S64x128, .bf16⟩
  | .hbm, ⟨10, _⟩ => ⟨S64x128, .bf16⟩
  | .hbm, ⟨11, _⟩ => ⟨S8x2x131072x128, .fp8e4m3⟩
  | .hbm, ⟨12, _⟩ => ⟨S8x2x131072, .f32⟩
  | .hbm, ⟨13, _⟩ => ⟨S8x2x131072x128, .fp8e4m3⟩
  | .hbm, ⟨14, _⟩ => ⟨S8x2x131072, .f32⟩
  | .hbm, ⟨15, _⟩ => ⟨S8x64x128, .bf16⟩
  | .hbm, ⟨16, _⟩ => ⟨S64x128, .fp8e4m3⟩
  | .hbm, ⟨17, _⟩ => ⟨S8x8, .f32⟩
  | .hbm, ⟨18, _⟩ => ⟨S64x128, .fp8e4m3⟩
  | .hbm, ⟨19, _⟩ => ⟨S8x8, .f32⟩
  | .hbm, ⟨20, _⟩ => ⟨S8x16x4x128, .bf16⟩
  | .hbm, ⟨21, _⟩ => ⟨S8x4x16x128, .bf16⟩
  | .hbm, ⟨22, _⟩ => ⟨S8x4x2048, .bf16⟩
  | .hbm, ⟨23, _⟩ => ⟨S8x2x4x128, .fp8e4m3⟩
  | .hbm, ⟨24, _⟩ => ⟨S8x4x2x128, .fp8e4m3⟩
  | .hbm, ⟨25, _⟩ => ⟨S8x2x4x128, .fp8e4m3⟩
  | .hbm, ⟨26, _⟩ => ⟨S8x4x2x128, .fp8e4m3⟩
  | .hbm, ⟨27, _⟩ => ⟨S4x2x8, .f32⟩
  | .hbm, ⟨28, _⟩ => ⟨S8x4x2, .f32⟩
  | .hbm, ⟨29, _⟩ => ⟨S4x2x8, .f32⟩
  | .hbm, ⟨30, _⟩ => ⟨S8x4x2, .f32⟩
  | .local _ .vmem, ⟨0, _⟩ => ⟨S8x64x128, .bf16⟩
  | .local _ .vmem, ⟨1, _⟩ => ⟨S64x128, .bf16⟩
  | .local _ .vmem, ⟨2, _⟩ => ⟨S64x128, .bf16⟩
  | .local _ .vmem, ⟨3, _⟩ => ⟨S8x2x1088x128, .fp8e4m3⟩
  | .local _ .vmem, ⟨4, _⟩ => ⟨S8x2x1088x128, .fp8e4m3⟩
  | .local _ .vmem, ⟨5, _⟩ => ⟨S8x2x1152, .f32⟩
  | .local _ .vmem, ⟨6, _⟩ => ⟨S8x2x1152, .f32⟩
  | .local _ .vmem, ⟨7, _⟩ => ⟨S8x64x128, .f32⟩
  | .local _ .vmem, ⟨8, _⟩ => ⟨S8x64x128, .bf16⟩
  | .local _ .vmem, ⟨9, _⟩ => ⟨S64x128, .fp8e4m3⟩
  | .local _ .vmem, ⟨10, _⟩ => ⟨S8x8, .f32⟩
  | .local _ .vmem, ⟨11, _⟩ => ⟨S64x128, .fp8e4m3⟩
  | .local _ .vmem, ⟨12, _⟩ => ⟨S8x8, .f32⟩
  | .local _ .vmem, ⟨13, _⟩ => ⟨S16x4x128, .f32⟩
  | .local _ .smem, ⟨0, _⟩ => ⟨S8, .i32⟩
  | _, _ => ⟨S8x4x16x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev main_v7_2 : Ref sig .tc := ⟨.hbm, 17, rfl⟩
abbrev main_v7_3 : Ref sig .tc := ⟨.hbm, 18, rfl⟩
abbrev main_v7_4 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev cc0_scratch1 : Ref sig .tc := ⟨.vmem, 0, rfl⟩
abbrev cc0_scratch2 : Ref sig .tc := ⟨.vmem, 1, rfl⟩
abbrev cc0_scratch3 : Ref sig .tc := ⟨.vmem, 2, rfl⟩
abbrev cc0_scratch4 : Ref sig .tc := ⟨.vmem, 3, rfl⟩
abbrev cc0_scratch5 : Ref sig .tc := ⟨.vmem, 4, rfl⟩
abbrev cc0_scratch6 : Ref sig .tc := ⟨.vmem, 5, rfl⟩
abbrev cc0_scratch7 : Ref sig .tc := ⟨.vmem, 6, rfl⟩
abbrev cc0_scratch8 : Ref sig .tc := ⟨.vmem, 7, rfl⟩
abbrev cc0_scratch9 : Ref sig .tc := ⟨.vmem, 8, rfl⟩
abbrev cc0_scratch10 : Ref sig .tc := ⟨.vmem, 9, rfl⟩
abbrev cc0_scratch11 : Ref sig .tc := ⟨.vmem, 10, rfl⟩
abbrev cc0_scratch12 : Ref sig .tc := ⟨.vmem, 11, rfl⟩
abbrev cc0_scratch13 : Ref sig .tc := ⟨.vmem, 12, rfl⟩
abbrev cc0_scratch14 : Ref sig .tc := ⟨.vmem, 13, rfl⟩
abbrev cc0_scratch0 : Ref sig .tc := ⟨.smem, 0, rfl⟩

abbrev nD : Nat := 1
abbrev τ : Topo := Topo.v7x

variable {F : FTy → Type} [BitOps F]

abbrev grid0 : Pipeline.Grid := .none

def k0_mult1 (v10 : BitVec 32) : BitVec 32 :=
  let c130048_i32 : BitVec 32 := 130048#32
  let c0_i32_1 : BitVec 32 := 0#32
  let c1024_i32 : BitVec 32 := 1024#32
  let v11 : BitVec 32 := Scalar.subi v10 c1024_i32
  let v12 : BitVec 32 := Scalar.maxsi c0_i32_1 v11
  let v13 : BitVec 32 := Scalar.minsi c130048_i32 v12
  let c_m32_i32 : BitVec 32 := 4294967264#32
  let v14 : BitVec 32 := Scalar.andi v13 c_m32_i32
  let c130016_i32 : BitVec 32 := 130016#32
  let v15 : BitVec 32 := Scalar.minsi v14 c130016_i32
  v15

def k0_mult2 (v10 : BitVec 32) : BitVec 32 :=
  let c130048_i32 : BitVec 32 := 130048#32
  let c0_i32_1 : BitVec 32 := 0#32
  let c1024_i32 : BitVec 32 := 1024#32
  let v11 : BitVec 32 := Scalar.subi v10 c1024_i32
  let v12 : BitVec 32 := Scalar.maxsi c0_i32_1 v11
  let v13 : BitVec 32 := Scalar.minsi c130048_i32 v12
  let c_m32_i32 : BitVec 32 := 4294967264#32
  let v14 : BitVec 32 := Scalar.andi v13 c_m32_i32
  let c130016_i32 : BitVec 32 := 130016#32
  let v15 : BitVec 32 := Scalar.minsi v14 c130016_i32
  let v16 : BitVec 32 := v15
  let c_m128_i32 : BitVec 32 := 4294967168#32
  let v17 : BitVec 32 := Scalar.andi v16 c_m128_i32
  v17
def k0_off1 (v10 : BitVec 32) : Fin 3 → Nat :=
  let c0_i32_2 : BitVec 32 := 0#32
  let c0_i32_7 : BitVec 32 := 0#32
  let c130048_i32 : BitVec 32 := 130048#32
  let c0_i32_1 : BitVec 32 := 0#32
  let c1024_i32 : BitVec 32 := 1024#32
  let v11 : BitVec 32 := Scalar.subi v10 c1024_i32
  let v12 : BitVec 32 := Scalar.maxsi c0_i32_1 v11
  let v13 : BitVec 32 := Scalar.minsi c130048_i32 v12
  let c_m32_i32 : BitVec 32 := 4294967264#32
  let v14 : BitVec 32 := Scalar.andi v13 c_m32_i32
  let c130016_i32 : BitVec 32 := 130016#32
  let v15 : BitVec 32 := Scalar.minsi v14 c130016_i32
  let v16 : BitVec 32 := v15
  let c_m128_i32 : BitVec 32 := 4294967168#32
  let v17 : BitVec 32 := Scalar.andi v16 c_m128_i32
  let v18 : BitVec 32 := v17
  ![0, 0, v18.toNat]
def k0_off2 (v10 : BitVec 32) : Fin 4 → Nat :=
  let c0_i32_14 : BitVec 32 := 0#32
  let c0_i32_20 : BitVec 32 := 0#32
  let c130048_i32 : BitVec 32 := 130048#32
  let c0_i32_1 : BitVec 32 := 0#32
  let c1024_i32 : BitVec 32 := 1024#32
  let v11 : BitVec 32 := Scalar.subi v10 c1024_i32
  let v12 : BitVec 32 := Scalar.maxsi c0_i32_1 v11
  let v13 : BitVec 32 := Scalar.minsi c130048_i32 v12
  let c_m32_i32 : BitVec 32 := 4294967264#32
  let v14 : BitVec 32 := Scalar.andi v13 c_m32_i32
  let c130016_i32 : BitVec 32 := 130016#32
  let v15 : BitVec 32 := Scalar.minsi v14 c130016_i32
  let v16 : BitVec 32 := v15
  let c0_i32_21 : BitVec 32 := 0#32
  ![0, 0, v16.toNat, 0]
def k0_mult3 (v45 : BitVec 32) : BitVec 32 :=
  let c130048_i32_32 : BitVec 32 := 130048#32
  let c0_i32_31 : BitVec 32 := 0#32
  let c1024_i32_30 : BitVec 32 := 1024#32
  let v46 : BitVec 32 := Scalar.subi v45 c1024_i32_30
  let v47 : BitVec 32 := Scalar.maxsi c0_i32_31 v46
  let v48 : BitVec 32 := Scalar.minsi c130048_i32_32 v47
  let c_m32_i32_33 : BitVec 32 := 4294967264#32
  let v49 : BitVec 32 := Scalar.andi v48 c_m32_i32_33
  let c130016_i32_34 : BitVec 32 := 130016#32
  let v50 : BitVec 32 := Scalar.minsi v49 c130016_i32_34
  v50

def k0_mult4 (v45 : BitVec 32) : BitVec 32 :=
  let c130048_i32_32 : BitVec 32 := 130048#32
  let c0_i32_31 : BitVec 32 := 0#32
  let c1024_i32_30 : BitVec 32 := 1024#32
  let v46 : BitVec 32 := Scalar.subi v45 c1024_i32_30
  let v47 : BitVec 32 := Scalar.maxsi c0_i32_31 v46
  let v48 : BitVec 32 := Scalar.minsi c130048_i32_32 v47
  let c_m32_i32_33 : BitVec 32 := 4294967264#32
  let v49 : BitVec 32 := Scalar.andi v48 c_m32_i32_33
  let c130016_i32_34 : BitVec 32 := 130016#32
  let v50 : BitVec 32 := Scalar.minsi v49 c130016_i32_34
  let v51 : BitVec 32 := v50
  let c_m128_i32_35 : BitVec 32 := 4294967168#32
  let v52 : BitVec 32 := Scalar.andi v51 c_m128_i32_35
  v52
def k0_off3 (v45 : BitVec 32) : Fin 3 → Nat :=
  let c1_i32_36 : BitVec 32 := 1#32
  let c0_i32_41 : BitVec 32 := 0#32
  let c130048_i32_32 : BitVec 32 := 130048#32
  let c0_i32_31 : BitVec 32 := 0#32
  let c1024_i32_30 : BitVec 32 := 1024#32
  let v46 : BitVec 32 := Scalar.subi v45 c1024_i32_30
  let v47 : BitVec 32 := Scalar.maxsi c0_i32_31 v46
  let v48 : BitVec 32 := Scalar.minsi c130048_i32_32 v47
  let c_m32_i32_33 : BitVec 32 := 4294967264#32
  let v49 : BitVec 32 := Scalar.andi v48 c_m32_i32_33
  let c130016_i32_34 : BitVec 32 := 130016#32
  let v50 : BitVec 32 := Scalar.minsi v49 c130016_i32_34
  let v51 : BitVec 32 := v50
  let c_m128_i32_35 : BitVec 32 := 4294967168#32
  let v52 : BitVec 32 := Scalar.andi v51 c_m128_i32_35
  let v53 : BitVec 32 := v52
  ![1, 0, v53.toNat]
def k0_off4 (v45 : BitVec 32) : Fin 4 → Nat :=
  let c1_i32_48 : BitVec 32 := 1#32
  let c0_i32_54 : BitVec 32 := 0#32
  let c130048_i32_32 : BitVec 32 := 130048#32
  let c0_i32_31 : BitVec 32 := 0#32
  let c1024_i32_30 : BitVec 32 := 1024#32
  let v46 : BitVec 32 := Scalar.subi v45 c1024_i32_30
  let v47 : BitVec 32 := Scalar.maxsi c0_i32_31 v46
  let v48 : BitVec 32 := Scalar.minsi c130048_i32_32 v47
  let c_m32_i32_33 : BitVec 32 := 4294967264#32
  let v49 : BitVec 32 := Scalar.andi v48 c_m32_i32_33
  let c130016_i32_34 : BitVec 32 := 130016#32
  let v50 : BitVec 32 := Scalar.minsi v49 c130016_i32_34
  let v51 : BitVec 32 := v50
  let c0_i32_55 : BitVec 32 := 0#32
  ![1, 0, v51.toNat, 0]
def k0_mult5 (v80 : BitVec 32) : BitVec 32 :=
  let c130048_i32_66 : BitVec 32 := 130048#32
  let c0_i32_65 : BitVec 32 := 0#32
  let c1024_i32_64 : BitVec 32 := 1024#32
  let v81 : BitVec 32 := Scalar.subi v80 c1024_i32_64
  let v82 : BitVec 32 := Scalar.maxsi c0_i32_65 v81
  let v83 : BitVec 32 := Scalar.minsi c130048_i32_66 v82
  let c_m32_i32_67 : BitVec 32 := 4294967264#32
  let v84 : BitVec 32 := Scalar.andi v83 c_m32_i32_67
  let c130016_i32_68 : BitVec 32 := 130016#32
  let v85 : BitVec 32 := Scalar.minsi v84 c130016_i32_68
  v85

def k0_mult6 (v80 : BitVec 32) : BitVec 32 :=
  let c130048_i32_66 : BitVec 32 := 130048#32
  let c0_i32_65 : BitVec 32 := 0#32
  let c1024_i32_64 : BitVec 32 := 1024#32
  let v81 : BitVec 32 := Scalar.subi v80 c1024_i32_64
  let v82 : BitVec 32 := Scalar.maxsi c0_i32_65 v81
  let v83 : BitVec 32 := Scalar.minsi c130048_i32_66 v82
  let c_m32_i32_67 : BitVec 32 := 4294967264#32
  let v84 : BitVec 32 := Scalar.andi v83 c_m32_i32_67
  let c130016_i32_68 : BitVec 32 := 130016#32
  let v85 : BitVec 32 := Scalar.minsi v84 c130016_i32_68
  let v86 : BitVec 32 := v85
  let c_m128_i32_69 : BitVec 32 := 4294967168#32
  let v87 : BitVec 32 := Scalar.andi v86 c_m128_i32_69
  v87
def k0_off5 (v80 : BitVec 32) : Fin 3 → Nat :=
  let c2_i32_70 : BitVec 32 := 2#32
  let c0_i32_75 : BitVec 32 := 0#32
  let c130048_i32_66 : BitVec 32 := 130048#32
  let c0_i32_65 : BitVec 32 := 0#32
  let c1024_i32_64 : BitVec 32 := 1024#32
  let v81 : BitVec 32 := Scalar.subi v80 c1024_i32_64
  let v82 : BitVec 32 := Scalar.maxsi c0_i32_65 v81
  let v83 : BitVec 32 := Scalar.minsi c130048_i32_66 v82
  let c_m32_i32_67 : BitVec 32 := 4294967264#32
  let v84 : BitVec 32 := Scalar.andi v83 c_m32_i32_67
  let c130016_i32_68 : BitVec 32 := 130016#32
  let v85 : BitVec 32 := Scalar.minsi v84 c130016_i32_68
  let v86 : BitVec 32 := v85
  let c_m128_i32_69 : BitVec 32 := 4294967168#32
  let v87 : BitVec 32 := Scalar.andi v86 c_m128_i32_69
  let v88 : BitVec 32 := v87
  ![2, 0, v88.toNat]
def k0_off6 (v80 : BitVec 32) : Fin 4 → Nat :=
  let c2_i32_82 : BitVec 32 := 2#32
  let c0_i32_88 : BitVec 32 := 0#32
  let c130048_i32_66 : BitVec 32 := 130048#32
  let c0_i32_65 : BitVec 32 := 0#32
  let c1024_i32_64 : BitVec 32 := 1024#32
  let v81 : BitVec 32 := Scalar.subi v80 c1024_i32_64
  let v82 : BitVec 32 := Scalar.maxsi c0_i32_65 v81
  let v83 : BitVec 32 := Scalar.minsi c130048_i32_66 v82
  let c_m32_i32_67 : BitVec 32 := 4294967264#32
  let v84 : BitVec 32 := Scalar.andi v83 c_m32_i32_67
  let c130016_i32_68 : BitVec 32 := 130016#32
  let v85 : BitVec 32 := Scalar.minsi v84 c130016_i32_68
  let v86 : BitVec 32 := v85
  let c0_i32_89 : BitVec 32 := 0#32
  ![2, 0, v86.toNat, 0]
def k0_mult7 (v115 : BitVec 32) : BitVec 32 :=
  let c130048_i32_100 : BitVec 32 := 130048#32
  let c0_i32_99 : BitVec 32 := 0#32
  let c1024_i32_98 : BitVec 32 := 1024#32
  let v116 : BitVec 32 := Scalar.subi v115 c1024_i32_98
  let v117 : BitVec 32 := Scalar.maxsi c0_i32_99 v116
  let v118 : BitVec 32 := Scalar.minsi c130048_i32_100 v117
  let c_m32_i32_101 : BitVec 32 := 4294967264#32
  let v119 : BitVec 32 := Scalar.andi v118 c_m32_i32_101
  let c130016_i32_102 : BitVec 32 := 130016#32
  let v120 : BitVec 32 := Scalar.minsi v119 c130016_i32_102
  v120

def k0_mult8 (v115 : BitVec 32) : BitVec 32 :=
  let c130048_i32_100 : BitVec 32 := 130048#32
  let c0_i32_99 : BitVec 32 := 0#32
  let c1024_i32_98 : BitVec 32 := 1024#32
  let v116 : BitVec 32 := Scalar.subi v115 c1024_i32_98
  let v117 : BitVec 32 := Scalar.maxsi c0_i32_99 v116
  let v118 : BitVec 32 := Scalar.minsi c130048_i32_100 v117
  let c_m32_i32_101 : BitVec 32 := 4294967264#32
  let v119 : BitVec 32 := Scalar.andi v118 c_m32_i32_101
  let c130016_i32_102 : BitVec 32 := 130016#32
  let v120 : BitVec 32 := Scalar.minsi v119 c130016_i32_102
  let v121 : BitVec 32 := v120
  let c_m128_i32_103 : BitVec 32 := 4294967168#32
  let v122 : BitVec 32 := Scalar.andi v121 c_m128_i32_103
  v122
def k0_off7 (v115 : BitVec 32) : Fin 3 → Nat :=
  let c3_i32_104 : BitVec 32 := 3#32
  let c0_i32_109 : BitVec 32 := 0#32
  let c130048_i32_100 : BitVec 32 := 130048#32
  let c0_i32_99 : BitVec 32 := 0#32
  let c1024_i32_98 : BitVec 32 := 1024#32
  let v116 : BitVec 32 := Scalar.subi v115 c1024_i32_98
  let v117 : BitVec 32 := Scalar.maxsi c0_i32_99 v116
  let v118 : BitVec 32 := Scalar.minsi c130048_i32_100 v117
  let c_m32_i32_101 : BitVec 32 := 4294967264#32
  let v119 : BitVec 32 := Scalar.andi v118 c_m32_i32_101
  let c130016_i32_102 : BitVec 32 := 130016#32
  let v120 : BitVec 32 := Scalar.minsi v119 c130016_i32_102
  let v121 : BitVec 32 := v120
  let c_m128_i32_103 : BitVec 32 := 4294967168#32
  let v122 : BitVec 32 := Scalar.andi v121 c_m128_i32_103
  let v123 : BitVec 32 := v122
  ![3, 0, v123.toNat]
def k0_off8 (v115 : BitVec 32) : Fin 4 → Nat :=
  let c3_i32_116 : BitVec 32 := 3#32
  let c0_i32_122 : BitVec 32 := 0#32
  let c130048_i32_100 : BitVec 32 := 130048#32
  let c0_i32_99 : BitVec 32 := 0#32
  let c1024_i32_98 : BitVec 32 := 1024#32
  let v116 : BitVec 32 := Scalar.subi v115 c1024_i32_98
  let v117 : BitVec 32 := Scalar.maxsi c0_i32_99 v116
  let v118 : BitVec 32 := Scalar.minsi c130048_i32_100 v117
  let c_m32_i32_101 : BitVec 32 := 4294967264#32
  let v119 : BitVec 32 := Scalar.andi v118 c_m32_i32_101
  let c130016_i32_102 : BitVec 32 := 130016#32
  let v120 : BitVec 32 := Scalar.minsi v119 c130016_i32_102
  let v121 : BitVec 32 := v120
  let c0_i32_123 : BitVec 32 := 0#32
  ![3, 0, v121.toNat, 0]
def k0_mult9 (v150 : BitVec 32) : BitVec 32 :=
  let c130048_i32_134 : BitVec 32 := 130048#32
  let c0_i32_133 : BitVec 32 := 0#32
  let c1024_i32_132 : BitVec 32 := 1024#32
  let v151 : BitVec 32 := Scalar.subi v150 c1024_i32_132
  let v152 : BitVec 32 := Scalar.maxsi c0_i32_133 v151
  let v153 : BitVec 32 := Scalar.minsi c130048_i32_134 v152
  let c_m32_i32_135 : BitVec 32 := 4294967264#32
  let v154 : BitVec 32 := Scalar.andi v153 c_m32_i32_135
  let c130016_i32_136 : BitVec 32 := 130016#32
  let v155 : BitVec 32 := Scalar.minsi v154 c130016_i32_136
  v155

def k0_mult10 (v150 : BitVec 32) : BitVec 32 :=
  let c130048_i32_134 : BitVec 32 := 130048#32
  let c0_i32_133 : BitVec 32 := 0#32
  let c1024_i32_132 : BitVec 32 := 1024#32
  let v151 : BitVec 32 := Scalar.subi v150 c1024_i32_132
  let v152 : BitVec 32 := Scalar.maxsi c0_i32_133 v151
  let v153 : BitVec 32 := Scalar.minsi c130048_i32_134 v152
  let c_m32_i32_135 : BitVec 32 := 4294967264#32
  let v154 : BitVec 32 := Scalar.andi v153 c_m32_i32_135
  let c130016_i32_136 : BitVec 32 := 130016#32
  let v155 : BitVec 32 := Scalar.minsi v154 c130016_i32_136
  let v156 : BitVec 32 := v155
  let c_m128_i32_137 : BitVec 32 := 4294967168#32
  let v157 : BitVec 32 := Scalar.andi v156 c_m128_i32_137
  v157
def k0_off9 (v150 : BitVec 32) : Fin 3 → Nat :=
  let c4_i32 : BitVec 32 := 4#32
  let c0_i32_142 : BitVec 32 := 0#32
  let c130048_i32_134 : BitVec 32 := 130048#32
  let c0_i32_133 : BitVec 32 := 0#32
  let c1024_i32_132 : BitVec 32 := 1024#32
  let v151 : BitVec 32 := Scalar.subi v150 c1024_i32_132
  let v152 : BitVec 32 := Scalar.maxsi c0_i32_133 v151
  let v153 : BitVec 32 := Scalar.minsi c130048_i32_134 v152
  let c_m32_i32_135 : BitVec 32 := 4294967264#32
  let v154 : BitVec 32 := Scalar.andi v153 c_m32_i32_135
  let c130016_i32_136 : BitVec 32 := 130016#32
  let v155 : BitVec 32 := Scalar.minsi v154 c130016_i32_136
  let v156 : BitVec 32 := v155
  let c_m128_i32_137 : BitVec 32 := 4294967168#32
  let v157 : BitVec 32 := Scalar.andi v156 c_m128_i32_137
  let v158 : BitVec 32 := v157
  ![4, 0, v158.toNat]
def k0_off10 (v150 : BitVec 32) : Fin 4 → Nat :=
  let c4_i32_149 : BitVec 32 := 4#32
  let c0_i32_155 : BitVec 32 := 0#32
  let c130048_i32_134 : BitVec 32 := 130048#32
  let c0_i32_133 : BitVec 32 := 0#32
  let c1024_i32_132 : BitVec 32 := 1024#32
  let v151 : BitVec 32 := Scalar.subi v150 c1024_i32_132
  let v152 : BitVec 32 := Scalar.maxsi c0_i32_133 v151
  let v153 : BitVec 32 := Scalar.minsi c130048_i32_134 v152
  let c_m32_i32_135 : BitVec 32 := 4294967264#32
  let v154 : BitVec 32 := Scalar.andi v153 c_m32_i32_135
  let c130016_i32_136 : BitVec 32 := 130016#32
  let v155 : BitVec 32 := Scalar.minsi v154 c130016_i32_136
  let v156 : BitVec 32 := v155
  let c0_i32_156 : BitVec 32 := 0#32
  ![4, 0, v156.toNat, 0]
def k0_mult11 (v185 : BitVec 32) : BitVec 32 :=
  let c130048_i32_167 : BitVec 32 := 130048#32
  let c0_i32_166 : BitVec 32 := 0#32
  let c1024_i32_165 : BitVec 32 := 1024#32
  let v186 : BitVec 32 := Scalar.subi v185 c1024_i32_165
  let v187 : BitVec 32 := Scalar.maxsi c0_i32_166 v186
  let v188 : BitVec 32 := Scalar.minsi c130048_i32_167 v187
  let c_m32_i32_168 : BitVec 32 := 4294967264#32
  let v189 : BitVec 32 := Scalar.andi v188 c_m32_i32_168
  let c130016_i32_169 : BitVec 32 := 130016#32
  let v190 : BitVec 32 := Scalar.minsi v189 c130016_i32_169
  v190

def k0_mult12 (v185 : BitVec 32) : BitVec 32 :=
  let c130048_i32_167 : BitVec 32 := 130048#32
  let c0_i32_166 : BitVec 32 := 0#32
  let c1024_i32_165 : BitVec 32 := 1024#32
  let v186 : BitVec 32 := Scalar.subi v185 c1024_i32_165
  let v187 : BitVec 32 := Scalar.maxsi c0_i32_166 v186
  let v188 : BitVec 32 := Scalar.minsi c130048_i32_167 v187
  let c_m32_i32_168 : BitVec 32 := 4294967264#32
  let v189 : BitVec 32 := Scalar.andi v188 c_m32_i32_168
  let c130016_i32_169 : BitVec 32 := 130016#32
  let v190 : BitVec 32 := Scalar.minsi v189 c130016_i32_169
  let v191 : BitVec 32 := v190
  let c_m128_i32_170 : BitVec 32 := 4294967168#32
  let v192 : BitVec 32 := Scalar.andi v191 c_m128_i32_170
  v192
def k0_off11 (v185 : BitVec 32) : Fin 3 → Nat :=
  let c5_i32 : BitVec 32 := 5#32
  let c0_i32_175 : BitVec 32 := 0#32
  let c130048_i32_167 : BitVec 32 := 130048#32
  let c0_i32_166 : BitVec 32 := 0#32
  let c1024_i32_165 : BitVec 32 := 1024#32
  let v186 : BitVec 32 := Scalar.subi v185 c1024_i32_165
  let v187 : BitVec 32 := Scalar.maxsi c0_i32_166 v186
  let v188 : BitVec 32 := Scalar.minsi c130048_i32_167 v187
  let c_m32_i32_168 : BitVec 32 := 4294967264#32
  let v189 : BitVec 32 := Scalar.andi v188 c_m32_i32_168
  let c130016_i32_169 : BitVec 32 := 130016#32
  let v190 : BitVec 32 := Scalar.minsi v189 c130016_i32_169
  let v191 : BitVec 32 := v190
  let c_m128_i32_170 : BitVec 32 := 4294967168#32
  let v192 : BitVec 32 := Scalar.andi v191 c_m128_i32_170
  let v193 : BitVec 32 := v192
  ![5, 0, v193.toNat]
def k0_off12 (v185 : BitVec 32) : Fin 4 → Nat :=
  let c5_i32_182 : BitVec 32 := 5#32
  let c0_i32_188 : BitVec 32 := 0#32
  let c130048_i32_167 : BitVec 32 := 130048#32
  let c0_i32_166 : BitVec 32 := 0#32
  let c1024_i32_165 : BitVec 32 := 1024#32
  let v186 : BitVec 32 := Scalar.subi v185 c1024_i32_165
  let v187 : BitVec 32 := Scalar.maxsi c0_i32_166 v186
  let v188 : BitVec 32 := Scalar.minsi c130048_i32_167 v187
  let c_m32_i32_168 : BitVec 32 := 4294967264#32
  let v189 : BitVec 32 := Scalar.andi v188 c_m32_i32_168
  let c130016_i32_169 : BitVec 32 := 130016#32
  let v190 : BitVec 32 := Scalar.minsi v189 c130016_i32_169
  let v191 : BitVec 32 := v190
  let c0_i32_189 : BitVec 32 := 0#32
  ![5, 0, v191.toNat, 0]
def k0_mult13 (v220 : BitVec 32) : BitVec 32 :=
  let c130048_i32_200 : BitVec 32 := 130048#32
  let c0_i32_199 : BitVec 32 := 0#32
  let c1024_i32_198 : BitVec 32 := 1024#32
  let v221 : BitVec 32 := Scalar.subi v220 c1024_i32_198
  let v222 : BitVec 32 := Scalar.maxsi c0_i32_199 v221
  let v223 : BitVec 32 := Scalar.minsi c130048_i32_200 v222
  let c_m32_i32_201 : BitVec 32 := 4294967264#32
  let v224 : BitVec 32 := Scalar.andi v223 c_m32_i32_201
  let c130016_i32_202 : BitVec 32 := 130016#32
  let v225 : BitVec 32 := Scalar.minsi v224 c130016_i32_202
  v225

def k0_mult14 (v220 : BitVec 32) : BitVec 32 :=
  let c130048_i32_200 : BitVec 32 := 130048#32
  let c0_i32_199 : BitVec 32 := 0#32
  let c1024_i32_198 : BitVec 32 := 1024#32
  let v221 : BitVec 32 := Scalar.subi v220 c1024_i32_198
  let v222 : BitVec 32 := Scalar.maxsi c0_i32_199 v221
  let v223 : BitVec 32 := Scalar.minsi c130048_i32_200 v222
  let c_m32_i32_201 : BitVec 32 := 4294967264#32
  let v224 : BitVec 32 := Scalar.andi v223 c_m32_i32_201
  let c130016_i32_202 : BitVec 32 := 130016#32
  let v225 : BitVec 32 := Scalar.minsi v224 c130016_i32_202
  let v226 : BitVec 32 := v225
  let c_m128_i32_203 : BitVec 32 := 4294967168#32
  let v227 : BitVec 32 := Scalar.andi v226 c_m128_i32_203
  v227
def k0_off13 (v220 : BitVec 32) : Fin 3 → Nat :=
  let c6_i32 : BitVec 32 := 6#32
  let c0_i32_208 : BitVec 32 := 0#32
  let c130048_i32_200 : BitVec 32 := 130048#32
  let c0_i32_199 : BitVec 32 := 0#32
  let c1024_i32_198 : BitVec 32 := 1024#32
  let v221 : BitVec 32 := Scalar.subi v220 c1024_i32_198
  let v222 : BitVec 32 := Scalar.maxsi c0_i32_199 v221
  let v223 : BitVec 32 := Scalar.minsi c130048_i32_200 v222
  let c_m32_i32_201 : BitVec 32 := 4294967264#32
  let v224 : BitVec 32 := Scalar.andi v223 c_m32_i32_201
  let c130016_i32_202 : BitVec 32 := 130016#32
  let v225 : BitVec 32 := Scalar.minsi v224 c130016_i32_202
  let v226 : BitVec 32 := v225
  let c_m128_i32_203 : BitVec 32 := 4294967168#32
  let v227 : BitVec 32 := Scalar.andi v226 c_m128_i32_203
  let v228 : BitVec 32 := v227
  ![6, 0, v228.toNat]
def k0_off14 (v220 : BitVec 32) : Fin 4 → Nat :=
  let c6_i32_215 : BitVec 32 := 6#32
  let c0_i32_221 : BitVec 32 := 0#32
  let c130048_i32_200 : BitVec 32 := 130048#32
  let c0_i32_199 : BitVec 32 := 0#32
  let c1024_i32_198 : BitVec 32 := 1024#32
  let v221 : BitVec 32 := Scalar.subi v220 c1024_i32_198
  let v222 : BitVec 32 := Scalar.maxsi c0_i32_199 v221
  let v223 : BitVec 32 := Scalar.minsi c130048_i32_200 v222
  let c_m32_i32_201 : BitVec 32 := 4294967264#32
  let v224 : BitVec 32 := Scalar.andi v223 c_m32_i32_201
  let c130016_i32_202 : BitVec 32 := 130016#32
  let v225 : BitVec 32 := Scalar.minsi v224 c130016_i32_202
  let v226 : BitVec 32 := v225
  let c0_i32_222 : BitVec 32 := 0#32
  ![6, 0, v226.toNat, 0]
def k0_mult15 (v255 : BitVec 32) : BitVec 32 :=
  let c130048_i32_233 : BitVec 32 := 130048#32
  let c0_i32_232 : BitVec 32 := 0#32
  let c1024_i32_231 : BitVec 32 := 1024#32
  let v256 : BitVec 32 := Scalar.subi v255 c1024_i32_231
  let v257 : BitVec 32 := Scalar.maxsi c0_i32_232 v256
  let v258 : BitVec 32 := Scalar.minsi c130048_i32_233 v257
  let c_m32_i32_234 : BitVec 32 := 4294967264#32
  let v259 : BitVec 32 := Scalar.andi v258 c_m32_i32_234
  let c130016_i32_235 : BitVec 32 := 130016#32
  let v260 : BitVec 32 := Scalar.minsi v259 c130016_i32_235
  v260

def k0_mult16 (v255 : BitVec 32) : BitVec 32 :=
  let c130048_i32_233 : BitVec 32 := 130048#32
  let c0_i32_232 : BitVec 32 := 0#32
  let c1024_i32_231 : BitVec 32 := 1024#32
  let v256 : BitVec 32 := Scalar.subi v255 c1024_i32_231
  let v257 : BitVec 32 := Scalar.maxsi c0_i32_232 v256
  let v258 : BitVec 32 := Scalar.minsi c130048_i32_233 v257
  let c_m32_i32_234 : BitVec 32 := 4294967264#32
  let v259 : BitVec 32 := Scalar.andi v258 c_m32_i32_234
  let c130016_i32_235 : BitVec 32 := 130016#32
  let v260 : BitVec 32 := Scalar.minsi v259 c130016_i32_235
  let v261 : BitVec 32 := v260
  let c_m128_i32_236 : BitVec 32 := 4294967168#32
  let v262 : BitVec 32 := Scalar.andi v261 c_m128_i32_236
  v262
def k0_off15 (v255 : BitVec 32) : Fin 3 → Nat :=
  let c7_i32 : BitVec 32 := 7#32
  let c0_i32_241 : BitVec 32 := 0#32
  let c130048_i32_233 : BitVec 32 := 130048#32
  let c0_i32_232 : BitVec 32 := 0#32
  let c1024_i32_231 : BitVec 32 := 1024#32
  let v256 : BitVec 32 := Scalar.subi v255 c1024_i32_231
  let v257 : BitVec 32 := Scalar.maxsi c0_i32_232 v256
  let v258 : BitVec 32 := Scalar.minsi c130048_i32_233 v257
  let c_m32_i32_234 : BitVec 32 := 4294967264#32
  let v259 : BitVec 32 := Scalar.andi v258 c_m32_i32_234
  let c130016_i32_235 : BitVec 32 := 130016#32
  let v260 : BitVec 32 := Scalar.minsi v259 c130016_i32_235
  let v261 : BitVec 32 := v260
  let c_m128_i32_236 : BitVec 32 := 4294967168#32
  let v262 : BitVec 32 := Scalar.andi v261 c_m128_i32_236
  let v263 : BitVec 32 := v262
  ![7, 0, v263.toNat]
def k0_off16 (v255 : BitVec 32) : Fin 4 → Nat :=
  let c7_i32_248 : BitVec 32 := 7#32
  let c0_i32_254 : BitVec 32 := 0#32
  let c130048_i32_233 : BitVec 32 := 130048#32
  let c0_i32_232 : BitVec 32 := 0#32
  let c1024_i32_231 : BitVec 32 := 1024#32
  let v256 : BitVec 32 := Scalar.subi v255 c1024_i32_231
  let v257 : BitVec 32 := Scalar.maxsi c0_i32_232 v256
  let v258 : BitVec 32 := Scalar.minsi c130048_i32_233 v257
  let c_m32_i32_234 : BitVec 32 := 4294967264#32
  let v259 : BitVec 32 := Scalar.andi v258 c_m32_i32_234
  let c130016_i32_235 : BitVec 32 := 130016#32
  let v260 : BitVec 32 := Scalar.minsi v259 c130016_i32_235
  let v261 : BitVec 32 := v260
  let c0_i32_255 : BitVec 32 := 0#32
  ![7, 0, v261.toNat, 0]

def k0_chk8 (v255 : BitVec 32) : Prop :=
  (32 ∣ (k0_mult15 v255).toNat) ∧
  (128 ∣ (k0_mult16 v255).toNat) ∧
  (∀ a, (k0_off15 v255) a + S1x2x1152.size a ≤ S8x2x131072.size a) ∧
  (∀ a, (k0_off16 v255) a + S1x2x1056x128.size a ≤ S8x2x131072x128.size a) ∧
  (∀ (hinb : ∀ a, (k0_off16 v255) a + S1x2x1056x128.size a ≤ S8x2x131072x128.size a), (Rect.unit (s := S8x2x131072x128) (k0_off16 v255) S1x2x1056x128.size hinb).WholeWords (EltTy.packing .fp8e4m3))
theorem k0_mult15_dvd : ∀ (v255 : BitVec 32) (k0_hw8 : k0_chk8 v255), 32 ∣ (k0_mult15 v255).toNat := fun v255 k0_hw8 => k0_hw8.1
theorem k0_mult16_dvd : ∀ (v255 : BitVec 32) (k0_hw8 : k0_chk8 v255), 128 ∣ (k0_mult16 v255).toNat := fun v255 k0_hw8 => k0_hw8.2.1
theorem k0_off15_inb : ∀ (v255 : BitVec 32) (k0_hw8 : k0_chk8 v255), ∀ a, (k0_off15 v255) a + S1x2x1152.size a ≤ S8x2x131072.size a := fun v255 k0_hw8 => k0_hw8.2.2.1
theorem k0_off16_inb : ∀ (v255 : BitVec 32) (k0_hw8 : k0_chk8 v255), ∀ a, (k0_off16 v255) a + S1x2x1056x128.size a ≤ S8x2x131072x128.size a := fun v255 k0_hw8 => k0_hw8.2.2.2.1
theorem k0_off16_wordsfp8e4m3 : ∀ (v255 : BitVec 32) (k0_hw8 : k0_chk8 v255), (Rect.unit (s := S8x2x131072x128) (k0_off16 v255) S1x2x1056x128.size (k0_off16_inb v255 k0_hw8)).WholeWords (EltTy.packing .fp8e4m3) := fun v255 k0_hw8 => k0_hw8.2.2.2.2 (k0_off16_inb v255 k0_hw8)

def k0_off17 (v10 : BitVec 32) : Fin 3 → Nat :=
  let c0_i32_609 : BitVec 32 := 0#32
  let c0_i32_614 : BitVec 32 := 0#32
  let c130048_i32 : BitVec 32 := 130048#32
  let c0_i32_1 : BitVec 32 := 0#32
  let c1024_i32 : BitVec 32 := 1024#32
  let v11 : BitVec 32 := Scalar.subi v10 c1024_i32
  let v12 : BitVec 32 := Scalar.maxsi c0_i32_1 v11
  let v13 : BitVec 32 := Scalar.minsi c130048_i32 v12
  let c_m32_i32 : BitVec 32 := 4294967264#32
  let v14 : BitVec 32 := Scalar.andi v13 c_m32_i32
  let c130016_i32 : BitVec 32 := 130016#32
  let v15 : BitVec 32 := Scalar.minsi v14 c130016_i32
  let v16 : BitVec 32 := v15
  let c_m128_i32 : BitVec 32 := 4294967168#32
  let v17 : BitVec 32 := Scalar.andi v16 c_m128_i32
  let v18 : BitVec 32 := v17
  ![0, 0, v18.toNat]
def k0_off18 (v10 : BitVec 32) : Fin 4 → Nat :=
  let c0_i32_645 : BitVec 32 := 0#32
  let c0_i32_651 : BitVec 32 := 0#32
  let c130048_i32 : BitVec 32 := 130048#32
  let c0_i32_1 : BitVec 32 := 0#32
  let c1024_i32 : BitVec 32 := 1024#32
  let v11 : BitVec 32 := Scalar.subi v10 c1024_i32
  let v12 : BitVec 32 := Scalar.maxsi c0_i32_1 v11
  let v13 : BitVec 32 := Scalar.minsi c130048_i32 v12
  let c_m32_i32 : BitVec 32 := 4294967264#32
  let v14 : BitVec 32 := Scalar.andi v13 c_m32_i32
  let c130016_i32 : BitVec 32 := 130016#32
  let v15 : BitVec 32 := Scalar.minsi v14 c130016_i32
  let v16 : BitVec 32 := v15
  let c0_i32_652 : BitVec 32 := 0#32
  ![0, 0, v16.toNat, 0]

def k0_chk1 (v10 : BitVec 32) : Prop :=
  (32 ∣ (k0_mult1 v10).toNat) ∧
  (128 ∣ (k0_mult2 v10).toNat) ∧
  (∀ a, (k0_off1 v10) a + S1x2x1152.size a ≤ S8x2x131072.size a) ∧
  (∀ a, (k0_off2 v10) a + S1x2x1056x128.size a ≤ S8x2x131072x128.size a) ∧
  (∀ (hinb : ∀ a, (k0_off2 v10) a + S1x2x1056x128.size a ≤ S8x2x131072x128.size a), (Rect.unit (s := S8x2x131072x128) (k0_off2 v10) S1x2x1056x128.size hinb).WholeWords (EltTy.packing .fp8e4m3)) ∧
  (∀ a, (k0_off17 v10) a + S1x2x1152.size a ≤ S8x2x131072.size a) ∧
  (∀ a, (k0_off18 v10) a + S1x2x1056x128.size a ≤ S8x2x131072x128.size a) ∧
  (∀ (hinb : ∀ a, (k0_off18 v10) a + S1x2x1056x128.size a ≤ S8x2x131072x128.size a), (Rect.unit (s := S8x2x131072x128) (k0_off18 v10) S1x2x1056x128.size hinb).WholeWords (EltTy.packing .fp8e4m3))
theorem k0_mult1_dvd : ∀ (v10 : BitVec 32) (k0_hw1 : k0_chk1 v10), 32 ∣ (k0_mult1 v10).toNat := fun v10 k0_hw1 => k0_hw1.1
theorem k0_mult2_dvd : ∀ (v10 : BitVec 32) (k0_hw1 : k0_chk1 v10), 128 ∣ (k0_mult2 v10).toNat := fun v10 k0_hw1 => k0_hw1.2.1
theorem k0_off1_inb : ∀ (v10 : BitVec 32) (k0_hw1 : k0_chk1 v10), ∀ a, (k0_off1 v10) a + S1x2x1152.size a ≤ S8x2x131072.size a := fun v10 k0_hw1 => k0_hw1.2.2.1
theorem k0_off2_inb : ∀ (v10 : BitVec 32) (k0_hw1 : k0_chk1 v10), ∀ a, (k0_off2 v10) a + S1x2x1056x128.size a ≤ S8x2x131072x128.size a := fun v10 k0_hw1 => k0_hw1.2.2.2.1
theorem k0_off2_wordsfp8e4m3 : ∀ (v10 : BitVec 32) (k0_hw1 : k0_chk1 v10), (Rect.unit (s := S8x2x131072x128) (k0_off2 v10) S1x2x1056x128.size (k0_off2_inb v10 k0_hw1)).WholeWords (EltTy.packing .fp8e4m3) := fun v10 k0_hw1 => k0_hw1.2.2.2.2.1 (k0_off2_inb v10 k0_hw1)
theorem k0_off17_inb : ∀ (v10 : BitVec 32) (k0_hw1 : k0_chk1 v10), ∀ a, (k0_off17 v10) a + S1x2x1152.size a ≤ S8x2x131072.size a := fun v10 k0_hw1 => k0_hw1.2.2.2.2.2.1
theorem k0_off18_inb : ∀ (v10 : BitVec 32) (k0_hw1 : k0_chk1 v10), ∀ a, (k0_off18 v10) a + S1x2x1056x128.size a ≤ S8x2x131072x128.size a := fun v10 k0_hw1 => k0_hw1.2.2.2.2.2.2.1
theorem k0_off18_wordsfp8e4m3 : ∀ (v10 : BitVec 32) (k0_hw1 : k0_chk1 v10), (Rect.unit (s := S8x2x131072x128) (k0_off18 v10) S1x2x1056x128.size (k0_off18_inb v10 k0_hw1)).WholeWords (EltTy.packing .fp8e4m3) := fun v10 k0_hw1 => k0_hw1.2.2.2.2.2.2.2 (k0_off18_inb v10 k0_hw1)

def k0_off19 (v45 : BitVec 32) : Fin 3 → Nat :=
  let c1_i32_789 : BitVec 32 := 1#32
  let c0_i32_794 : BitVec 32 := 0#32
  let c130048_i32_32 : BitVec 32 := 130048#32
  let c0_i32_31 : BitVec 32 := 0#32
  let c1024_i32_30 : BitVec 32 := 1024#32
  let v46 : BitVec 32 := Scalar.subi v45 c1024_i32_30
  let v47 : BitVec 32 := Scalar.maxsi c0_i32_31 v46
  let v48 : BitVec 32 := Scalar.minsi c130048_i32_32 v47
  let c_m32_i32_33 : BitVec 32 := 4294967264#32
  let v49 : BitVec 32 := Scalar.andi v48 c_m32_i32_33
  let c130016_i32_34 : BitVec 32 := 130016#32
  let v50 : BitVec 32 := Scalar.minsi v49 c130016_i32_34
  let v51 : BitVec 32 := v50
  let c_m128_i32_35 : BitVec 32 := 4294967168#32
  let v52 : BitVec 32 := Scalar.andi v51 c_m128_i32_35
  let v53 : BitVec 32 := v52
  ![1, 0, v53.toNat]
def k0_off20 (v45 : BitVec 32) : Fin 4 → Nat :=
  let c1_i32_826 : BitVec 32 := 1#32
  let c0_i32_832 : BitVec 32 := 0#32
  let c130048_i32_32 : BitVec 32 := 130048#32
  let c0_i32_31 : BitVec 32 := 0#32
  let c1024_i32_30 : BitVec 32 := 1024#32
  let v46 : BitVec 32 := Scalar.subi v45 c1024_i32_30
  let v47 : BitVec 32 := Scalar.maxsi c0_i32_31 v46
  let v48 : BitVec 32 := Scalar.minsi c130048_i32_32 v47
  let c_m32_i32_33 : BitVec 32 := 4294967264#32
  let v49 : BitVec 32 := Scalar.andi v48 c_m32_i32_33
  let c130016_i32_34 : BitVec 32 := 130016#32
  let v50 : BitVec 32 := Scalar.minsi v49 c130016_i32_34
  let v51 : BitVec 32 := v50
  let c0_i32_833 : BitVec 32 := 0#32
  ![1, 0, v51.toNat, 0]

def k0_chk2 (v45 : BitVec 32) : Prop :=
  (32 ∣ (k0_mult3 v45).toNat) ∧
  (128 ∣ (k0_mult4 v45).toNat) ∧
  (∀ a, (k0_off3 v45) a + S1x2x1152.size a ≤ S8x2x131072.size a) ∧
  (∀ a, (k0_off4 v45) a + S1x2x1056x128.size a ≤ S8x2x131072x128.size a) ∧
  (∀ (hinb : ∀ a, (k0_off4 v45) a + S1x2x1056x128.size a ≤ S8x2x131072x128.size a), (Rect.unit (s := S8x2x131072x128) (k0_off4 v45) S1x2x1056x128.size hinb).WholeWords (EltTy.packing .fp8e4m3)) ∧
  (∀ a, (k0_off19 v45) a + S1x2x1152.size a ≤ S8x2x131072.size a) ∧
  (∀ a, (k0_off20 v45) a + S1x2x1056x128.size a ≤ S8x2x131072x128.size a) ∧
  (∀ (hinb : ∀ a, (k0_off20 v45) a + S1x2x1056x128.size a ≤ S8x2x131072x128.size a), (Rect.unit (s := S8x2x131072x128) (k0_off20 v45) S1x2x1056x128.size hinb).WholeWords (EltTy.packing .fp8e4m3))
theorem k0_mult3_dvd : ∀ (v45 : BitVec 32) (k0_hw2 : k0_chk2 v45), 32 ∣ (k0_mult3 v45).toNat := fun v45 k0_hw2 => k0_hw2.1
theorem k0_mult4_dvd : ∀ (v45 : BitVec 32) (k0_hw2 : k0_chk2 v45), 128 ∣ (k0_mult4 v45).toNat := fun v45 k0_hw2 => k0_hw2.2.1
theorem k0_off3_inb : ∀ (v45 : BitVec 32) (k0_hw2 : k0_chk2 v45), ∀ a, (k0_off3 v45) a + S1x2x1152.size a ≤ S8x2x131072.size a := fun v45 k0_hw2 => k0_hw2.2.2.1
theorem k0_off4_inb : ∀ (v45 : BitVec 32) (k0_hw2 : k0_chk2 v45), ∀ a, (k0_off4 v45) a + S1x2x1056x128.size a ≤ S8x2x131072x128.size a := fun v45 k0_hw2 => k0_hw2.2.2.2.1
theorem k0_off4_wordsfp8e4m3 : ∀ (v45 : BitVec 32) (k0_hw2 : k0_chk2 v45), (Rect.unit (s := S8x2x131072x128) (k0_off4 v45) S1x2x1056x128.size (k0_off4_inb v45 k0_hw2)).WholeWords (EltTy.packing .fp8e4m3) := fun v45 k0_hw2 => k0_hw2.2.2.2.2.1 (k0_off4_inb v45 k0_hw2)
theorem k0_off19_inb : ∀ (v45 : BitVec 32) (k0_hw2 : k0_chk2 v45), ∀ a, (k0_off19 v45) a + S1x2x1152.size a ≤ S8x2x131072.size a := fun v45 k0_hw2 => k0_hw2.2.2.2.2.2.1
theorem k0_off20_inb : ∀ (v45 : BitVec 32) (k0_hw2 : k0_chk2 v45), ∀ a, (k0_off20 v45) a + S1x2x1056x128.size a ≤ S8x2x131072x128.size a := fun v45 k0_hw2 => k0_hw2.2.2.2.2.2.2.1
theorem k0_off20_wordsfp8e4m3 : ∀ (v45 : BitVec 32) (k0_hw2 : k0_chk2 v45), (Rect.unit (s := S8x2x131072x128) (k0_off20 v45) S1x2x1056x128.size (k0_off20_inb v45 k0_hw2)).WholeWords (EltTy.packing .fp8e4m3) := fun v45 k0_hw2 => k0_hw2.2.2.2.2.2.2.2 (k0_off20_inb v45 k0_hw2)

def k0_off21 (v80 : BitVec 32) : Fin 3 → Nat :=
  let c2_i32_973 : BitVec 32 := 2#32
  let c0_i32_978 : BitVec 32 := 0#32
  let c130048_i32_66 : BitVec 32 := 130048#32
  let c0_i32_65 : BitVec 32 := 0#32
  let c1024_i32_64 : BitVec 32 := 1024#32
  let v81 : BitVec 32 := Scalar.subi v80 c1024_i32_64
  let v82 : BitVec 32 := Scalar.maxsi c0_i32_65 v81
  let v83 : BitVec 32 := Scalar.minsi c130048_i32_66 v82
  let c_m32_i32_67 : BitVec 32 := 4294967264#32
  let v84 : BitVec 32 := Scalar.andi v83 c_m32_i32_67
  let c130016_i32_68 : BitVec 32 := 130016#32
  let v85 : BitVec 32 := Scalar.minsi v84 c130016_i32_68
  let v86 : BitVec 32 := v85
  let c_m128_i32_69 : BitVec 32 := 4294967168#32
  let v87 : BitVec 32 := Scalar.andi v86 c_m128_i32_69
  let v88 : BitVec 32 := v87
  ![2, 0, v88.toNat]
def k0_off22 (v80 : BitVec 32) : Fin 4 → Nat :=
  let c2_i32_1010 : BitVec 32 := 2#32
  let c0_i32_1016 : BitVec 32 := 0#32
  let c130048_i32_66 : BitVec 32 := 130048#32
  let c0_i32_65 : BitVec 32 := 0#32
  let c1024_i32_64 : BitVec 32 := 1024#32
  let v81 : BitVec 32 := Scalar.subi v80 c1024_i32_64
  let v82 : BitVec 32 := Scalar.maxsi c0_i32_65 v81
  let v83 : BitVec 32 := Scalar.minsi c130048_i32_66 v82
  let c_m32_i32_67 : BitVec 32 := 4294967264#32
  let v84 : BitVec 32 := Scalar.andi v83 c_m32_i32_67
  let c130016_i32_68 : BitVec 32 := 130016#32
  let v85 : BitVec 32 := Scalar.minsi v84 c130016_i32_68
  let v86 : BitVec 32 := v85
  let c0_i32_1017 : BitVec 32 := 0#32
  ![2, 0, v86.toNat, 0]

def k0_chk3 (v80 : BitVec 32) : Prop :=
  (32 ∣ (k0_mult5 v80).toNat) ∧
  (128 ∣ (k0_mult6 v80).toNat) ∧
  (∀ a, (k0_off5 v80) a + S1x2x1152.size a ≤ S8x2x131072.size a) ∧
  (∀ a, (k0_off6 v80) a + S1x2x1056x128.size a ≤ S8x2x131072x128.size a) ∧
  (∀ (hinb : ∀ a, (k0_off6 v80) a + S1x2x1056x128.size a ≤ S8x2x131072x128.size a), (Rect.unit (s := S8x2x131072x128) (k0_off6 v80) S1x2x1056x128.size hinb).WholeWords (EltTy.packing .fp8e4m3)) ∧
  (∀ a, (k0_off21 v80) a + S1x2x1152.size a ≤ S8x2x131072.size a) ∧
  (∀ a, (k0_off22 v80) a + S1x2x1056x128.size a ≤ S8x2x131072x128.size a) ∧
  (∀ (hinb : ∀ a, (k0_off22 v80) a + S1x2x1056x128.size a ≤ S8x2x131072x128.size a), (Rect.unit (s := S8x2x131072x128) (k0_off22 v80) S1x2x1056x128.size hinb).WholeWords (EltTy.packing .fp8e4m3))
theorem k0_mult5_dvd : ∀ (v80 : BitVec 32) (k0_hw3 : k0_chk3 v80), 32 ∣ (k0_mult5 v80).toNat := fun v80 k0_hw3 => k0_hw3.1
theorem k0_mult6_dvd : ∀ (v80 : BitVec 32) (k0_hw3 : k0_chk3 v80), 128 ∣ (k0_mult6 v80).toNat := fun v80 k0_hw3 => k0_hw3.2.1
theorem k0_off5_inb : ∀ (v80 : BitVec 32) (k0_hw3 : k0_chk3 v80), ∀ a, (k0_off5 v80) a + S1x2x1152.size a ≤ S8x2x131072.size a := fun v80 k0_hw3 => k0_hw3.2.2.1
theorem k0_off6_inb : ∀ (v80 : BitVec 32) (k0_hw3 : k0_chk3 v80), ∀ a, (k0_off6 v80) a + S1x2x1056x128.size a ≤ S8x2x131072x128.size a := fun v80 k0_hw3 => k0_hw3.2.2.2.1
theorem k0_off6_wordsfp8e4m3 : ∀ (v80 : BitVec 32) (k0_hw3 : k0_chk3 v80), (Rect.unit (s := S8x2x131072x128) (k0_off6 v80) S1x2x1056x128.size (k0_off6_inb v80 k0_hw3)).WholeWords (EltTy.packing .fp8e4m3) := fun v80 k0_hw3 => k0_hw3.2.2.2.2.1 (k0_off6_inb v80 k0_hw3)
theorem k0_off21_inb : ∀ (v80 : BitVec 32) (k0_hw3 : k0_chk3 v80), ∀ a, (k0_off21 v80) a + S1x2x1152.size a ≤ S8x2x131072.size a := fun v80 k0_hw3 => k0_hw3.2.2.2.2.2.1
theorem k0_off22_inb : ∀ (v80 : BitVec 32) (k0_hw3 : k0_chk3 v80), ∀ a, (k0_off22 v80) a + S1x2x1056x128.size a ≤ S8x2x131072x128.size a := fun v80 k0_hw3 => k0_hw3.2.2.2.2.2.2.1
theorem k0_off22_wordsfp8e4m3 : ∀ (v80 : BitVec 32) (k0_hw3 : k0_chk3 v80), (Rect.unit (s := S8x2x131072x128) (k0_off22 v80) S1x2x1056x128.size (k0_off22_inb v80 k0_hw3)).WholeWords (EltTy.packing .fp8e4m3) := fun v80 k0_hw3 => k0_hw3.2.2.2.2.2.2.2 (k0_off22_inb v80 k0_hw3)

def k0_off23 (v115 : BitVec 32) : Fin 3 → Nat :=
  let c3_i32_1157 : BitVec 32 := 3#32
  let c0_i32_1162 : BitVec 32 := 0#32
  let c130048_i32_100 : BitVec 32 := 130048#32
  let c0_i32_99 : BitVec 32 := 0#32
  let c1024_i32_98 : BitVec 32 := 1024#32
  let v116 : BitVec 32 := Scalar.subi v115 c1024_i32_98
  let v117 : BitVec 32 := Scalar.maxsi c0_i32_99 v116
  let v118 : BitVec 32 := Scalar.minsi c130048_i32_100 v117
  let c_m32_i32_101 : BitVec 32 := 4294967264#32
  let v119 : BitVec 32 := Scalar.andi v118 c_m32_i32_101
  let c130016_i32_102 : BitVec 32 := 130016#32
  let v120 : BitVec 32 := Scalar.minsi v119 c130016_i32_102
  let v121 : BitVec 32 := v120
  let c_m128_i32_103 : BitVec 32 := 4294967168#32
  let v122 : BitVec 32 := Scalar.andi v121 c_m128_i32_103
  let v123 : BitVec 32 := v122
  ![3, 0, v123.toNat]
def k0_off24 (v115 : BitVec 32) : Fin 4 → Nat :=
  let c3_i32_1194 : BitVec 32 := 3#32
  let c0_i32_1200 : BitVec 32 := 0#32
  let c130048_i32_100 : BitVec 32 := 130048#32
  let c0_i32_99 : BitVec 32 := 0#32
  let c1024_i32_98 : BitVec 32 := 1024#32
  let v116 : BitVec 32 := Scalar.subi v115 c1024_i32_98
  let v117 : BitVec 32 := Scalar.maxsi c0_i32_99 v116
  let v118 : BitVec 32 := Scalar.minsi c130048_i32_100 v117
  let c_m32_i32_101 : BitVec 32 := 4294967264#32
  let v119 : BitVec 32 := Scalar.andi v118 c_m32_i32_101
  let c130016_i32_102 : BitVec 32 := 130016#32
  let v120 : BitVec 32 := Scalar.minsi v119 c130016_i32_102
  let v121 : BitVec 32 := v120
  let c0_i32_1201 : BitVec 32 := 0#32
  ![3, 0, v121.toNat, 0]

def k0_chk4 (v115 : BitVec 32) : Prop :=
  (32 ∣ (k0_mult7 v115).toNat) ∧
  (128 ∣ (k0_mult8 v115).toNat) ∧
  (∀ a, (k0_off7 v115) a + S1x2x1152.size a ≤ S8x2x131072.size a) ∧
  (∀ a, (k0_off8 v115) a + S1x2x1056x128.size a ≤ S8x2x131072x128.size a) ∧
  (∀ (hinb : ∀ a, (k0_off8 v115) a + S1x2x1056x128.size a ≤ S8x2x131072x128.size a), (Rect.unit (s := S8x2x131072x128) (k0_off8 v115) S1x2x1056x128.size hinb).WholeWords (EltTy.packing .fp8e4m3)) ∧
  (∀ a, (k0_off23 v115) a + S1x2x1152.size a ≤ S8x2x131072.size a) ∧
  (∀ a, (k0_off24 v115) a + S1x2x1056x128.size a ≤ S8x2x131072x128.size a) ∧
  (∀ (hinb : ∀ a, (k0_off24 v115) a + S1x2x1056x128.size a ≤ S8x2x131072x128.size a), (Rect.unit (s := S8x2x131072x128) (k0_off24 v115) S1x2x1056x128.size hinb).WholeWords (EltTy.packing .fp8e4m3))
theorem k0_mult7_dvd : ∀ (v115 : BitVec 32) (k0_hw4 : k0_chk4 v115), 32 ∣ (k0_mult7 v115).toNat := fun v115 k0_hw4 => k0_hw4.1
theorem k0_mult8_dvd : ∀ (v115 : BitVec 32) (k0_hw4 : k0_chk4 v115), 128 ∣ (k0_mult8 v115).toNat := fun v115 k0_hw4 => k0_hw4.2.1
theorem k0_off7_inb : ∀ (v115 : BitVec 32) (k0_hw4 : k0_chk4 v115), ∀ a, (k0_off7 v115) a + S1x2x1152.size a ≤ S8x2x131072.size a := fun v115 k0_hw4 => k0_hw4.2.2.1
theorem k0_off8_inb : ∀ (v115 : BitVec 32) (k0_hw4 : k0_chk4 v115), ∀ a, (k0_off8 v115) a + S1x2x1056x128.size a ≤ S8x2x131072x128.size a := fun v115 k0_hw4 => k0_hw4.2.2.2.1
theorem k0_off8_wordsfp8e4m3 : ∀ (v115 : BitVec 32) (k0_hw4 : k0_chk4 v115), (Rect.unit (s := S8x2x131072x128) (k0_off8 v115) S1x2x1056x128.size (k0_off8_inb v115 k0_hw4)).WholeWords (EltTy.packing .fp8e4m3) := fun v115 k0_hw4 => k0_hw4.2.2.2.2.1 (k0_off8_inb v115 k0_hw4)
theorem k0_off23_inb : ∀ (v115 : BitVec 32) (k0_hw4 : k0_chk4 v115), ∀ a, (k0_off23 v115) a + S1x2x1152.size a ≤ S8x2x131072.size a := fun v115 k0_hw4 => k0_hw4.2.2.2.2.2.1
theorem k0_off24_inb : ∀ (v115 : BitVec 32) (k0_hw4 : k0_chk4 v115), ∀ a, (k0_off24 v115) a + S1x2x1056x128.size a ≤ S8x2x131072x128.size a := fun v115 k0_hw4 => k0_hw4.2.2.2.2.2.2.1
theorem k0_off24_wordsfp8e4m3 : ∀ (v115 : BitVec 32) (k0_hw4 : k0_chk4 v115), (Rect.unit (s := S8x2x131072x128) (k0_off24 v115) S1x2x1056x128.size (k0_off24_inb v115 k0_hw4)).WholeWords (EltTy.packing .fp8e4m3) := fun v115 k0_hw4 => k0_hw4.2.2.2.2.2.2.2 (k0_off24_inb v115 k0_hw4)

def k0_off25 (v150 : BitVec 32) : Fin 3 → Nat :=
  let c4_i32_1341 : BitVec 32 := 4#32
  let c0_i32_1346 : BitVec 32 := 0#32
  let c130048_i32_134 : BitVec 32 := 130048#32
  let c0_i32_133 : BitVec 32 := 0#32
  let c1024_i32_132 : BitVec 32 := 1024#32
  let v151 : BitVec 32 := Scalar.subi v150 c1024_i32_132
  let v152 : BitVec 32 := Scalar.maxsi c0_i32_133 v151
  let v153 : BitVec 32 := Scalar.minsi c130048_i32_134 v152
  let c_m32_i32_135 : BitVec 32 := 4294967264#32
  let v154 : BitVec 32 := Scalar.andi v153 c_m32_i32_135
  let c130016_i32_136 : BitVec 32 := 130016#32
  let v155 : BitVec 32 := Scalar.minsi v154 c130016_i32_136
  let v156 : BitVec 32 := v155
  let c_m128_i32_137 : BitVec 32 := 4294967168#32
  let v157 : BitVec 32 := Scalar.andi v156 c_m128_i32_137
  let v158 : BitVec 32 := v157
  ![4, 0, v158.toNat]
def k0_off26 (v150 : BitVec 32) : Fin 4 → Nat :=
  let c4_i32_1378 : BitVec 32 := 4#32
  let c0_i32_1384 : BitVec 32 := 0#32
  let c130048_i32_134 : BitVec 32 := 130048#32
  let c0_i32_133 : BitVec 32 := 0#32
  let c1024_i32_132 : BitVec 32 := 1024#32
  let v151 : BitVec 32 := Scalar.subi v150 c1024_i32_132
  let v152 : BitVec 32 := Scalar.maxsi c0_i32_133 v151
  let v153 : BitVec 32 := Scalar.minsi c130048_i32_134 v152
  let c_m32_i32_135 : BitVec 32 := 4294967264#32
  let v154 : BitVec 32 := Scalar.andi v153 c_m32_i32_135
  let c130016_i32_136 : BitVec 32 := 130016#32
  let v155 : BitVec 32 := Scalar.minsi v154 c130016_i32_136
  let v156 : BitVec 32 := v155
  let c0_i32_1385 : BitVec 32 := 0#32
  ![4, 0, v156.toNat, 0]

def k0_chk5 (v150 : BitVec 32) : Prop :=
  (32 ∣ (k0_mult9 v150).toNat) ∧
  (128 ∣ (k0_mult10 v150).toNat) ∧
  (∀ a, (k0_off9 v150) a + S1x2x1152.size a ≤ S8x2x131072.size a) ∧
  (∀ a, (k0_off10 v150) a + S1x2x1056x128.size a ≤ S8x2x131072x128.size a) ∧
  (∀ (hinb : ∀ a, (k0_off10 v150) a + S1x2x1056x128.size a ≤ S8x2x131072x128.size a), (Rect.unit (s := S8x2x131072x128) (k0_off10 v150) S1x2x1056x128.size hinb).WholeWords (EltTy.packing .fp8e4m3)) ∧
  (∀ a, (k0_off25 v150) a + S1x2x1152.size a ≤ S8x2x131072.size a) ∧
  (∀ a, (k0_off26 v150) a + S1x2x1056x128.size a ≤ S8x2x131072x128.size a) ∧
  (∀ (hinb : ∀ a, (k0_off26 v150) a + S1x2x1056x128.size a ≤ S8x2x131072x128.size a), (Rect.unit (s := S8x2x131072x128) (k0_off26 v150) S1x2x1056x128.size hinb).WholeWords (EltTy.packing .fp8e4m3))
theorem k0_mult9_dvd : ∀ (v150 : BitVec 32) (k0_hw5 : k0_chk5 v150), 32 ∣ (k0_mult9 v150).toNat := fun v150 k0_hw5 => k0_hw5.1
theorem k0_mult10_dvd : ∀ (v150 : BitVec 32) (k0_hw5 : k0_chk5 v150), 128 ∣ (k0_mult10 v150).toNat := fun v150 k0_hw5 => k0_hw5.2.1
theorem k0_off9_inb : ∀ (v150 : BitVec 32) (k0_hw5 : k0_chk5 v150), ∀ a, (k0_off9 v150) a + S1x2x1152.size a ≤ S8x2x131072.size a := fun v150 k0_hw5 => k0_hw5.2.2.1
theorem k0_off10_inb : ∀ (v150 : BitVec 32) (k0_hw5 : k0_chk5 v150), ∀ a, (k0_off10 v150) a + S1x2x1056x128.size a ≤ S8x2x131072x128.size a := fun v150 k0_hw5 => k0_hw5.2.2.2.1
theorem k0_off10_wordsfp8e4m3 : ∀ (v150 : BitVec 32) (k0_hw5 : k0_chk5 v150), (Rect.unit (s := S8x2x131072x128) (k0_off10 v150) S1x2x1056x128.size (k0_off10_inb v150 k0_hw5)).WholeWords (EltTy.packing .fp8e4m3) := fun v150 k0_hw5 => k0_hw5.2.2.2.2.1 (k0_off10_inb v150 k0_hw5)
theorem k0_off25_inb : ∀ (v150 : BitVec 32) (k0_hw5 : k0_chk5 v150), ∀ a, (k0_off25 v150) a + S1x2x1152.size a ≤ S8x2x131072.size a := fun v150 k0_hw5 => k0_hw5.2.2.2.2.2.1
theorem k0_off26_inb : ∀ (v150 : BitVec 32) (k0_hw5 : k0_chk5 v150), ∀ a, (k0_off26 v150) a + S1x2x1056x128.size a ≤ S8x2x131072x128.size a := fun v150 k0_hw5 => k0_hw5.2.2.2.2.2.2.1
theorem k0_off26_wordsfp8e4m3 : ∀ (v150 : BitVec 32) (k0_hw5 : k0_chk5 v150), (Rect.unit (s := S8x2x131072x128) (k0_off26 v150) S1x2x1056x128.size (k0_off26_inb v150 k0_hw5)).WholeWords (EltTy.packing .fp8e4m3) := fun v150 k0_hw5 => k0_hw5.2.2.2.2.2.2.2 (k0_off26_inb v150 k0_hw5)

def k0_off27 (v185 : BitVec 32) : Fin 3 → Nat :=
  let c5_i32_1525 : BitVec 32 := 5#32
  let c0_i32_1530 : BitVec 32 := 0#32
  let c130048_i32_167 : BitVec 32 := 130048#32
  let c0_i32_166 : BitVec 32 := 0#32
  let c1024_i32_165 : BitVec 32 := 1024#32
  let v186 : BitVec 32 := Scalar.subi v185 c1024_i32_165
  let v187 : BitVec 32 := Scalar.maxsi c0_i32_166 v186
  let v188 : BitVec 32 := Scalar.minsi c130048_i32_167 v187
  let c_m32_i32_168 : BitVec 32 := 4294967264#32
  let v189 : BitVec 32 := Scalar.andi v188 c_m32_i32_168
  let c130016_i32_169 : BitVec 32 := 130016#32
  let v190 : BitVec 32 := Scalar.minsi v189 c130016_i32_169
  let v191 : BitVec 32 := v190
  let c_m128_i32_170 : BitVec 32 := 4294967168#32
  let v192 : BitVec 32 := Scalar.andi v191 c_m128_i32_170
  let v193 : BitVec 32 := v192
  ![5, 0, v193.toNat]
def k0_off28 (v185 : BitVec 32) : Fin 4 → Nat :=
  let c5_i32_1562 : BitVec 32 := 5#32
  let c0_i32_1568 : BitVec 32 := 0#32
  let c130048_i32_167 : BitVec 32 := 130048#32
  let c0_i32_166 : BitVec 32 := 0#32
  let c1024_i32_165 : BitVec 32 := 1024#32
  let v186 : BitVec 32 := Scalar.subi v185 c1024_i32_165
  let v187 : BitVec 32 := Scalar.maxsi c0_i32_166 v186
  let v188 : BitVec 32 := Scalar.minsi c130048_i32_167 v187
  let c_m32_i32_168 : BitVec 32 := 4294967264#32
  let v189 : BitVec 32 := Scalar.andi v188 c_m32_i32_168
  let c130016_i32_169 : BitVec 32 := 130016#32
  let v190 : BitVec 32 := Scalar.minsi v189 c130016_i32_169
  let v191 : BitVec 32 := v190
  let c0_i32_1569 : BitVec 32 := 0#32
  ![5, 0, v191.toNat, 0]

def k0_chk6 (v185 : BitVec 32) : Prop :=
  (32 ∣ (k0_mult11 v185).toNat) ∧
  (128 ∣ (k0_mult12 v185).toNat) ∧
  (∀ a, (k0_off11 v185) a + S1x2x1152.size a ≤ S8x2x131072.size a) ∧
  (∀ a, (k0_off12 v185) a + S1x2x1056x128.size a ≤ S8x2x131072x128.size a) ∧
  (∀ (hinb : ∀ a, (k0_off12 v185) a + S1x2x1056x128.size a ≤ S8x2x131072x128.size a), (Rect.unit (s := S8x2x131072x128) (k0_off12 v185) S1x2x1056x128.size hinb).WholeWords (EltTy.packing .fp8e4m3)) ∧
  (∀ a, (k0_off27 v185) a + S1x2x1152.size a ≤ S8x2x131072.size a) ∧
  (∀ a, (k0_off28 v185) a + S1x2x1056x128.size a ≤ S8x2x131072x128.size a) ∧
  (∀ (hinb : ∀ a, (k0_off28 v185) a + S1x2x1056x128.size a ≤ S8x2x131072x128.size a), (Rect.unit (s := S8x2x131072x128) (k0_off28 v185) S1x2x1056x128.size hinb).WholeWords (EltTy.packing .fp8e4m3))
theorem k0_mult11_dvd : ∀ (v185 : BitVec 32) (k0_hw6 : k0_chk6 v185), 32 ∣ (k0_mult11 v185).toNat := fun v185 k0_hw6 => k0_hw6.1
theorem k0_mult12_dvd : ∀ (v185 : BitVec 32) (k0_hw6 : k0_chk6 v185), 128 ∣ (k0_mult12 v185).toNat := fun v185 k0_hw6 => k0_hw6.2.1
theorem k0_off11_inb : ∀ (v185 : BitVec 32) (k0_hw6 : k0_chk6 v185), ∀ a, (k0_off11 v185) a + S1x2x1152.size a ≤ S8x2x131072.size a := fun v185 k0_hw6 => k0_hw6.2.2.1
theorem k0_off12_inb : ∀ (v185 : BitVec 32) (k0_hw6 : k0_chk6 v185), ∀ a, (k0_off12 v185) a + S1x2x1056x128.size a ≤ S8x2x131072x128.size a := fun v185 k0_hw6 => k0_hw6.2.2.2.1
theorem k0_off12_wordsfp8e4m3 : ∀ (v185 : BitVec 32) (k0_hw6 : k0_chk6 v185), (Rect.unit (s := S8x2x131072x128) (k0_off12 v185) S1x2x1056x128.size (k0_off12_inb v185 k0_hw6)).WholeWords (EltTy.packing .fp8e4m3) := fun v185 k0_hw6 => k0_hw6.2.2.2.2.1 (k0_off12_inb v185 k0_hw6)
theorem k0_off27_inb : ∀ (v185 : BitVec 32) (k0_hw6 : k0_chk6 v185), ∀ a, (k0_off27 v185) a + S1x2x1152.size a ≤ S8x2x131072.size a := fun v185 k0_hw6 => k0_hw6.2.2.2.2.2.1
theorem k0_off28_inb : ∀ (v185 : BitVec 32) (k0_hw6 : k0_chk6 v185), ∀ a, (k0_off28 v185) a + S1x2x1056x128.size a ≤ S8x2x131072x128.size a := fun v185 k0_hw6 => k0_hw6.2.2.2.2.2.2.1
theorem k0_off28_wordsfp8e4m3 : ∀ (v185 : BitVec 32) (k0_hw6 : k0_chk6 v185), (Rect.unit (s := S8x2x131072x128) (k0_off28 v185) S1x2x1056x128.size (k0_off28_inb v185 k0_hw6)).WholeWords (EltTy.packing .fp8e4m3) := fun v185 k0_hw6 => k0_hw6.2.2.2.2.2.2.2 (k0_off28_inb v185 k0_hw6)

def k0_off29 (v220 : BitVec 32) : Fin 3 → Nat :=
  let c6_i32_1709 : BitVec 32 := 6#32
  let c0_i32_1714 : BitVec 32 := 0#32
  let c130048_i32_200 : BitVec 32 := 130048#32
  let c0_i32_199 : BitVec 32 := 0#32
  let c1024_i32_198 : BitVec 32 := 1024#32
  let v221 : BitVec 32 := Scalar.subi v220 c1024_i32_198
  let v222 : BitVec 32 := Scalar.maxsi c0_i32_199 v221
  let v223 : BitVec 32 := Scalar.minsi c130048_i32_200 v222
  let c_m32_i32_201 : BitVec 32 := 4294967264#32
  let v224 : BitVec 32 := Scalar.andi v223 c_m32_i32_201
  let c130016_i32_202 : BitVec 32 := 130016#32
  let v225 : BitVec 32 := Scalar.minsi v224 c130016_i32_202
  let v226 : BitVec 32 := v225
  let c_m128_i32_203 : BitVec 32 := 4294967168#32
  let v227 : BitVec 32 := Scalar.andi v226 c_m128_i32_203
  let v228 : BitVec 32 := v227
  ![6, 0, v228.toNat]
def k0_off30 (v220 : BitVec 32) : Fin 4 → Nat :=
  let c6_i32_1746 : BitVec 32 := 6#32
  let c0_i32_1752 : BitVec 32 := 0#32
  let c130048_i32_200 : BitVec 32 := 130048#32
  let c0_i32_199 : BitVec 32 := 0#32
  let c1024_i32_198 : BitVec 32 := 1024#32
  let v221 : BitVec 32 := Scalar.subi v220 c1024_i32_198
  let v222 : BitVec 32 := Scalar.maxsi c0_i32_199 v221
  let v223 : BitVec 32 := Scalar.minsi c130048_i32_200 v222
  let c_m32_i32_201 : BitVec 32 := 4294967264#32
  let v224 : BitVec 32 := Scalar.andi v223 c_m32_i32_201
  let c130016_i32_202 : BitVec 32 := 130016#32
  let v225 : BitVec 32 := Scalar.minsi v224 c130016_i32_202
  let v226 : BitVec 32 := v225
  let c0_i32_1753 : BitVec 32 := 0#32
  ![6, 0, v226.toNat, 0]

def k0_chk7 (v220 : BitVec 32) : Prop :=
  (32 ∣ (k0_mult13 v220).toNat) ∧
  (128 ∣ (k0_mult14 v220).toNat) ∧
  (∀ a, (k0_off13 v220) a + S1x2x1152.size a ≤ S8x2x131072.size a) ∧
  (∀ a, (k0_off14 v220) a + S1x2x1056x128.size a ≤ S8x2x131072x128.size a) ∧
  (∀ (hinb : ∀ a, (k0_off14 v220) a + S1x2x1056x128.size a ≤ S8x2x131072x128.size a), (Rect.unit (s := S8x2x131072x128) (k0_off14 v220) S1x2x1056x128.size hinb).WholeWords (EltTy.packing .fp8e4m3)) ∧
  (∀ a, (k0_off29 v220) a + S1x2x1152.size a ≤ S8x2x131072.size a) ∧
  (∀ a, (k0_off30 v220) a + S1x2x1056x128.size a ≤ S8x2x131072x128.size a) ∧
  (∀ (hinb : ∀ a, (k0_off30 v220) a + S1x2x1056x128.size a ≤ S8x2x131072x128.size a), (Rect.unit (s := S8x2x131072x128) (k0_off30 v220) S1x2x1056x128.size hinb).WholeWords (EltTy.packing .fp8e4m3))
theorem k0_mult13_dvd : ∀ (v220 : BitVec 32) (k0_hw7 : k0_chk7 v220), 32 ∣ (k0_mult13 v220).toNat := fun v220 k0_hw7 => k0_hw7.1
theorem k0_mult14_dvd : ∀ (v220 : BitVec 32) (k0_hw7 : k0_chk7 v220), 128 ∣ (k0_mult14 v220).toNat := fun v220 k0_hw7 => k0_hw7.2.1
theorem k0_off13_inb : ∀ (v220 : BitVec 32) (k0_hw7 : k0_chk7 v220), ∀ a, (k0_off13 v220) a + S1x2x1152.size a ≤ S8x2x131072.size a := fun v220 k0_hw7 => k0_hw7.2.2.1
theorem k0_off14_inb : ∀ (v220 : BitVec 32) (k0_hw7 : k0_chk7 v220), ∀ a, (k0_off14 v220) a + S1x2x1056x128.size a ≤ S8x2x131072x128.size a := fun v220 k0_hw7 => k0_hw7.2.2.2.1
theorem k0_off14_wordsfp8e4m3 : ∀ (v220 : BitVec 32) (k0_hw7 : k0_chk7 v220), (Rect.unit (s := S8x2x131072x128) (k0_off14 v220) S1x2x1056x128.size (k0_off14_inb v220 k0_hw7)).WholeWords (EltTy.packing .fp8e4m3) := fun v220 k0_hw7 => k0_hw7.2.2.2.2.1 (k0_off14_inb v220 k0_hw7)
theorem k0_off29_inb : ∀ (v220 : BitVec 32) (k0_hw7 : k0_chk7 v220), ∀ a, (k0_off29 v220) a + S1x2x1152.size a ≤ S8x2x131072.size a := fun v220 k0_hw7 => k0_hw7.2.2.2.2.2.1
theorem k0_off30_inb : ∀ (v220 : BitVec 32) (k0_hw7 : k0_chk7 v220), ∀ a, (k0_off30 v220) a + S1x2x1056x128.size a ≤ S8x2x131072x128.size a := fun v220 k0_hw7 => k0_hw7.2.2.2.2.2.2.1
theorem k0_off30_wordsfp8e4m3 : ∀ (v220 : BitVec 32) (k0_hw7 : k0_chk7 v220), (Rect.unit (s := S8x2x131072x128) (k0_off30 v220) S1x2x1056x128.size (k0_off30_inb v220 k0_hw7)).WholeWords (EltTy.packing .fp8e4m3) := fun v220 k0_hw7 => k0_hw7.2.2.2.2.2.2.2 (k0_off30_inb v220 k0_hw7)
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S8x4x16x128 : Shape := ⟨4, ![8, 4, 16, 128]⟩
abbrev S8x4x2x128 : Shape := ⟨4, ![8, 4, 2, 128]⟩
abbrev S8x131072x2x128 : Shape := ⟨4, ![8, 131072, 2, 128]⟩
abbrev S8x131072x2 : Shape := ⟨3, ![8, 131072, 2]⟩
abbrev S8 : Shape := ⟨1, ![8]⟩
abbrev S_ : Shape := ⟨0, ![]⟩
abbrev S8x1 : Shape := ⟨2, ![8, 1]⟩
abbrev S1024 : Shape := ⟨1, ![1024]⟩
abbrev S1x1024 : Shape := ⟨2, ![1, 1024]⟩
abbrev S8x1024 : Shape := ⟨2, ![8, 1024]⟩
abbrev S8x1024x1 : Shape := ⟨3, ![8, 1024, 1]⟩
abbrev S8x1024x2 : Shape := ⟨3, ![8, 1024, 2]⟩
abbrev S8x1024x2x128 : Shape := ⟨4, ![8, 1024, 2, 128]⟩
abbrev S8x4x2x1 : Shape := ⟨4, ![8, 4, 2, 1]⟩
abbrev S8x4x2 : Shape := ⟨3, ![8, 4, 2]⟩
abbrev S4 : Shape := ⟨1, ![4]⟩
abbrev S1x4 : Shape := ⟨2, ![1, 4]⟩
abbrev S8x4 : Shape := ⟨2, ![8, 4]⟩
abbrev S8x4x2x8x128 : Shape := ⟨5, ![8, 4, 2, 8, 128]⟩
abbrev S8x2x1024x4x8 : Shape := ⟨5, ![8, 2, 1024, 4, 8]⟩
abbrev S8x2x8x4x1024 : Shape := ⟨5, ![8, 2, 8, 4, 1024]⟩
abbrev S8x2x1024 : Shape := ⟨3, ![8, 2, 1024]⟩
abbrev S8x2x1x1x1024 : Shape := ⟨5, ![8, 2, 1, 1, 1024]⟩
abbrev S8x2x4x4x8 : Shape := ⟨5, ![8, 2, 4, 4, 8]⟩
abbrev S8x2x8x4x4 : Shape := ⟨5, ![8, 2, 8, 4, 4]⟩
abbrev S8x2x4 : Shape := ⟨3, ![8, 2, 4]⟩
abbrev S8x2x1x1x4 : Shape := ⟨5, ![8, 2, 1, 1, 4]⟩
abbrev S8x1x1024 : Shape := ⟨3, ![8, 1, 1024]⟩
abbrev S8x1x1 : Shape := ⟨3, ![8, 1, 1]⟩
abbrev S8x4x1 : Shape := ⟨3, ![8, 4, 1]⟩
abbrev S8x4x1024 : Shape := ⟨3, ![8, 4, 1024]⟩
abbrev S8x1x4 : Shape := ⟨3, ![8, 1, 4]⟩
abbrev S8x4x4 : Shape := ⟨3, ![8, 4, 4]⟩
abbrev S8x1x1x4x1024 : Shape := ⟨5, ![8, 1, 1, 4, 1024]⟩
abbrev S8x1x1x4x4 : Shape := ⟨5, ![8, 1, 1, 4, 4]⟩
abbrev S8x2x8x4x1028 : Shape := ⟨5, ![8, 2, 8, 4, 1028]⟩
abbrev S8x2x8x4 : Shape := ⟨4, ![8, 2, 8, 4]⟩
abbrev S8x2x8x4x1 : Shape := ⟨5, ![8, 2, 8, 4, 1]⟩
abbrev S8x2x128x8x4 : Shape := ⟨5, ![8, 2, 128, 8, 4]⟩
abbrev S8x4x2048 : Shape := ⟨3, ![8, 4, 2048]⟩

abbrev nBuf : Space → Nat
  | .hbm => 162
  | .vmem => 12
  | .smem => 0
  | _ => 0

abbrev hbmTy0_0 (i : Nat) : BufTy := match i % 128 with
  | 0 => ⟨S8x4x16x128, .bf16⟩
  | 1 => ⟨S8x4x2x128, .bf16⟩
  | 2 => ⟨S8x4x2x128, .bf16⟩
  | 3 => ⟨S8x131072x2x128, .fp8e4m3⟩
  | 4 => ⟨S8x131072x2, .f32⟩
  | 5 => ⟨S8x131072x2x128, .fp8e4m3⟩
  | 6 => ⟨S8x131072x2, .f32⟩
  | 7 => ⟨S8, .i32⟩
  | 8 => ⟨S_, .i32⟩
  | 9 => ⟨S8, .i32⟩
  | 10 => ⟨S8, .i32⟩
  | 11 => ⟨S_, .i32⟩
  | 12 => ⟨S_, .i32⟩
  | 13 => ⟨S_, .i32⟩
  | 14 => ⟨S8, .i32⟩
  | 15 => ⟨S8, .i32⟩
  | 16 => ⟨S_, .i32⟩
  | 17 => ⟨S8, .i32⟩
  | 18 => ⟨S8, .i32⟩
  | 19 => ⟨S8x1, .i32⟩
  | 20 => ⟨S1024, .i32⟩
  | 21 => ⟨S1x1024, .i32⟩
  | 22 => ⟨S8x1024, .i32⟩
  | 23 => ⟨S8x1024, .i32⟩
  | 24 => ⟨S8x1024, .i32⟩
  | 25 => ⟨S8, .i32⟩
  | 26 => ⟨S8x1, .i32⟩
  | 27 => ⟨S8x1024, .i32⟩
  | 28 => ⟨S8x1024x1, .i32⟩
  | 29 => ⟨S8x1024x1, .i32⟩
  | 30 => ⟨S8x1024x2, .i32⟩
  | 31 => ⟨S8x1024x2x128, .fp8e4m3⟩
  | 32 => ⟨S8, .i32⟩
  | 33 => ⟨S8x1, .i32⟩
  | 34 => ⟨S8x1024, .i32⟩
  | 35 => ⟨S8x1024x1, .i32⟩
  | 36 => ⟨S8x1024x1, .i32⟩
  | 37 => ⟨S8x1024x2, .i32⟩
  | 38 => ⟨S8x1024x2, .f32⟩
  | 39 => ⟨S8, .i32⟩
  | 40 => ⟨S8x1, .i32⟩
  | 41 => ⟨S8x1024, .i32⟩
  | 42 => ⟨S8x1024x1, .i32⟩
  | 43 => ⟨S8x1024x1, .i32⟩
  | 44 => ⟨S8x1024x2, .i32⟩
  | 45 => ⟨S8x1024x2x128, .fp8e4m3⟩
  | 46 => ⟨S8, .i32⟩
  | 47 => ⟨S8x1, .i32⟩
  | 48 => ⟨S8x1024, .i32⟩
  | 49 => ⟨S8x1024x1, .i32⟩
  | 50 => ⟨S8x1024x1, .i32⟩
  | 51 => ⟨S8x1024x2, .i32⟩
  | 52 => ⟨S8x1024x2, .f32⟩
  | 53 => ⟨S8x1024x2x128, .bf16⟩
  | 54 => ⟨S8x1024x2x128, .bf16⟩
  | 55 => ⟨S8x4x2x128, .fp8e4m3⟩
  | 56 => ⟨S8x4x2x1, .f32⟩
  | 57 => ⟨S8x4x2x128, .fp8e4m3⟩
  | 58 => ⟨S8x4x2x1, .f32⟩
  | 59 => ⟨S8x4x2x128, .bf16⟩
  | 60 => ⟨S8x4x2x128, .bf16⟩
  | 61 => ⟨S8x4x2, .f32⟩
  | 62 => ⟨S8x4x2, .f32⟩
  | 63 => ⟨S8x1, .i32⟩
  | 64 => ⟨S4, .i32⟩
  | 65 => ⟨S1x4, .i32⟩
  | 66 => ⟨S8x4, .i32⟩
  | 67 => ⟨S8x4, .i32⟩
  | 68 => ⟨S8x4, .i32⟩
  | 69 => ⟨S8x4x2x8x128, .bf16⟩
  | 70 => ⟨S8x2x1024x4x8, .f32⟩
  | 71 => ⟨S8x2x8x4x1024, .f32⟩
  | 72 => ⟨S8x2x1024, .f32⟩
  | 73 => ⟨S8x2x1x1x1024, .f32⟩
  | 74 => ⟨S_, .f32⟩
  | 75 => ⟨S8x2x1x1x1024, .f32⟩
  | 76 => ⟨S8x2x1x1x1024, .f32⟩
  | 77 => ⟨S8x2x8x4x1024, .f32⟩
  | 78 => ⟨S8x2x8x4x1024, .f32⟩
  | 79 => ⟨S8x2x4x4x8, .f32⟩
  | 80 => ⟨S8x2x8x4x4, .f32⟩
  | 81 => ⟨S8x2x4, .f32⟩
  | 82 => ⟨S8x2x1x1x4, .f32⟩
  | 83 => ⟨S_, .f32⟩
  | 84 => ⟨S8x2x1x1x4, .f32⟩
  | 85 => ⟨S8x2x1x1x4, .f32⟩
  | 86 => ⟨S8x2x8x4x4, .f32⟩
  | 87 => ⟨S8x2x8x4x4, .f32⟩
  | 88 => ⟨S8x1x1024, .i32⟩
  | 89 => ⟨S8x1x1, .i32⟩
  | 90 => ⟨S8x1x1024, .i32⟩
  | 91 => ⟨S8x1x1024, .i1⟩
  | 92 => ⟨S8x1x1024, .i32⟩
  | 93 => ⟨S8x4x1, .i32⟩
  | 94 => ⟨S_, .i32⟩
  | 95 => ⟨S8x4x1, .i32⟩
  | 96 => ⟨S8x4x1, .i32⟩
  | 97 => ⟨S8x4x1024, .i32⟩
  | 98 => ⟨S8x4x1024, .i32⟩
  | 99 => ⟨S8x4x1024, .i1⟩
  | 100 => ⟨S8x4x1024, .i1⟩
  | 101 => ⟨S8x4x1024, .i1⟩
  | 102 => ⟨S8x1x4, .i32⟩
  | 103 => ⟨S8x4x1, .i32⟩
  | 104 => ⟨S8x4x4, .i32⟩
  | 105 => ⟨S8x4x4, .i32⟩
  | 106 => ⟨S8x4x4, .i1⟩
  | 107 => ⟨S8x1x4, .i32⟩
  | 108 => ⟨S8x4x1, .i32⟩
  | 109 => ⟨S_, .i32⟩
  | 110 => ⟨S8x4x1, .i32⟩
  | 111 => ⟨S8x4x1, .i32⟩
  | 112 => ⟨S8x4x4, .i32⟩
  | 113 => ⟨S8x4x4, .i32⟩
  | 114 => ⟨S8x4x4, .i1⟩
  | 115 => ⟨S8x4x4, .i1⟩
  | 116 => ⟨S8x1x1x4x1024, .i1⟩
  | 117 => ⟨S_, .f32⟩
  | 118 => ⟨S_, .f32⟩
  | 119 => ⟨S8x2x8x4x1024, .i1⟩
  | 120 => ⟨S8x2x8x4x1024, .f32⟩
  | 121 => ⟨S8x2x8x4x1024, .f32⟩
  | 122 => ⟨S8x1x1x4x4, .i1⟩
  | 123 => ⟨S_, .f32⟩
  | 124 => ⟨S_, .f32⟩
  | 125 => ⟨S8x2x8x4x4, .i1⟩
  | 126 => ⟨S8x2x8x4x4, .f32⟩
  | 127 => ⟨S8x2x8x4x4, .f32⟩
  | _ => ⟨S8x4x16x128, .bf16⟩

abbrev hbmTy0_1 (i : Nat) : BufTy := match i % 128 with
  | 0 => ⟨S8x2x8x4x1028, .f32⟩
  | 1 => ⟨S_, .f32⟩
  | 2 => ⟨S8x2x8x4, .f32⟩
  | 3 => ⟨S8x2x8x4x1, .f32⟩
  | 4 => ⟨S8x2x8x4x1028, .f32⟩
  | 5 => ⟨S8x2x8x4x1028, .f32⟩
  | 6 => ⟨S8x2x8x4x1028, .f32⟩
  | 7 => ⟨S_, .f32⟩
  | 8 => ⟨S8x2x8x4, .f32⟩
  | 9 => ⟨S8x2x8x4x1, .f32⟩
  | 10 => ⟨S_, .f32⟩
  | 11 => ⟨S8x2x8x4x1, .f32⟩
  | 12 => ⟨S8x2x8x4x1, .f32⟩
  | 13 => ⟨S8x2x8x4x1028, .f32⟩
  | 14 => ⟨S8x2x8x4x1028, .f32⟩
  | 15 => ⟨S8x2x8x4x1024, .f32⟩
  | 16 => ⟨S8x2x8x4x4, .f32⟩
  | 17 => ⟨S8x2x1024, .f32⟩
  | 18 => ⟨S8x2x1x1x1024, .f32⟩
  | 19 => ⟨S8x2x8x4x1024, .f32⟩
  | 20 => ⟨S8x2x8x4x1024, .f32⟩
  | 21 => ⟨S8x2x8x4x1024, .bf16⟩
  | 22 => ⟨S8x2x4, .f32⟩
  | 23 => ⟨S8x2x1x1x4, .f32⟩
  | 24 => ⟨S8x2x8x4x4, .f32⟩
  | 25 => ⟨S8x2x8x4x4, .f32⟩
  | 26 => ⟨S8x2x8x4x4, .bf16⟩
  | 27 => ⟨S8x2x128x8x4, .f32⟩
  | 28 => ⟨S8x4x2x8x128, .f32⟩
  | 29 => ⟨S8x2x128x8x4, .f32⟩
  | 30 => ⟨S8x4x2x8x128, .f32⟩
  | 31 => ⟨S8x4x2x8x128, .f32⟩
  | 32 => ⟨S8x4x2048, .f32⟩
  | 33 => ⟨S8x4x2048, .bf16⟩
  | _ => ⟨S8x4x16x128, .bf16⟩

abbrev hbmTy (i : Nat) : BufTy := match i / 128 with
  | 0 => hbmTy0_0 i
  | 1 => hbmTy0_1 i
  | _ => ⟨S8x4x16x128, .bf16⟩

abbrev bufTy : (tb : Table) → Fin (tcTables nBuf tb) → BufTy
  | .hbm, ⟨i, _⟩ => hbmTy i
  | .local _ .vmem, ⟨0, _⟩ => ⟨S8x1024x2x128, .fp8e4m3⟩
  | .local _ .vmem, ⟨1, _⟩ => ⟨S8x1024x2x128, .fp8e4m3⟩
  | .local _ .vmem, ⟨2, _⟩ => ⟨S8x4x2x128, .bf16⟩
  | .local _ .vmem, ⟨3, _⟩ => ⟨S8x4x2x128, .bf16⟩
  | .local _ .vmem, ⟨4, _⟩ => ⟨S8x1024x2x128, .bf16⟩
  | .local _ .vmem, ⟨5, _⟩ => ⟨S8x1024x2x128, .bf16⟩
  | .local _ .vmem, ⟨6, _⟩ => ⟨S8x4x2x128, .fp8e4m3⟩
  | .local _ .vmem, ⟨7, _⟩ => ⟨S8x4x2x1, .f32⟩
  | .local _ .vmem, ⟨8, _⟩ => ⟨S8x4x2x128, .fp8e4m3⟩
  | .local _ .vmem, ⟨9, _⟩ => ⟨S8x4x2x1, .f32⟩
  | .local _ .vmem, ⟨10, _⟩ => ⟨S8x4x2x128, .bf16⟩
  | .local _ .vmem, ⟨11, _⟩ => ⟨S8x4x2x128, .bf16⟩
  | _, _ => ⟨S8x4x16x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_c_1 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37_0 : Ref sig .tc := ⟨.hbm, 53, rfl⟩
abbrev main_v37_1 : Ref sig .tc := ⟨.hbm, 54, rfl⟩
abbrev main_v37_2 : Ref sig .tc := ⟨.hbm, 55, rfl⟩
abbrev main_v37_3 : Ref sig .tc := ⟨.hbm, 56, rfl⟩
abbrev main_v37_4 : Ref sig .tc := ⟨.hbm, 57, rfl⟩
abbrev main_v37_5 : Ref sig .tc := ⟨.hbm, 58, rfl⟩
abbrev main_v37_6 : Ref sig .tc := ⟨.hbm, 59, rfl⟩
abbrev main_v37_7 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_2 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_c_3 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_c_4 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_cst_5 : Ref sig .tc := ⟨.hbm, 117, rfl⟩
abbrev main_call1_v0 : Ref sig .tc := ⟨.hbm, 118, rfl⟩
abbrev main_call1_v1 : Ref sig .tc := ⟨.hbm, 119, rfl⟩
abbrev main_call1_v2 : Ref sig .tc := ⟨.hbm, 120, rfl⟩
abbrev main_v90 : Ref sig .tc := ⟨.hbm, 121, rfl⟩
abbrev main_v91 : Ref sig .tc := ⟨.hbm, 122, rfl⟩
abbrev main_cst_6 : Ref sig .tc := ⟨.hbm, 123, rfl⟩
abbrev main_call2_v0 : Ref sig .tc := ⟨.hbm, 124, rfl⟩
abbrev main_call2_v1 : Ref sig .tc := ⟨.hbm, 125, rfl⟩
abbrev main_call2_v2 : Ref sig .tc := ⟨.hbm, 126, rfl⟩
abbrev main_v92 : Ref sig .tc := ⟨.hbm, 127, rfl⟩
abbrev main_v93 : Ref sig .tc := ⟨.hbm, 128, rfl⟩
abbrev main_cst_7 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_cst_8 : Ref sig .tc := ⟨.hbm, 135, rfl⟩
abbrev main_v99 : Ref sig .tc := ⟨.hbm, 136, rfl⟩
abbrev main_v100 : Ref sig .tc := ⟨.hbm, 137, rfl⟩
abbrev main_cst_9 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F] [Named F]

def κ : String → Option EReal := fun
  | "log2e" => some (((Real.log 2)⁻¹ : ℝ) : EReal)
  | _ => none

abbrev grid0 : Pipeline.Grid := .none

abbrev stage0_0 : Fin 1 → Memref sig .tc .vmem S8x1024x2x128 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x1024x2x128 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x4x2x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x4x2x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x1024x2x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x1024x2x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x4x2x128 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x4x2x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8x4x2x128 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S8x4x2x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S8x4x2x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S8x4x2x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Proof.Words.lean ====
/- The two words each sequence's copies start at, computed from its cache length: the first loaded token `lo` (a multiple of
   32) and the first loaded scale `laneLo` (a multiple of 128). Both lie inside the cache whatever the length word is. -/
module

public import Idealize.ShloMosaic.Lib.WordArith
public import Idealize.ShloMosaic.Lib.Pipeline.Kit

@[expose] public section

namespace Cert.Words

open Idealize.ShloMosaic

/-- The window's first position: `clip(n - 1024, 0, 130048)`. -/
def start (n : BitVec 32) : BitVec 32 := Scalar.minsi 130048#32 (Scalar.maxsi 0#32 (Scalar.subi n 1024#32))
/-- The first token loaded: the window's first position rounded down to a multiple of 32, at most 130016. -/
def lo (n : BitVec 32) : BitVec 32 := Scalar.minsi (Scalar.andi (start n) 4294967264#32) 130016#32
/-- The first scale loaded: `lo` rounded down to a multiple of 128. -/
def laneLo (n : BitVec 32) : BitVec 32 := Scalar.andi (lo n) 4294967168#32

private theorem mask_eq (k : ℕ) (hk : k < 32) (x M : BitVec 32) (hM : M = (BitVec.allOnes 32) <<< k) :
    x &&& M = (x >>> k) <<< k := by
  subst hM
  apply BitVec.eq_of_getLsbD_eq
  intro i hi
  simp only [BitVec.getLsbD_and, BitVec.getLsbD_shiftLeft, BitVec.getLsbD_allOnes, BitVec.getLsbD_ushiftRight]
  by_cases h : i < k
  · simp [h]
  · have h1 : k + (i - k) = i := by omega
    have h2 : i - k < 32 := by omega
    simp [h, hi, h1, h2]

theorem toNat_mask32 (x : BitVec 32) : (Scalar.andi x 4294967264#32).toNat = x.toNat / 32 * 32 := by
  show (x &&& _).toNat = _
  rw [mask_eq 5 (by decide) x _ (by decide), BitVec.toNat_shiftLeft, BitVec.toNat_ushiftRight, Nat.shiftLeft_eq, Nat.shiftRight_eq_div_pow]
  have := x.isLt
  omega
theorem toNat_mask128 (x : BitVec 32) : (Scalar.andi x 4294967168#32).toNat = x.toNat / 128 * 128 := by
  show (x &&& _).toNat = _
  rw [mask_eq 7 (by decide) x _ (by decide), BitVec.toNat_shiftLeft, BitVec.toNat_ushiftRight, Nat.shiftLeft_eq, Nat.shiftRight_eq_div_pow]
  have := x.isLt
  omega

/-- The window's first position is at most 130048, as a natural number. -/
theorem start_le (n : BitVec 32) : (start n).toNat ≤ 130048 := by
  unfold start Scalar.minsi Scalar.maxsi Scalar.subi IntOp.minsi IntOp.maxsi IntOp.subi
  generalize n - 1024#32 = x
  simp only [BitVec.slt_eq_decide, decide_eq_true_eq]
  by_cases h : x.toInt < (0#32).toInt
  · simp only [h, if_true]; decide
  · simp only [h, if_false]
    by_cases h' : (130048#32).toInt < x.toInt
    · simp only [h', if_true]; decide
    · simp only [h', if_false]
      have e0 : (0#32).toInt = 0 := by decide
      have e1 : (130048#32).toInt = 130048 := by decide
      rw [e0] at h; rw [e1] at h'
      rw [BitVec.toInt_eq_toNat_cond] at h h'
      have := x.isLt
      split at h <;> omega

theorem lo_toNat (n : BitVec 32) : (lo n).toNat = min ((start n).toNat / 32 * 32) 130016 := by
  have h := start_le n
  have hm := toNat_mask32 (start n)
  unfold lo Scalar.minsi IntOp.minsi
  generalize Scalar.andi (start n) 4294967264#32 = y at *
  have e1 : (130016#32).toInt = 130016 := by decide
  have e2 : y.toInt = y.toNat := by
    rw [BitVec.toInt_eq_toNat_cond, if_pos]; omega
  rw [BitVec.slt_eq_decide, e1, e2]
  by_cases h' : (y.toNat : ℤ) < 130016
  · simp only [h', decide_true, if_true]; omega
  · simp only [h', decide_false, Bool.false_eq_true, if_false, BitVec.toNat_ofNat]; omega
theorem laneLo_toNat (n : BitVec 32) : (laneLo n).toNat = (lo n).toNat / 128 * 128 := toNat_mask128 _

theorem lo_le (n : BitVec 32) : (lo n).toNat ≤ 130016 := by rw [lo_toNat]; omega
theorem lo_dvd (n : BitVec 32) : 32 ∣ (lo n).toNat := by rw [lo_toNat]; omega
theorem laneLo_le (n : BitVec 32) : (laneLo n).toNat + 1152 ≤ 131072 := by
  have h := lo_le n
  rw [laneLo_toNat]; omega
theorem laneLo_dvd (n : BitVec 32) : 128 ∣ (laneLo n).toNat := by rw [laneLo_toNat]; omega

end Cert.Words
-- ==== Proof.KernelChecks.lean ====
/- The side conditions the kernel assumes of the eight cache lengths it reads hold of every word. -/
module

public import proofs.«01_k».proof.Proof.Words
public import proofs.«01_k».proof.Proof.Gen.Kernel

@[expose] public section

namespace Cert.Kernel.Hand

open Cert.Words Cert.Kernel Idealize.ShloMosaic

theorem inb3 (b : ℕ) (hb : b < 8) (n : BitVec 32) :
    ∀ a, (![b, 0, (laneLo n).toNat] : Fin 3 → ℕ) a + S1x2x1152.size a ≤ S8x2x131072.size a := by
  have := laneLo_le n
  intro a; fin_cases a
  · show b + 1 ≤ 8; omega
  · exact Nat.le_refl 2
  · show (laneLo n).toNat + 1152 ≤ 131072; omega
theorem inb4 (b : ℕ) (hb : b < 8) (n : BitVec 32) :
    ∀ a, (![b, 0, (lo n).toNat, 0] : Fin 4 → ℕ) a + S1x2x1056x128.size a ≤ S8x2x131072x128.size a := by
  have := lo_le n
  intro a; fin_cases a
  · show b + 1 ≤ 8; omega
  · exact Nat.le_refl 2
  · show (lo n).toNat + 1056 ≤ 131072; omega
  · exact Nat.le_refl 128
theorem words4 (b : ℕ) (n : BitVec 32) (h : ∀ a, (![b, 0, (lo n).toNat, 0] : Fin 4 → ℕ) a + S1x2x1056x128.size a ≤ S8x2x131072x128.size a) :
    (Rect.unit (s := S8x2x131072x128) ![b, 0, (lo n).toNat, 0] S1x2x1056x128.size h).WholeWords (EltTy.packing .fp8e4m3) := by
  refine Rect.PackedRows.wholeWords (Or.inr ⟨by decide, rfl, Or.inl ⟨?_, ?_⟩⟩)
  · exact Nat.dvd_trans (by decide : EltTy.packing .fp8e4m3 ∣ 32) (lo_dvd n)
  · show 4 ∣ 1056; decide

theorem chk1 (n : BitVec 32) : k0_chk1 n :=
  ⟨lo_dvd n, laneLo_dvd n, inb3 0 (by decide) n, inb4 0 (by decide) n, fun h => words4 0 n h, inb3 0 (by decide) n, inb4 0 (by decide) n, fun h => words4 0 n h⟩
theorem chk2 (n : BitVec 32) : k0_chk2 n :=
  ⟨lo_dvd n, laneLo_dvd n, inb3 1 (by decide) n, inb4 1 (by decide) n, fun h => words4 1 n h, inb3 1 (by decide) n, inb4 1 (by decide) n, fun h => words4 1 n h⟩
theorem chk3 (n : BitVec 32) : k0_chk3 n :=
  ⟨lo_dvd n, laneLo_dvd n, inb3 2 (by decide) n, inb4 2 (by decide) n, fun h => words4 2 n h, inb3 2 (by decide) n, inb4 2 (by decide) n, fun h => words4 2 n h⟩
theorem chk4 (n : BitVec 32) : k0_chk4 n :=
  ⟨lo_dvd n, laneLo_dvd n, inb3 3 (by decide) n, inb4 3 (by decide) n, fun h => words4 3 n h, inb3 3 (by decide) n, inb4 3 (by decide) n, fun h => words4 3 n h⟩
theorem chk5 (n : BitVec 32) : k0_chk5 n :=
  ⟨lo_dvd n, laneLo_dvd n, inb3 4 (by decide) n, inb4 4 (by decide) n, fun h => words4 4 n h, inb3 4 (by decide) n, inb4 4 (by decide) n, fun h => words4 4 n h⟩
theorem chk6 (n : BitVec 32) : k0_chk6 n :=
  ⟨lo_dvd n, laneLo_dvd n, inb3 5 (by decide) n, inb4 5 (by decide) n, fun h => words4 5 n h, inb3 5 (by decide) n, inb4 5 (by decide) n, fun h => words4 5 n h⟩
theorem chk7 (n : BitVec 32) : k0_chk7 n :=
  ⟨lo_dvd n, laneLo_dvd n, inb3 6 (by decide) n, inb4 6 (by decide) n, fun h => words4 6 n h, inb3 6 (by decide) n, inb4 6 (by decide) n, fun h => words4 6 n h⟩
theorem chk8 (n : BitVec 32) : k0_chk8 n :=
  ⟨lo_dvd n, laneLo_dvd n, inb3 7 (by decide) n, inb4 7 (by decide) n, fun h => words4 7 n h⟩

end Cert.Kernel.Hand
-- ==== Proof.KernelBody.lean ====
/- The kernel's body, run once: from its eight inputs and five results left in HBM, its fifteen scratch buffers and its 48 DMA cells
   at zero, it ends with the inputs unchanged, the cells at zero, and the results at the contents the run finds. -/
module

public import proofs.«01_k».proof.Proof.KernelChecks
public import proofs.«01_k».proof.Proof.Gen.Kernel.Frame
public import proofs.«01_k».proof.Proof.Gen.Kernel.Skeleton
public import Idealize.ShloMosaic.Lib.Pipeline.FrameSuffixV
public import Idealize.ShloMosaic.Lib.Tactic
public import Idealize.ShloMosaic.Lib.Transfers

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [BitOps F] [∀ e, Nonempty (Elt F e)]

local notation "𝕄" => MT nD τ sig Unit (Elt F) ℕ (Pipeline.UD sig nD τ) ℕ

/-! ## The buffers the body is handed -/

abbrev sc0 : Memref sig .tc .smem S8 .i32 := Memref.whole cc0_scratch0
abbrev sc1 : Memref sig .tc .vmem S8x64x128 .bf16 := Memref.whole cc0_scratch1
abbrev sc2 : Memref sig .tc .vmem S64x128 .bf16 := Memref.whole cc0_scratch2
abbrev sc3 : Memref sig .tc .vmem S64x128 .bf16 := Memref.whole cc0_scratch3
abbrev sc4 : Memref sig .tc .vmem S8x2x1088x128 .fp8e4m3 := Memref.whole cc0_scratch4
abbrev sc5 : Memref sig .tc .vmem S8x2x1088x128 .fp8e4m3 := Memref.whole cc0_scratch5
abbrev sc6 : Memref sig .tc .vmem S8x2x1152 .f32 := Memref.whole cc0_scratch6
abbrev sc7 : Memref sig .tc .vmem S8x2x1152 .f32 := Memref.whole cc0_scratch7
abbrev sc8 : Memref sig .tc .vmem S8x64x128 .f32 := Memref.whole cc0_scratch8
abbrev sc9 : Memref sig .tc .vmem S8x64x128 .bf16 := Memref.whole cc0_scratch9
abbrev sc10 : Memref sig .tc .vmem S64x128 .fp8e4m3 := Memref.whole cc0_scratch10
abbrev sc11 : Memref sig .tc .vmem S8x8 .f32 := Memref.whole cc0_scratch11
abbrev sc12 : Memref sig .tc .vmem S64x128 .fp8e4m3 := Memref.whole cc0_scratch12
abbrev sc13 : Memref sig .tc .vmem S8x8 .f32 := Memref.whole cc0_scratch13
abbrev sc14 : Memref sig .tc .vmem S16x4x128 .f32 := Memref.whole cc0_scratch14
abbrev hb0 : Memref sig .tc .hbm S8 .i32 := Memref.whole main_arg7
abbrev hb1 : Memref sig .tc .hbm S8x64x128 .bf16 := Memref.whole main_v0
abbrev hb2 : Memref sig .tc .hbm S64x128 .bf16 := Memref.whole main_v1
abbrev hb3 : Memref sig .tc .hbm S64x128 .bf16 := Memref.whole main_v2
abbrev hb4 : Memref sig .tc .hbm S8x2x131072x128 .fp8e4m3 := Memref.whole main_v3
abbrev hb5 : Memref sig .tc .hbm S8x2x131072 .f32 := Memref.whole main_v4
abbrev hb6 : Memref sig .tc .hbm S8x2x131072x128 .fp8e4m3 := Memref.whole main_v5
abbrev hb7 : Memref sig .tc .hbm S8x2x131072 .f32 := Memref.whole main_v6
abbrev hb8 : Memref sig .tc .hbm S8x64x128 .bf16 := Memref.whole main_v7_0
abbrev hb9 : Memref sig .tc .hbm S64x128 .fp8e4m3 := Memref.whole main_v7_1
abbrev hb10 : Memref sig .tc .hbm S8x8 .f32 := Memref.whole main_v7_2
abbrev hb11 : Memref sig .tc .hbm S64x128 .fp8e4m3 := Memref.whole main_v7_3
abbrev hb12 : Memref sig .tc .hbm S8x8 .f32 := Memref.whole main_v7_4

/-- The contents of a memref's buffer on core `c`. -/
abbrev MBuf (c : Dev nD) {sp : Space} {S : Shape} {e : EltTy} (M : Memref sig .tc sp S e) : Type := Buf (Elt F) (M.view.loc (c : Thread nD τ))
/-- A memref's buffer on core `c` held whole at `f`. -/
abbrev mPt (c : Dev nD) {sp : Space} {S : Shape} {e : EltTy} (M : Memref sig .tc sp S e) (f : MBuf (F := F) c M) : sProp 𝕄 :=
  M.view.loc (c : Thread nD τ) ↦{fullShare} f
/-- A DMA cell of the pool at zero. -/
abbrev cellPt (c : Dev nD) (j : DmaSem sig) : sProp 𝕄 := semVal ((c : Thread nD τ), SemLoc.dma j) 0

/-- The scratch buffers at the contents given. -/
abbrev scrAt (c : Dev nD) (s0 : MBuf (F := F) c sc0) (s1 : MBuf (F := F) c sc1) (s2 : MBuf (F := F) c sc2) (s3 : MBuf (F := F) c sc3) (s4 : MBuf (F := F) c sc4) (s5 : MBuf (F := F) c sc5) (s6 : MBuf (F := F) c sc6) (s7 : MBuf (F := F) c sc7) (s8 : MBuf (F := F) c sc8) (s9 : MBuf (F := F) c sc9) (s10 : MBuf (F := F) c sc10) (s11 : MBuf (F := F) c sc11) (s12 : MBuf (F := F) c sc12) (s13 : MBuf (F := F) c sc13) (s14 : MBuf (F := F) c sc14) : sProp 𝕄 :=
  iprop(mPt c sc1 s1 ∗ mPt c sc2 s2 ∗ mPt c sc3 s3 ∗ mPt c sc4 s4 ∗ mPt c sc5 s5 ∗ mPt c sc6 s6 ∗ mPt c sc7 s7 ∗ mPt c sc8 s8 ∗ mPt c sc9 s9 ∗ mPt c sc10 s10 ∗ mPt c sc11 s11 ∗ mPt c sc12 s12 ∗ mPt c sc13 s13 ∗ mPt c sc14 s14 ∗ mPt c sc0 s0)
/-- The scratch buffers, each at some contents. -/
abbrev scr (c : Dev nD) : sProp 𝕄 :=
  iprop((∃ f, mPt c sc1 f) ∗ (∃ f, mPt c sc2 f) ∗ (∃ f, mPt c sc3 f) ∗ (∃ f, mPt c sc4 f) ∗ (∃ f, mPt c sc5 f) ∗ (∃ f, mPt c sc6 f) ∗ (∃ f, mPt c sc7 f) ∗ (∃ f, mPt c sc8 f) ∗ (∃ f, mPt c sc9 f) ∗ (∃ f, mPt c sc10 f) ∗ (∃ f, mPt c sc11 f) ∗ (∃ f, mPt c sc12 f) ∗ (∃ f, mPt c sc13 f) ∗ (∃ f, mPt c sc14 f) ∗ (∃ f, mPt c sc0 f))
/-- The 48 DMA cells at zero. -/
abbrev cellsZero (c : Dev nD) : sProp 𝕄 :=
  iprop(cellPt c 0 ∗ cellPt c 1 ∗ cellPt c 2 ∗ cellPt c 3 ∗ cellPt c 4 ∗ cellPt c 5 ∗ cellPt c 6 ∗ cellPt c 7 ∗ cellPt c 8 ∗ cellPt c 9 ∗ cellPt c 10 ∗ cellPt c 11 ∗ cellPt c 12 ∗ cellPt c 13 ∗ cellPt c 14 ∗ cellPt c 15 ∗ cellPt c 16 ∗ cellPt c 17 ∗ cellPt c 18 ∗ cellPt c 19 ∗ cellPt c 20 ∗ cellPt c 21 ∗ cellPt c 22 ∗ cellPt c 23 ∗ cellPt c 24 ∗ cellPt c 25 ∗ cellPt c 26 ∗ cellPt c 27 ∗ cellPt c 28 ∗ cellPt c 29 ∗ cellPt c 30 ∗ cellPt c 31 ∗ cellPt c 32 ∗ cellPt c 33 ∗ cellPt c 34 ∗ cellPt c 35 ∗ cellPt c 36 ∗ cellPt c 37 ∗ cellPt c 38 ∗ cellPt c 39 ∗ cellPt c 40 ∗ cellPt c 41 ∗ cellPt c 42 ∗ cellPt c 43 ∗ cellPt c 44 ∗ cellPt c 45 ∗ cellPt c 46 ∗ cellPt c 47)
/-- The inputs at the contents given. -/
abbrev ins (c : Dev nD) (g0 : MBuf (F := F) c hb0) (g1 : MBuf (F := F) c hb1) (g2 : MBuf (F := F) c hb2) (g3 : MBuf (F := F) c hb3) (g4 : MBuf (F := F) c hb4) (g5 : MBuf (F := F) c hb5) (g6 : MBuf (F := F) c hb6) (g7 : MBuf (F := F) c hb7) : sProp 𝕄 :=
  iprop(mPt c hb0 g0 ∗ mPt c hb1 g1 ∗ mPt c hb2 g2 ∗ mPt c hb3 g3 ∗ mPt c hb4 g4 ∗ mPt c hb5 g5 ∗ mPt c hb6 g6 ∗ mPt c hb7 g7)
/-- The body on the buffers the region hands it. -/
abbrev body : Prog (TpuEff nD τ sig (Elt F) Λ₀ .tc) PUnit :=
  cc0_window_attention hb0 (Memref.isWhole_whole _) hb1 (Memref.isWhole_whole _) hb2 (Memref.isWhole_whole _) hb3 (Memref.isWhole_whole _) hb4 (Memref.isWhole_whole _) hb5 (Memref.isWhole_whole _) hb6 (Memref.isWhole_whole _) hb7 (Memref.isWhole_whole _) hb8 (Memref.isWhole_whole _) hb9 (Memref.isWhole_whole _) hb10 (Memref.isWhole_whole _) hb11 (Memref.isWhole_whole _) hb12 (Memref.isWhole_whole _)
    sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) sc10 (Memref.isWhole_whole _) sc11 (Memref.isWhole_whole _) sc12 (Memref.isWhole_whole _) sc13 (Memref.isWhole_whole _) sc14 (Memref.isWhole_whole _) cc0_scratch15 cc0_scratch16 cc0_scratch17 cc0_scratch18 cc0_scratch19 cc0_scratch20 cc0_scratch21

set_option maxRecDepth 65536 in
set_option maxHeartbeats 40000000 in
/-- The body's triple for any continuation, with the five results' contents as functions of what every buffer held before. -/
noncomputable def kernelRun (c : Dev nD) (g0 : MBuf (F := F) c hb0) (g1 : MBuf (F := F) c hb1) (g2 : MBuf (F := F) c hb2) (g3 : MBuf (F := F) c hb3) (g4 : MBuf (F := F) c hb4) (g5 : MBuf (F := F) c hb5) (g6 : MBuf (F := F) c hb6) (g7 : MBuf (F := F) c hb7)
    (f8 : MBuf (F := F) c hb8) (f9 : MBuf (F := F) c hb9) (f10 : MBuf (F := F) c hb10) (f11 : MBuf (F := F) c hb11) (f12 : MBuf (F := F) c hb12)
    (s0 : MBuf (F := F) c sc0) (s1 : MBuf (F := F) c sc1) (s2 : MBuf (F := F) c sc2) (s3 : MBuf (F := F) c sc3) (s4 : MBuf (F := F) c sc4) (s5 : MBuf (F := F) c sc5) (s6 : MBuf (F := F) c sc6) (s7 : MBuf (F := F) c sc7) (s8 : MBuf (F := F) c sc8) (s9 : MBuf (F := F) c sc9) (s10 : MBuf (F := F) c sc10) (s11 : MBuf (F := F) c sc11) (s12 : MBuf (F := F) c sc12) (s13 : MBuf (F := F) c sc13) (s14 : MBuf (F := F) c sc14) :
    { G : MBuf (F := F) c hb8 × MBuf (F := F) c hb9 × MBuf (F := F) c hb10 × MBuf (F := F) c hb11 × MBuf (F := F) c hb12 //
      ∀ (W : Waits sig Unit) (K : PUnit → sProp 𝕄),
        iprop(scrAt c s0 s1 s2 s3 s4 s5 s6 s7 s8 s9 s10 s11 s12 s13 s14 ∗ cellsZero c ∗ ins c g0 g1 g2 g3 g4 g5 g6 g7 ∗ mPt c hb8 f8 ∗ mPt c hb9 f9 ∗ mPt c hb10 f10 ∗ mPt c hb11 f11 ∗ mPt c hb12 f12
          ∗ owes (c : Thread nD τ) 0 W
          ∗ (iprop(scr c ∗ cellsZero c ∗ ins c g0 g1 g2 g3 g4 g5 g6 g7 ∗ mPt c hb8 G.1 ∗ mPt c hb9 G.2.1 ∗ mPt c hb10 G.2.2.1 ∗ mPt c hb11 G.2.2.2.1 ∗ mPt c hb12 G.2.2.2.2
              ∗ (∃ W', owes (c : Thread nD τ) 0 W')) -∗ K ⟨⟩))
          ⊢ wp frame (wpE (defs₀ (F := F)) Variants.none c none) Set.univ (body (F := F)) K } := by
  have h1 := chk1; have h2 := chk2; have h3 := chk3; have h4 := chk4
  have h5 := chk5; have h6 := chk6; have h7 := chk7; have h8 := chk8
  refine ⟨(?_, ?_, ?_, ?_, ?_), fun W K => ?run⟩
  case run =>
    unfold body
    simp only [cc0_window_attention_eq_skeleton]; unfold cc0_window_attention_skel
    iintro ⟨⟨HS1, HS2, HS3, HS4, HS5, HS6, HS7, HS8, HS9, HS10, HS11, HS12, HS13, HS14, HS0⟩, ⟨Hq0, Hq1, Hq2, Hq3, Hq4, Hq5, Hq6, Hq7, Hq8, Hq9, Hq10, Hq11, Hq12, Hq13, Hq14, Hq15, Hq16, Hq17, Hq18, Hq19, Hq20, Hq21, Hq22, Hq23, Hq24, Hq25, Hq26, Hq27, Hq28, Hq29, Hq30, Hq31, Hq32, Hq33, Hq34, Hq35, Hq36, Hq37, Hq38, Hq39, Hq40, Hq41, Hq42, Hq43, Hq44, Hq45, Hq46, Hq47⟩, ⟨Hh0, Hh1, Hh2, Hh3, Hh4, Hh5, Hh6, Hh7⟩, Hh8, Hh9, Hh10, Hh11, Hh12, HW, Hk⟩
    set_option sl_exec.rejoinFuel 400 in
    set_option sl_exec.dmaWindow true in
    set_option sl_exec.dmaWindowSet true in
    set_option sl_exec.dmaWindowLent true in
    sl_exec_parts
    sl_step
    iapply Hk
    isplitl [HS1 HS2 HS3 HS4 HS5 HS6 HS7 HS8 HS9 HS10 HS11 HS12 HS13 HS14 HS0]
    · isplitl [HS1]; · iexists _; iexact HS1
      isplitl [HS2]; · iexists _; iexact HS2
      isplitl [HS3]; · iexists _; iexact HS3
      isplitl [HS4]; · iexists _; iexact HS4
      isplitl [HS5]; · iexists _; iexact HS5
      isplitl [HS6]; · iexists _; iexact HS6
      isplitl [HS7]; · iexists _; iexact HS7
      isplitl [HS8]; · iexists _; iexact HS8
      isplitl [HS9]; · iexists _; iexact HS9
      isplitl [HS10]; · iexists _; iexact HS10
      isplitl [HS11]; · iexists _; iexact HS11
      isplitl [HS12]; · iexists _; iexact HS12
      isplitl [HS13]; · iexists _; iexact HS13
      isplitl [HS14]; · iexists _; iexact HS14
      iexists _; iexact HS0
    isplitl [Hq0 Hq1 Hq2 Hq3 Hq4 Hq5 Hq6 Hq7 Hq8 Hq9 Hq10 Hq11 Hq12 Hq13 Hq14 Hq15 Hq16 Hq17 Hq18 Hq19 Hq20 Hq21 Hq22 Hq23 Hq24 Hq25 Hq26 Hq27 Hq28 Hq29 Hq30 Hq31 Hq32 Hq33 Hq34 Hq35 Hq36 Hq37 Hq38 Hq39 Hq40 Hq41 Hq42 Hq43 Hq44 Hq45 Hq46 Hq47]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      isplitl [Hq10]; · iexact Hq10
      isplitl [Hq11]; · iexact Hq11
      isplitl [Hq12]; · iexact Hq12
      isplitl [Hq13]; · iexact Hq13
      isplitl [Hq14]; · iexact Hq14
      isplitl [Hq15]; · iexact Hq15
      isplitl [Hq16]; · iexact Hq16
      isplitl [Hq17]; · iexact Hq17
      isplitl [Hq18]; · iexact Hq18
      isplitl [Hq19]; · iexact Hq19
      isplitl [Hq20]; · iexact Hq20
      isplitl [Hq21]; · iexact Hq21
      isplitl [Hq22]; · iexact Hq22
      isplitl [Hq23]; · iexact Hq23
      isplitl [Hq24]; · iexact Hq24
      isplitl [Hq25]; · iexact Hq25
      isplitl [Hq26]; · iexact Hq26
      isplitl [Hq27]; · iexact Hq27
      isplitl [Hq28]; · iexact Hq28
      isplitl [Hq29]; · iexact Hq29
      isplitl [Hq30]; · iexact Hq30
      isplitl [Hq31]; · iexact Hq31
      isplitl [Hq32]; · iexact Hq32
      isplitl [Hq33]; · iexact Hq33
      isplitl [Hq34]; · iexact Hq34
      isplitl [Hq35]; · iexact Hq35
      isplitl [Hq36]; · iexact Hq36
      isplitl [Hq37]; · iexact Hq37
      isplitl [Hq38]; · iexact Hq38
      isplitl [Hq39]; · iexact Hq39
      isplitl [Hq40]; · iexact Hq40
      isplitl [Hq41]; · iexact Hq41
      isplitl [Hq42]; · iexact Hq42
      isplitl [Hq43]; · iexact Hq43
      isplitl [Hq44]; · iexact Hq44
      isplitl [Hq45]; · iexact Hq45
      isplitl [Hq46]; · iexact Hq46
      iexact Hq47
    isplitl [Hh0 Hh1 Hh2 Hh3 Hh4 Hh5 Hh6 Hh7]
    · isplitl [Hh0]; · iexact Hh0
      isplitl [Hh1]; · iexact Hh1
      isplitl [Hh2]; · iexact Hh2
      isplitl [Hh3]; · iexact Hh3
      isplitl [Hh4]; · iexact Hh4
      isplitl [Hh5]; · iexact Hh5
      isplitl [Hh6]; · iexact Hh6
      iexact Hh7
    isplitl [Hh8]; · iexact Hh8
    isplitl [Hh9]; · iexact Hh9
    isplitl [Hh10]; · iexact Hh10
    isplitl [Hh11]; · iexact Hh11
    isplitl [Hh12]; · iexact Hh12
    iexists _; iexact HW

end Cert.Kernel.Hand

end
-- ==== Proof.KernelFrame.lean ====
/- The kernel's frame: every run of @main terminates, nothing faults, the eight arguments end as launched and every semaphore
   counter ends at zero. -/
module

public import proofs.«01_k».proof.Proof.KernelBody

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [BitOps F] [∀ e, Nonempty (Elt F e)]

local notation "𝕄" => MT nD τ sig Unit (Elt F) ℕ (Pipeline.UD sig nD τ) ℕ

variable (m : (ℓ : Loc nD τ sig) → Buf (Elt F) ℓ) (ρ : Dev nD → PrngReg)

/-! ## The invariant, conjunct by conjunct -/

/-- The kernel's 48 DMA cells, by their numbers in the pool. -/
abbrev osem0 : Fin 48 → SemLoc sig := fun j => SemLoc.dma j
theorem ownSemFacts0 : Pipeline.OwnSemFacts cfg0.spec osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = cellsZero c := by
  rw [Pipeline.ownSems0_eq_of_list c osem0 (List.finRange 48) (by decide) (by decide)]; rfl
/-- The inputs and the results, left in HBM. -/
def H0 : Finset (Ref sig .tc) := {main_arg7, main_v0, main_v1, main_v2, main_v3, main_v4, main_v5, main_v6}
def R0 : Finset (Ref sig .tc) := {main_v7_0, main_v7_1, main_v7_2, main_v7_3, main_v7_4}
/-- What the host lines after the region write. -/
def T0 : Finset (Ref sig .tc) := {main_v8, main_v9, main_v10, main_v11, main_v12, main_v13, main_v14, main_v15, main_v16, main_v17, main_v18}
theorem H0_sub : H0 ⊆ Pipeline.restRefs sig cfg0.spec := by decide
theorem R0_sub : R0 ⊆ Pipeline.restRefs sig cfg0.spec \ H0 := by decide
theorem hbmPts0_eq (c : Dev nD) :
    (bigSep H0 (fun b => ((c : Thread nD τ).loc b) ↦{fullShare} V m c b) : sProp 𝕄) = ins c (V m c main_arg7) (V m c main_v0) (V m c main_v1) (V m c main_v2) (V m c main_v3) (V m c main_v4) (V m c main_v5) (V m c main_v6) := by
  rw [BI.bigSep_eq_bigSepL_of_eq [main_arg7, main_v0, main_v1, main_v2, main_v3, main_v4, main_v5, main_v6] (by decide) (by decide)]; rfl
theorem ownedPts0_eq (c : Dev nD) :
    (Pipeline.owned R0 c : sProp 𝕄) = iprop((∃ f, mPt c hb8 f) ∗ (∃ f, mPt c hb9 f) ∗ (∃ f, mPt c hb10 f) ∗ (∃ f, mPt c hb11 f) ∗ (∃ f, mPt c hb12 f)) := by
  unfold Pipeline.owned; rw [BI.bigSep_eq_bigSepL_of_eq [main_v7_0, main_v7_1, main_v7_2, main_v7_3, main_v7_4] (by decide) (by decide)]; rfl

theorem PhiDR0_eq (c : Dev nD) :
    (Pipeline.ΦDR osem0 (cfg0.spec) H0 R0 (V m) c : sProp 𝕄)
      = iprop(scr c ∗ (∃ r, prngReg c r) ∗ cellsZero c ∗ ins c (V m c main_arg7) (V m c main_v0) (V m c main_v1) (V m c main_v2) (V m c main_v3) (V m c main_v4) (V m c main_v5) (V m c main_v6)
          ∗ iprop((∃ f, mPt c hb8 f) ∗ (∃ f, mPt c hb9 f) ∗ (∃ f, mPt c hb10 f) ∗ (∃ f, mPt c hb11 f) ∗ (∃ f, mPt c hb12 f))) := by
  rw [Pipeline.ΦDR_eq, scopedRest0_eq, ownSems00_eq, hbmPts0_eq, ownedPts0_eq]

/-! ## The proof data and the body obligation -/

def dats (_ : Fin 1) (c : Dev nD) : Dat τ (Elt F) Unit ℕ (Pipeline.UD sig nD τ) ℕ cfg0 c where
  A w := V m c (Pipeline.arrRef cfg0.spec w)
  after w t := Pipeline.Dat.unnamed (cfg := cfg0) w t
  Φ _ := Pipeline.ΦDR osem0 (cfg0.spec) H0 R0 (V m) c
  q _ := fullShare
  owed _ := 0

theorem A_eq (c : Dev nD) (w : Fin cfg0.W) : (dats m 0 c).A w = V m c (Pipeline.arrRef cfg0.spec w) := by dsimp only [dats]

def bodyPre (c : Dev nD) (t : Fin cfg0.N) : sProp 𝕄 :=
  iprop((dats m 0 c).Φ t.castSucc ∗ (dats m 0 c).owesAt () t.castSucc ∗ emp)
def bodyPost (c : Dev nD) (t : Fin cfg0.N) : sProp 𝕄 :=
  iprop((dats m 0 c).Φ t.succ ∗ (dats m 0 c).owesAt () t.succ ∗ emp)

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    show (dats m 0 c).Φ t.castSucc = Pipeline.ΦDR osem0 (cfg0.spec) H0 R0 (V m) c from rfl, PhiDR0_eq]
  unfold Dat.owesAt Pipeline.owesWithin
  rw [show (dats m 0 c).owed t.castSucc = 0 from rfl]
  iintro ⟨⟨⟨⟨%s1, HS1⟩, ⟨%s2, HS2⟩, ⟨%s3, HS3⟩, ⟨%s4, HS4⟩, ⟨%s5, HS5⟩, ⟨%s6, HS6⟩, ⟨%s7, HS7⟩, ⟨%s8, HS8⟩, ⟨%s9, HS9⟩, ⟨%s10, HS10⟩, ⟨%s11, HS11⟩, ⟨%s12, HS12⟩, ⟨%s13, HS13⟩, ⟨%s14, HS14⟩, ⟨%s0, HS0⟩⟩, Hg, HC, HI, ⟨⟨%f8, HR8⟩, ⟨%f9, HR9⟩, ⟨%f10, HR10⟩, ⟨%f11, HR11⟩, ⟨%f12, HR12⟩⟩⟩, ⟨%W, %hW, HO⟩, -⟩
  iapply ((kernelRun c (V m c main_arg7) (V m c main_v0) (V m c main_v1) (V m c main_v2) (V m c main_v3) (V m c main_v4) (V m c main_v5) (V m c main_v6) f8 f9 f10 f11 f12 s0 s1 s2 s3 s4 s5 s6 s7 s8 s9 s10 s11 s12 s13 s14).2 W _)
  isplitl [HS1 HS2 HS3 HS4 HS5 HS6 HS7 HS8 HS9 HS10 HS11 HS12 HS13 HS14 HS0]
  · isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexact HS8
    isplitl [HS9]; · iexact HS9
    isplitl [HS10]; · iexact HS10
    isplitl [HS11]; · iexact HS11
    isplitl [HS12]; · iexact HS12
    isplitl [HS13]; · iexact HS13
    isplitl [HS14]; · iexact HS14
    iexact HS0
  isplitl [HC]; · iexact HC
  isplitl [HI]; · iexact HI
  isplitl [HR8]; · iexact HR8
  isplitl [HR9]; · iexact HR9
  isplitl [HR10]; · iexact HR10
  isplitl [HR11]; · iexact HR11
  isplitl [HR12]; · iexact HR12
  isplitl [HO]; · iexact HO
  iintro ⟨HS, HC, HI, HR8, HR9, HR10, HR11, HR12, ⟨%W', HO⟩⟩
  isplitl [HS Hg HC HI HR8 HR9 HR10 HR11 HR12]
  · isplitl [HS]; · iexact HS
    isplitl [Hg]; · iexact Hg
    isplitl [HC]; · iexact HC
    isplitl [HI]; · iexact HI
    isplitl [HR8]; · iexists _; iexact HR8
    isplitl [HR9]; · iexists _; iexact HR9
    isplitl [HR10]; · iexists _; iexact HR10
    isplitl [HR11]; · iexists _; iexact HR11
    iexists _; iexact HR12
  isplitl [HO]
  · iexists W'; isplitr; · ipureintro; exact fun _ _ => Or.inl trivial
    iexact HO
  iempintro

theorem defs₀_row (t : Fin cfg0.N) : defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ := fun t => by
  rw [Finset.univ_eq_empty, bigSep_empty, bigSep_empty, defs₀_row]
  exact triple_restated (sound_body m c t) rfl .rfl fun _ => .rfl

/-! ## The launch -/

/-- @main around the region, at the algebra the transfers run in. -/
theorem hmainD (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  simp only [hostOps1, List.mem_cons, List.mem_nil_iff, or_false] at hop
  rcases hop with rfl | rfl | rfl | rfl | rfl | rfl | rfl | rfl | rfl | rfl | rfl
  all_goals
    intro b hb
    simp only [StableHlo.unary_writes, StableHlo.reshape_writes, Finset.mem_singleton] at hb
    rw [Proc.devRef_injective _ hb]
    decide

set_option backward.isDefEq.respectTransparency.types false in
/-- Every run of @main ends with every buffer but the results and the tail's at its contents when the region began, and every
    counter at zero. -/
theorem run_main :
    θ_run defs (onTc (τ := τ) (main (F := F))) (s₀ m ρ)
      (fun r => Pipeline.FramePostR cfgs (dats m) 0 (R0 ∪ T0) (V m) r ∧ r.2.sem = fun _ => 0) :=
  Pipeline.θ_run_frame_dmaR_around (Q' := _) cfgs (dats m) (0 : Fin 1) launch0 osem0 defs₀ Variants.none ownSemFacts0 H0 R0 T0 H0_sub R0_sub m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hT := sfx_writes) (hmain := hmainD m Variants.none) (hA := fun _ w => w.elim0)
    (hin := fun _ => .rfl) (hout := fun _ => .rfl) (hQ' := fun _ h => h)

/-- The frame: the arguments unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun r h => ⟨fun c => ⟨((h.1 c).2 main_arg0 (by decide)).trans (V_main_arg0 m c), ((h.1 c).2 main_arg1 (by decide)).trans (V_main_arg1 m c), ((h.1 c).2 main_arg2 (by decide)).trans (V_main_arg2 m c), ((h.1 c).2 main_arg3 (by decide)).trans (V_main_arg3 m c), ((h.1 c).2 main_arg4 (by decide)).trans (V_main_arg4 m c), ((h.1 c).2 main_arg5 (by decide)).trans (V_main_arg5 m c), ((h.1 c).2 main_arg6 (by decide)).trans (V_main_arg6 m c), ((h.1 c).2 main_arg7 (by decide)).trans (V_main_arg7 m c)⟩, h.2⟩) (run_main m ρ)

end Cert.Kernel.Hand

end
-- ==== Proof.KernelIdealChecks.lean ====
/- The side conditions the kernel assumes of the eight cache lengths it reads hold of every word. -/
module

public import proofs.«01_k».proof.Proof.Words
public import proofs.«01_k».proof.Proof.Gen.KernelIdeal

@[expose] public section

namespace Cert.KernelIdeal.Hand

open Cert.Words Cert.KernelIdeal Idealize.ShloMosaic

theorem inb3 (b : ℕ) (hb : b < 8) (n : BitVec 32) :
    ∀ a, (![b, 0, (laneLo n).toNat] : Fin 3 → ℕ) a + S1x2x1152.size a ≤ S8x2x131072.size a := by
  have := laneLo_le n
  intro a; fin_cases a
  · show b + 1 ≤ 8; omega
  · exact Nat.le_refl 2
  · show (laneLo n).toNat + 1152 ≤ 131072; omega
theorem inb4 (b : ℕ) (hb : b < 8) (n : BitVec 32) :
    ∀ a, (![b, 0, (lo n).toNat, 0] : Fin 4 → ℕ) a + S1x2x1056x128.size a ≤ S8x2x131072x128.size a := by
  have := lo_le n
  intro a; fin_cases a
  · show b + 1 ≤ 8; omega
  · exact Nat.le_refl 2
  · show (lo n).toNat + 1056 ≤ 131072; omega
  · exact Nat.le_refl 128
theorem words4 (b : ℕ) (n : BitVec 32) (h : ∀ a, (![b, 0, (lo n).toNat, 0] : Fin 4 → ℕ) a + S1x2x1056x128.size a ≤ S8x2x131072x128.size a) :
    (Rect.unit (s := S8x2x131072x128) ![b, 0, (lo n).toNat, 0] S1x2x1056x128.size h).WholeWords (EltTy.packing .fp8e4m3) := by
  refine Rect.PackedRows.wholeWords (Or.inr ⟨by decide, rfl, Or.inl ⟨?_, ?_⟩⟩)
  · exact Nat.dvd_trans (by decide : EltTy.packing .fp8e4m3 ∣ 32) (lo_dvd n)
  · show 4 ∣ 1056; decide

theorem chk1 (n : BitVec 32) : k0_chk1 n :=
  ⟨lo_dvd n, laneLo_dvd n, inb3 0 (by decide) n, inb4 0 (by decide) n, fun h => words4 0 n h, inb3 0 (by decide) n, inb4 0 (by decide) n, fun h => words4 0 n h⟩
theorem chk2 (n : BitVec 32) : k0_chk2 n :=
  ⟨lo_dvd n, laneLo_dvd n, inb3 1 (by decide) n, inb4 1 (by decide) n, fun h => words4 1 n h, inb3 1 (by decide) n, inb4 1 (by decide) n, fun h => words4 1 n h⟩
theorem chk3 (n : BitVec 32) : k0_chk3 n :=
  ⟨lo_dvd n, laneLo_dvd n, inb3 2 (by decide) n, inb4 2 (by decide) n, fun h => words4 2 n h, inb3 2 (by decide) n, inb4 2 (by decide) n, fun h => words4 2 n h⟩
theorem chk4 (n : BitVec 32) : k0_chk4 n :=
  ⟨lo_dvd n, laneLo_dvd n, inb3 3 (by decide) n, inb4 3 (by decide) n, fun h => words4 3 n h, inb3 3 (by decide) n, inb4 3 (by decide) n, fun h => words4 3 n h⟩
theorem chk5 (n : BitVec 32) : k0_chk5 n :=
  ⟨lo_dvd n, laneLo_dvd n, inb3 4 (by decide) n, inb4 4 (by decide) n, fun h => words4 4 n h, inb3 4 (by decide) n, inb4 4 (by decide) n, fun h => words4 4 n h⟩
theorem chk6 (n : BitVec 32) : k0_chk6 n :=
  ⟨lo_dvd n, laneLo_dvd n, inb3 5 (by decide) n, inb4 5 (by decide) n, fun h => words4 5 n h, inb3 5 (by decide) n, inb4 5 (by decide) n, fun h => words4 5 n h⟩
theorem chk7 (n : BitVec 32) : k0_chk7 n :=
  ⟨lo_dvd n, laneLo_dvd n, inb3 6 (by decide) n, inb4 6 (by decide) n, fun h => words4 6 n h, inb3 6 (by decide) n, inb4 6 (by decide) n, fun h => words4 6 n h⟩
theorem chk8 (n : BitVec 32) : k0_chk8 n :=
  ⟨lo_dvd n, laneLo_dvd n, inb3 7 (by decide) n, inb4 7 (by decide) n, fun h => words4 7 n h⟩

end Cert.KernelIdeal.Hand
-- ==== Proof.KernelIdealBody.lean ====
/- The kernel's body, run once: from its eight inputs and five results left in HBM, its fifteen scratch buffers and its 48 DMA cells
   at zero, it ends with the inputs unchanged, the cells at zero, and the results at the contents the run finds. -/
module

public import proofs.«01_k».proof.Proof.KernelIdealChecks
public import proofs.«01_k».proof.Proof.Gen.KernelIdeal.Frame
public import proofs.«01_k».proof.Proof.Gen.KernelIdeal.Skeleton
public import Idealize.ShloMosaic.Lib.Pipeline.FrameSuffixV
public import Idealize.ShloMosaic.Lib.Tactic
public import Idealize.ShloMosaic.Lib.Transfers

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F] [∀ e, Nonempty (Elt F e)]

local notation "𝕄" => MT nD τ sig Unit (Elt F) ℕ (Pipeline.UD sig nD τ) ℕ

/-! ## The buffers the body is handed -/

abbrev sc0 : Memref sig .tc .smem S8 .i32 := Memref.whole cc0_scratch0
abbrev sc1 : Memref sig .tc .vmem S8x64x128 .bf16 := Memref.whole cc0_scratch1
abbrev sc2 : Memref sig .tc .vmem S64x128 .bf16 := Memref.whole cc0_scratch2
abbrev sc3 : Memref sig .tc .vmem S64x128 .bf16 := Memref.whole cc0_scratch3
abbrev sc4 : Memref sig .tc .vmem S8x2x1088x128 .fp8e4m3 := Memref.whole cc0_scratch4
abbrev sc5 : Memref sig .tc .vmem S8x2x1088x128 .fp8e4m3 := Memref.whole cc0_scratch5
abbrev sc6 : Memref sig .tc .vmem S8x2x1152 .f32 := Memref.whole cc0_scratch6
abbrev sc7 : Memref sig .tc .vmem S8x2x1152 .f32 := Memref.whole cc0_scratch7
abbrev sc8 : Memref sig .tc .vmem S8x64x128 .f32 := Memref.whole cc0_scratch8
abbrev sc9 : Memref sig .tc .vmem S8x64x128 .bf16 := Memref.whole cc0_scratch9
abbrev sc10 : Memref sig .tc .vmem S64x128 .fp8e4m3 := Memref.whole cc0_scratch10
abbrev sc11 : Memref sig .tc .vmem S8x8 .f32 := Memref.whole cc0_scratch11
abbrev sc12 : Memref sig .tc .vmem S64x128 .fp8e4m3 := Memref.whole cc0_scratch12
abbrev sc13 : Memref sig .tc .vmem S8x8 .f32 := Memref.whole cc0_scratch13
abbrev sc14 : Memref sig .tc .vmem S16x4x128 .f32 := Memref.whole cc0_scratch14
abbrev hb0 : Memref sig .tc .hbm S8 .i32 := Memref.whole main_arg7
abbrev hb1 : Memref sig .tc .hbm S8x64x128 .bf16 := Memref.whole main_v0
abbrev hb2 : Memref sig .tc .hbm S64x128 .bf16 := Memref.whole main_v1
abbrev hb3 : Memref sig .tc .hbm S64x128 .bf16 := Memref.whole main_v2
abbrev hb4 : Memref sig .tc .hbm S8x2x131072x128 .fp8e4m3 := Memref.whole main_v3
abbrev hb5 : Memref sig .tc .hbm S8x2x131072 .f32 := Memref.whole main_v4
abbrev hb6 : Memref sig .tc .hbm S8x2x131072x128 .fp8e4m3 := Memref.whole main_v5
abbrev hb7 : Memref sig .tc .hbm S8x2x131072 .f32 := Memref.whole main_v6
abbrev hb8 : Memref sig .tc .hbm S8x64x128 .bf16 := Memref.whole main_v7_0
abbrev hb9 : Memref sig .tc .hbm S64x128 .fp8e4m3 := Memref.whole main_v7_1
abbrev hb10 : Memref sig .tc .hbm S8x8 .f32 := Memref.whole main_v7_2
abbrev hb11 : Memref sig .tc .hbm S64x128 .fp8e4m3 := Memref.whole main_v7_3
abbrev hb12 : Memref sig .tc .hbm S8x8 .f32 := Memref.whole main_v7_4

/-- The contents of a memref's buffer on core `c`. -/
abbrev MBuf (c : Dev nD) {sp : Space} {S : Shape} {e : EltTy} (M : Memref sig .tc sp S e) : Type := Buf (Elt F) (M.view.loc (c : Thread nD τ))
/-- A memref's buffer on core `c` held whole at `f`. -/
abbrev mPt (c : Dev nD) {sp : Space} {S : Shape} {e : EltTy} (M : Memref sig .tc sp S e) (f : MBuf (F := F) c M) : sProp 𝕄 :=
  M.view.loc (c : Thread nD τ) ↦{fullShare} f
/-- A DMA cell of the pool at zero. -/
abbrev cellPt (c : Dev nD) (j : DmaSem sig) : sProp 𝕄 := semVal ((c : Thread nD τ), SemLoc.dma j) 0

/-- The scratch buffers at the contents given. -/
abbrev scrAt (c : Dev nD) (s0 : MBuf (F := F) c sc0) (s1 : MBuf (F := F) c sc1) (s2 : MBuf (F := F) c sc2) (s3 : MBuf (F := F) c sc3) (s4 : MBuf (F := F) c sc4) (s5 : MBuf (F := F) c sc5) (s6 : MBuf (F := F) c sc6) (s7 : MBuf (F := F) c sc7) (s8 : MBuf (F := F) c sc8) (s9 : MBuf (F := F) c sc9) (s10 : MBuf (F := F) c sc10) (s11 : MBuf (F := F) c sc11) (s12 : MBuf (F := F) c sc12) (s13 : MBuf (F := F) c sc13) (s14 : MBuf (F := F) c sc14) : sProp 𝕄 :=
  iprop(mPt c sc1 s1 ∗ mPt c sc2 s2 ∗ mPt c sc3 s3 ∗ mPt c sc4 s4 ∗ mPt c sc5 s5 ∗ mPt c sc6 s6 ∗ mPt c sc7 s7 ∗ mPt c sc8 s8 ∗ mPt c sc9 s9 ∗ mPt c sc10 s10 ∗ mPt c sc11 s11 ∗ mPt c sc12 s12 ∗ mPt c sc13 s13 ∗ mPt c sc14 s14 ∗ mPt c sc0 s0)
/-- The scratch buffers, each at some contents. -/
abbrev scr (c : Dev nD) : sProp 𝕄 :=
  iprop((∃ f, mPt c sc1 f) ∗ (∃ f, mPt c sc2 f) ∗ (∃ f, mPt c sc3 f) ∗ (∃ f, mPt c sc4 f) ∗ (∃ f, mPt c sc5 f) ∗ (∃ f, mPt c sc6 f) ∗ (∃ f, mPt c sc7 f) ∗ (∃ f, mPt c sc8 f) ∗ (∃ f, mPt c sc9 f) ∗ (∃ f, mPt c sc10 f) ∗ (∃ f, mPt c sc11 f) ∗ (∃ f, mPt c sc12 f) ∗ (∃ f, mPt c sc13 f) ∗ (∃ f, mPt c sc14 f) ∗ (∃ f, mPt c sc0 f))
/-- The 48 DMA cells at zero. -/
abbrev cellsZero (c : Dev nD) : sProp 𝕄 :=
  iprop(cellPt c 0 ∗ cellPt c 1 ∗ cellPt c 2 ∗ cellPt c 3 ∗ cellPt c 4 ∗ cellPt c 5 ∗ cellPt c 6 ∗ cellPt c 7 ∗ cellPt c 8 ∗ cellPt c 9 ∗ cellPt c 10 ∗ cellPt c 11 ∗ cellPt c 12 ∗ cellPt c 13 ∗ cellPt c 14 ∗ cellPt c 15 ∗ cellPt c 16 ∗ cellPt c 17 ∗ cellPt c 18 ∗ cellPt c 19 ∗ cellPt c 20 ∗ cellPt c 21 ∗ cellPt c 22 ∗ cellPt c 23 ∗ cellPt c 24 ∗ cellPt c 25 ∗ cellPt c 26 ∗ cellPt c 27 ∗ cellPt c 28 ∗ cellPt c 29 ∗ cellPt c 30 ∗ cellPt c 31 ∗ cellPt c 32 ∗ cellPt c 33 ∗ cellPt c 34 ∗ cellPt c 35 ∗ cellPt c 36 ∗ cellPt c 37 ∗ cellPt c 38 ∗ cellPt c 39 ∗ cellPt c 40 ∗ cellPt c 41 ∗ cellPt c 42 ∗ cellPt c 43 ∗ cellPt c 44 ∗ cellPt c 45 ∗ cellPt c 46 ∗ cellPt c 47)
/-- The inputs at the contents given. -/
abbrev ins (c : Dev nD) (g0 : MBuf (F := F) c hb0) (g1 : MBuf (F := F) c hb1) (g2 : MBuf (F := F) c hb2) (g3 : MBuf (F := F) c hb3) (g4 : MBuf (F := F) c hb4) (g5 : MBuf (F := F) c hb5) (g6 : MBuf (F := F) c hb6) (g7 : MBuf (F := F) c hb7) : sProp 𝕄 :=
  iprop(mPt c hb0 g0 ∗ mPt c hb1 g1 ∗ mPt c hb2 g2 ∗ mPt c hb3 g3 ∗ mPt c hb4 g4 ∗ mPt c hb5 g5 ∗ mPt c hb6 g6 ∗ mPt c hb7 g7)
/-- The body on the buffers the region hands it. -/
abbrev body : Prog (TpuEff nD τ sig (Elt F) Λ₀ .tc) PUnit :=
  cc0_window_attention hb0 (Memref.isWhole_whole _) hb1 (Memref.isWhole_whole _) hb2 (Memref.isWhole_whole _) hb3 (Memref.isWhole_whole _) hb4 (Memref.isWhole_whole _) hb5 (Memref.isWhole_whole _) hb6 (Memref.isWhole_whole _) hb7 (Memref.isWhole_whole _) hb8 (Memref.isWhole_whole _) hb9 (Memref.isWhole_whole _) hb10 (Memref.isWhole_whole _) hb11 (Memref.isWhole_whole _) hb12 (Memref.isWhole_whole _)
    sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) sc10 (Memref.isWhole_whole _) sc11 (Memref.isWhole_whole _) sc12 (Memref.isWhole_whole _) sc13 (Memref.isWhole_whole _) sc14 (Memref.isWhole_whole _) cc0_scratch15 cc0_scratch16 cc0_scratch17 cc0_scratch18 cc0_scratch19 cc0_scratch20 cc0_scratch21

set_option maxRecDepth 65536 in
set_option maxHeartbeats 40000000 in
/-- The body's triple for any continuation, with the five results' contents as functions of what every buffer held before. -/
noncomputable def kernelRun (c : Dev nD) (g0 : MBuf (F := F) c hb0) (g1 : MBuf (F := F) c hb1) (g2 : MBuf (F := F) c hb2) (g3 : MBuf (F := F) c hb3) (g4 : MBuf (F := F) c hb4) (g5 : MBuf (F := F) c hb5) (g6 : MBuf (F := F) c hb6) (g7 : MBuf (F := F) c hb7)
    (f8 : MBuf (F := F) c hb8) (f9 : MBuf (F := F) c hb9) (f10 : MBuf (F := F) c hb10) (f11 : MBuf (F := F) c hb11) (f12 : MBuf (F := F) c hb12)
    (s0 : MBuf (F := F) c sc0) (s1 : MBuf (F := F) c sc1) (s2 : MBuf (F := F) c sc2) (s3 : MBuf (F := F) c sc3) (s4 : MBuf (F := F) c sc4) (s5 : MBuf (F := F) c sc5) (s6 : MBuf (F := F) c sc6) (s7 : MBuf (F := F) c sc7) (s8 : MBuf (F := F) c sc8) (s9 : MBuf (F := F) c sc9) (s10 : MBuf (F := F) c sc10) (s11 : MBuf (F := F) c sc11) (s12 : MBuf (F := F) c sc12) (s13 : MBuf (F := F) c sc13) (s14 : MBuf (F := F) c sc14) :
    { G : MBuf (F := F) c hb8 × MBuf (F := F) c hb9 × MBuf (F := F) c hb10 × MBuf (F := F) c hb11 × MBuf (F := F) c hb12 //
      ∀ (W : Waits sig Unit) (K : PUnit → sProp 𝕄),
        iprop(scrAt c s0 s1 s2 s3 s4 s5 s6 s7 s8 s9 s10 s11 s12 s13 s14 ∗ cellsZero c ∗ ins c g0 g1 g2 g3 g4 g5 g6 g7 ∗ mPt c hb8 f8 ∗ mPt c hb9 f9 ∗ mPt c hb10 f10 ∗ mPt c hb11 f11 ∗ mPt c hb12 f12
          ∗ owes (c : Thread nD τ) 0 W
          ∗ (iprop(scr c ∗ cellsZero c ∗ ins c g0 g1 g2 g3 g4 g5 g6 g7 ∗ mPt c hb8 G.1 ∗ mPt c hb9 G.2.1 ∗ mPt c hb10 G.2.2.1 ∗ mPt c hb11 G.2.2.2.1 ∗ mPt c hb12 G.2.2.2.2
              ∗ (∃ W', owes (c : Thread nD τ) 0 W')) -∗ K ⟨⟩))
          ⊢ wp frame (wpE (defs₀ (F := F)) Variants.none c none) Set.univ (body (F := F)) K } := by
  have h1 := chk1; have h2 := chk2; have h3 := chk3; have h4 := chk4
  have h5 := chk5; have h6 := chk6; have h7 := chk7; have h8 := chk8
  refine ⟨(?_, ?_, ?_, ?_, ?_), fun W K => ?run⟩
  case run =>
    unfold body
    simp only [cc0_window_attention_eq_skeleton]; unfold cc0_window_attention_skel
    iintro ⟨⟨HS1, HS2, HS3, HS4, HS5, HS6, HS7, HS8, HS9, HS10, HS11, HS12, HS13, HS14, HS0⟩, ⟨Hq0, Hq1, Hq2, Hq3, Hq4, Hq5, Hq6, Hq7, Hq8, Hq9, Hq10, Hq11, Hq12, Hq13, Hq14, Hq15, Hq16, Hq17, Hq18, Hq19, Hq20, Hq21, Hq22, Hq23, Hq24, Hq25, Hq26, Hq27, Hq28, Hq29, Hq30, Hq31, Hq32, Hq33, Hq34, Hq35, Hq36, Hq37, Hq38, Hq39, Hq40, Hq41, Hq42, Hq43, Hq44, Hq45, Hq46, Hq47⟩, ⟨Hh0, Hh1, Hh2, Hh3, Hh4, Hh5, Hh6, Hh7⟩, Hh8, Hh9, Hh10, Hh11, Hh12, HW, Hk⟩
    set_option sl_exec.rejoinFuel 400 in
    set_option sl_exec.dmaWindow true in
    set_option sl_exec.dmaWindowSet true in
    set_option sl_exec.dmaWindowLent true in
    sl_exec_parts
    sl_step
    iapply Hk
    isplitl [HS1 HS2 HS3 HS4 HS5 HS6 HS7 HS8 HS9 HS10 HS11 HS12 HS13 HS14 HS0]
    · isplitl [HS1]; · iexists _; iexact HS1
      isplitl [HS2]; · iexists _; iexact HS2
      isplitl [HS3]; · iexists _; iexact HS3
      isplitl [HS4]; · iexists _; iexact HS4
      isplitl [HS5]; · iexists _; iexact HS5
      isplitl [HS6]; · iexists _; iexact HS6
      isplitl [HS7]; · iexists _; iexact HS7
      isplitl [HS8]; · iexists _; iexact HS8
      isplitl [HS9]; · iexists _; iexact HS9
      isplitl [HS10]; · iexists _; iexact HS10
      isplitl [HS11]; · iexists _; iexact HS11
      isplitl [HS12]; · iexists _; iexact HS12
      isplitl [HS13]; · iexists _; iexact HS13
      isplitl [HS14]; · iexists _; iexact HS14
      iexists _; iexact HS0
    isplitl [Hq0 Hq1 Hq2 Hq3 Hq4 Hq5 Hq6 Hq7 Hq8 Hq9 Hq10 Hq11 Hq12 Hq13 Hq14 Hq15 Hq16 Hq17 Hq18 Hq19 Hq20 Hq21 Hq22 Hq23 Hq24 Hq25 Hq26 Hq27 Hq28 Hq29 Hq30 Hq31 Hq32 Hq33 Hq34 Hq35 Hq36 Hq37 Hq38 Hq39 Hq40 Hq41 Hq42 Hq43 Hq44 Hq45 Hq46 Hq47]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      isplitl [Hq10]; · iexact Hq10
      isplitl [Hq11]; · iexact Hq11
      isplitl [Hq12]; · iexact Hq12
      isplitl [Hq13]; · iexact Hq13
      isplitl [Hq14]; · iexact Hq14
      isplitl [Hq15]; · iexact Hq15
      isplitl [Hq16]; · iexact Hq16
      isplitl [Hq17]; · iexact Hq17
      isplitl [Hq18]; · iexact Hq18
      isplitl [Hq19]; · iexact Hq19
      isplitl [Hq20]; · iexact Hq20
      isplitl [Hq21]; · iexact Hq21
      isplitl [Hq22]; · iexact Hq22
      isplitl [Hq23]; · iexact Hq23
      isplitl [Hq24]; · iexact Hq24
      isplitl [Hq25]; · iexact Hq25
      isplitl [Hq26]; · iexact Hq26
      isplitl [Hq27]; · iexact Hq27
      isplitl [Hq28]; · iexact Hq28
      isplitl [Hq29]; · iexact Hq29
      isplitl [Hq30]; · iexact Hq30
      isplitl [Hq31]; · iexact Hq31
      isplitl [Hq32]; · iexact Hq32
      isplitl [Hq33]; · iexact Hq33
      isplitl [Hq34]; · iexact Hq34
      isplitl [Hq35]; · iexact Hq35
      isplitl [Hq36]; · iexact Hq36
      isplitl [Hq37]; · iexact Hq37
      isplitl [Hq38]; · iexact Hq38
      isplitl [Hq39]; · iexact Hq39
      isplitl [Hq40]; · iexact Hq40
      isplitl [Hq41]; · iexact Hq41
      isplitl [Hq42]; · iexact Hq42
      isplitl [Hq43]; · iexact Hq43
      isplitl [Hq44]; · iexact Hq44
      isplitl [Hq45]; · iexact Hq45
      isplitl [Hq46]; · iexact Hq46
      iexact Hq47
    isplitl [Hh0 Hh1 Hh2 Hh3 Hh4 Hh5 Hh6 Hh7]
    · isplitl [Hh0]; · iexact Hh0
      isplitl [Hh1]; · iexact Hh1
      isplitl [Hh2]; · iexact Hh2
      isplitl [Hh3]; · iexact Hh3
      isplitl [Hh4]; · iexact Hh4
      isplitl [Hh5]; · iexact Hh5
      isplitl [Hh6]; · iexact Hh6
      iexact Hh7
    isplitl [Hh8]; · iexact Hh8
    isplitl [Hh9]; · iexact Hh9
    isplitl [Hh10]; · iexact Hh10
    isplitl [Hh11]; · iexact Hh11
    isplitl [Hh12]; · iexact Hh12
    iexists _; iexact HW

end Cert.KernelIdeal.Hand

end
-- ==== Proof.KernelIdealFrame.lean ====
/- The kernel's frame: every run of @main terminates, nothing faults, the eight arguments end as launched and every semaphore
   counter ends at zero. -/
module

public import proofs.«01_k».proof.Proof.KernelIdealBody

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F] [∀ e, Nonempty (Elt F e)]

local notation "𝕄" => MT nD τ sig Unit (Elt F) ℕ (Pipeline.UD sig nD τ) ℕ

variable (m : (ℓ : Loc nD τ sig) → Buf (Elt F) ℓ) (ρ : Dev nD → PrngReg)

/-! ## The invariant, conjunct by conjunct -/

/-- The kernel's 48 DMA cells, by their numbers in the pool. -/
abbrev osem0 : Fin 48 → SemLoc sig := fun j => SemLoc.dma j
theorem ownSemFacts0 : Pipeline.OwnSemFacts cfg0.spec osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = cellsZero c := by
  rw [Pipeline.ownSems0_eq_of_list c osem0 (List.finRange 48) (by decide) (by decide)]; rfl
/-- The inputs and the results, left in HBM. -/
def H0 : Finset (Ref sig .tc) := {main_arg7, main_v0, main_v1, main_v2, main_v3, main_v4, main_v5, main_v6}
def R0 : Finset (Ref sig .tc) := {main_v7_0, main_v7_1, main_v7_2, main_v7_3, main_v7_4}
/-- What the host lines after the region write. -/
def T0 : Finset (Ref sig .tc) := {main_v8, main_v9, main_v10, main_v11, main_v12, main_v13, main_v14, main_v15, main_v16, main_v17, main_v18}
theorem H0_sub : H0 ⊆ Pipeline.restRefs sig cfg0.spec := by decide
theorem R0_sub : R0 ⊆ Pipeline.restRefs sig cfg0.spec \ H0 := by decide
theorem hbmPts0_eq (c : Dev nD) :
    (bigSep H0 (fun b => ((c : Thread nD τ).loc b) ↦{fullShare} V m c b) : sProp 𝕄) = ins c (V m c main_arg7) (V m c main_v0) (V m c main_v1) (V m c main_v2) (V m c main_v3) (V m c main_v4) (V m c main_v5) (V m c main_v6) := by
  rw [BI.bigSep_eq_bigSepL_of_eq [main_arg7, main_v0, main_v1, main_v2, main_v3, main_v4, main_v5, main_v6] (by decide) (by decide)]; rfl
theorem ownedPts0_eq (c : Dev nD) :
    (Pipeline.owned R0 c : sProp 𝕄) = iprop((∃ f, mPt c hb8 f) ∗ (∃ f, mPt c hb9 f) ∗ (∃ f, mPt c hb10 f) ∗ (∃ f, mPt c hb11 f) ∗ (∃ f, mPt c hb12 f)) := by
  unfold Pipeline.owned; rw [BI.bigSep_eq_bigSepL_of_eq [main_v7_0, main_v7_1, main_v7_2, main_v7_3, main_v7_4] (by decide) (by decide)]; rfl

theorem PhiDR0_eq (c : Dev nD) :
    (Pipeline.ΦDR osem0 (cfg0.spec) H0 R0 (V m) c : sProp 𝕄)
      = iprop(scr c ∗ (∃ r, prngReg c r) ∗ cellsZero c ∗ ins c (V m c main_arg7) (V m c main_v0) (V m c main_v1) (V m c main_v2) (V m c main_v3) (V m c main_v4) (V m c main_v5) (V m c main_v6)
          ∗ iprop((∃ f, mPt c hb8 f) ∗ (∃ f, mPt c hb9 f) ∗ (∃ f, mPt c hb10 f) ∗ (∃ f, mPt c hb11 f) ∗ (∃ f, mPt c hb12 f))) := by
  rw [Pipeline.ΦDR_eq, scopedRest0_eq, ownSems00_eq, hbmPts0_eq, ownedPts0_eq]

/-! ## The proof data and the body obligation -/

def dats (_ : Fin 1) (c : Dev nD) : Dat τ (Elt F) Unit ℕ (Pipeline.UD sig nD τ) ℕ cfg0 c where
  A w := V m c (Pipeline.arrRef cfg0.spec w)
  after w t := Pipeline.Dat.unnamed (cfg := cfg0) w t
  Φ _ := Pipeline.ΦDR osem0 (cfg0.spec) H0 R0 (V m) c
  q _ := fullShare
  owed _ := 0

theorem A_eq (c : Dev nD) (w : Fin cfg0.W) : (dats m 0 c).A w = V m c (Pipeline.arrRef cfg0.spec w) := by dsimp only [dats]

def bodyPre (c : Dev nD) (t : Fin cfg0.N) : sProp 𝕄 :=
  iprop((dats m 0 c).Φ t.castSucc ∗ (dats m 0 c).owesAt () t.castSucc ∗ emp)
def bodyPost (c : Dev nD) (t : Fin cfg0.N) : sProp 𝕄 :=
  iprop((dats m 0 c).Φ t.succ ∗ (dats m 0 c).owesAt () t.succ ∗ emp)

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    show (dats m 0 c).Φ t.castSucc = Pipeline.ΦDR osem0 (cfg0.spec) H0 R0 (V m) c from rfl, PhiDR0_eq]
  unfold Dat.owesAt Pipeline.owesWithin
  rw [show (dats m 0 c).owed t.castSucc = 0 from rfl]
  iintro ⟨⟨⟨⟨%s1, HS1⟩, ⟨%s2, HS2⟩, ⟨%s3, HS3⟩, ⟨%s4, HS4⟩, ⟨%s5, HS5⟩, ⟨%s6, HS6⟩, ⟨%s7, HS7⟩, ⟨%s8, HS8⟩, ⟨%s9, HS9⟩, ⟨%s10, HS10⟩, ⟨%s11, HS11⟩, ⟨%s12, HS12⟩, ⟨%s13, HS13⟩, ⟨%s14, HS14⟩, ⟨%s0, HS0⟩⟩, Hg, HC, HI, ⟨⟨%f8, HR8⟩, ⟨%f9, HR9⟩, ⟨%f10, HR10⟩, ⟨%f11, HR11⟩, ⟨%f12, HR12⟩⟩⟩, ⟨%W, %hW, HO⟩, -⟩
  iapply ((kernelRun c (V m c main_arg7) (V m c main_v0) (V m c main_v1) (V m c main_v2) (V m c main_v3) (V m c main_v4) (V m c main_v5) (V m c main_v6) f8 f9 f10 f11 f12 s0 s1 s2 s3 s4 s5 s6 s7 s8 s9 s10 s11 s12 s13 s14).2 W _)
  isplitl [HS1 HS2 HS3 HS4 HS5 HS6 HS7 HS8 HS9 HS10 HS11 HS12 HS13 HS14 HS0]
  · isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexact HS8
    isplitl [HS9]; · iexact HS9
    isplitl [HS10]; · iexact HS10
    isplitl [HS11]; · iexact HS11
    isplitl [HS12]; · iexact HS12
    isplitl [HS13]; · iexact HS13
    isplitl [HS14]; · iexact HS14
    iexact HS0
  isplitl [HC]; · iexact HC
  isplitl [HI]; · iexact HI
  isplitl [HR8]; · iexact HR8
  isplitl [HR9]; · iexact HR9
  isplitl [HR10]; · iexact HR10
  isplitl [HR11]; · iexact HR11
  isplitl [HR12]; · iexact HR12
  isplitl [HO]; · iexact HO
  iintro ⟨HS, HC, HI, HR8, HR9, HR10, HR11, HR12, ⟨%W', HO⟩⟩
  isplitl [HS Hg HC HI HR8 HR9 HR10 HR11 HR12]
  · isplitl [HS]; · iexact HS
    isplitl [Hg]; · iexact Hg
    isplitl [HC]; · iexact HC
    isplitl [HI]; · iexact HI
    isplitl [HR8]; · iexists _; iexact HR8
    isplitl [HR9]; · iexists _; iexact HR9
    isplitl [HR10]; · iexists _; iexact HR10
    isplitl [HR11]; · iexists _; iexact HR11
    iexists _; iexact HR12
  isplitl [HO]
  · iexists W'; isplitr; · ipureintro; exact fun _ _ => Or.inl trivial
    iexact HO
  iempintro

theorem defs₀_row (t : Fin cfg0.N) : defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ := fun t => by
  rw [Finset.univ_eq_empty, bigSep_empty, bigSep_empty, defs₀_row]
  exact triple_restated (sound_body m c t) rfl .rfl fun _ => .rfl

/-! ## The launch -/

/-- @main around the region, at the algebra the transfers run in. -/
theorem hmainD (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  simp only [hostOps1, List.mem_cons, List.mem_nil_iff, or_false] at hop
  rcases hop with rfl | rfl | rfl | rfl | rfl | rfl | rfl | rfl | rfl | rfl | rfl
  all_goals
    intro b hb
    simp only [StableHlo.unary_writes, StableHlo.reshape_writes, Finset.mem_singleton] at hb
    rw [Proc.devRef_injective _ hb]
    decide

set_option backward.isDefEq.respectTransparency.types false in
/-- Every run of @main ends with every buffer but the results and the tail's at its contents when the region began, and every
    counter at zero. -/
theorem run_main :
    θ_run defs (onTc (τ := τ) (main (F := F))) (s₀ m ρ)
      (fun r => Pipeline.FramePostR cfgs (dats m) 0 (R0 ∪ T0) (V m) r ∧ r.2.sem = fun _ => 0) :=
  Pipeline.θ_run_frame_dmaR_around (Q' := _) cfgs (dats m) (0 : Fin 1) launch0 osem0 defs₀ Variants.none ownSemFacts0 H0 R0 T0 H0_sub R0_sub m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hT := sfx_writes) (hmain := hmainD m Variants.none) (hA := fun _ w => w.elim0)
    (hin := fun _ => .rfl) (hout := fun _ => .rfl) (hQ' := fun _ h => h)

/-- The frame: the arguments unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun r h => ⟨fun c => ⟨((h.1 c).2 main_arg0 (by decide)).trans (V_main_arg0 m c), ((h.1 c).2 main_arg1 (by decide)).trans (V_main_arg1 m c), ((h.1 c).2 main_arg2 (by decide)).trans (V_main_arg2 m c), ((h.1 c).2 main_arg3 (by decide)).trans (V_main_arg3 m c), ((h.1 c).2 main_arg4 (by decide)).trans (V_main_arg4 m c), ((h.1 c).2 main_arg5 (by decide)).trans (V_main_arg5 m c), ((h.1 c).2 main_arg6 (by decide)).trans (V_main_arg6 m c), ((h.1 c).2 main_arg7 (by decide)).trans (V_main_arg7 m c)⟩, h.2⟩) (run_main m ρ)

end Cert.KernelIdeal.Hand

end
-- ==== Proof.Preserves.lean ====
/- The rewrites between the kernel and its idealized form are the rules' own theorems. -/
module
public import proofs.«01_k».proof.Defs
public import Idealize.ShloMosaic.Lib.Bf16Pair
@[expose] public section
namespace Cert.Proof
open Idealize.ShloMosaic
/-- Every rewrite the idealized kernel was given is one its rule states. -/
theorem preserves : Cert.preserves_Kernel_KernelIdeal :=
  ⟨IdealRules.bf16_pair.statement _ _, IdealRules.named_const.statement _ _ _ _ _ rfl, IdealRules.bf16_pair.selectZeroStatement _, IdealRules.bf16_pair.statement _ _⟩
end Cert.Proof
-- ==== Proof.Soft.lean ====
/- The softmax over a longer row, masked off the image of an injection and in base two, is the softmax over the shorter row. -/
module

public import Idealize.ShloMosaic.Lib.Pointwise
public import Idealize.ShloMosaic.Lib.IdealHost

@[expose] public section

noncomputable section

namespace Cert.Soft

open Idealize.ShloMosaic

/-- 1 / log 2. -/
def L : EReal := (((Real.log 2)⁻¹ : ℝ) : EReal)

theorem L_pos : (0 : EReal) < L := by
  unfold L; exact_mod_cast inv_pos.mpr (Real.log_pos one_lt_two)
theorem L_ne_top : L ≠ ⊤ := EReal.coe_ne_top _

theorem exp2_mul_L (x : EReal) : Ideal.exp2 (x * L) = Ideal.exp x := by
  have hl : (0:ℝ) < (Real.log 2)⁻¹ := inv_pos.mpr (Real.log_pos one_lt_two)
  induction x with
  | bot => rw [show (⊥ : EReal) * L = ⊥ from EReal.bot_mul_of_pos L_pos]; rfl
  | top => rw [show (⊤ : EReal) * L = ⊤ from EReal.top_mul_of_pos L_pos]; rfl
  | coe r =>
    unfold L
    rw [← EReal.coe_mul]
    show (((2:ℝ) ^ (r * (Real.log 2)⁻¹) : ℝ) : EReal) = ((Real.exp r : ℝ) : EReal)
    congr 1
    rw [Real.rpow_def_of_pos (by norm_num)]
    congr 1
    have := (Real.log_pos one_lt_two).ne'
    field_simp

theorem sub_mul_L (x y : EReal) : x * L - y * L = (x - y) * L := by
  have hl : (0:ℝ) < (Real.log 2)⁻¹ := inv_pos.mpr (Real.log_pos one_lt_two)
  have hb : (⊥ : EReal) * L = ⊥ := EReal.bot_mul_of_pos L_pos
  have ht : (⊤ : EReal) * L = ⊤ := EReal.top_mul_of_pos L_pos
  induction x with
  | bot => rw [hb, EReal.bot_sub, EReal.bot_sub, hb]
  | top =>
    induction y with
    | bot => rw [hb, ht, EReal.top_sub_bot, ht]
    | top => rw [ht, EReal.sub_top, hb]
    | coe s =>
      rw [ht]; unfold L; rw [← EReal.coe_mul, EReal.top_sub_coe, EReal.top_sub_coe]; exact ht.symm
  | coe r =>
    induction y with
    | bot => rw [hb, EReal.coe_sub_bot, ht]; unfold L; rw [← EReal.coe_mul, EReal.coe_sub_bot]
    | top => rw [ht, EReal.sub_top, EReal.sub_top, hb]
    | coe s =>
      unfold L
      rw [← EReal.coe_mul, ← EReal.coe_mul, ← EReal.coe_sub, ← EReal.coe_sub, ← EReal.coe_mul]
      congr 1; ring

theorem max_mul_L (x y : EReal) : max x y * L = max (x * L) (y * L) :=
  Monotone.map_max (f := fun z : EReal => z * L) fun _ _ h => mul_le_mul_of_nonneg_right h L_pos.le

/-- The largest of a family, from ⊥. -/
abbrev top {n : ℕ} (S : Fin n → EReal) : EReal := Finset.univ.fold max ⊥ S

theorem top_le {n : ℕ} {S : Fin n → EReal} {a : EReal} : top S ≤ a ↔ ∀ i, S i ≤ a := by
  rw [Finset.fold_max_le]; simp

variable {n k : ℕ} (ι : Fin n → Fin k) (hι : Function.Injective ι) (S : Fin k → EReal) (R : Fin n → EReal)

theorem top_eq (hS : ∀ u, S (ι u) = R u * L) (hoff : ∀ c, (∀ u, ι u ≠ c) → S c = ⊥) : top S = top R * L := by
  have hmul : top R * L = top fun u => R u * L := by
    have := Finset.fold_hom (op := max) (op' := max) (s := (Finset.univ : Finset (Fin n))) (f := R) (b := ⊥) (m := fun z : EReal => z * L) (fun x y => max_mul_L x y)
    rw [show (⊥ : EReal) * L = ⊥ from EReal.bot_mul_of_pos L_pos] at this
    exact this.symm
  rw [hmul]
  apply le_antisymm
  · rw [top_le]
    intro c
    by_cases h : ∃ u, ι u = c
    · obtain ⟨u, rfl⟩ := h; rw [hS]; exact (top_le (S := fun u => R u * L)).mp le_rfl u
    · rw [hoff c (fun u hu => h ⟨u, hu⟩)]; exact bot_le
  · rw [top_le]; intro u; rw [← hS]; exact (top_le (S := S)).mp le_rfl (ι u)

include hι in
theorem sum_image (f : Fin k → EReal) (hf : ∀ c, (∀ u, ι u ≠ c) → f c = 0) : ∑ c, f c = ∑ u, f (ι u) := by
  rw [← Finset.sum_image (s := Finset.univ) (g := ι) (f := f) (fun a _ b _ h => hι h)]
  symm
  apply Finset.sum_subset (Finset.subset_univ _)
  intro c _ hc
  refine hf c fun u hu => hc ?_
  rw [Finset.mem_image]; exact ⟨u, Finset.mem_univ _, hu⟩

include hι in
/-- The weighted sums agree. -/
theorem softmax_eq (hS : ∀ u, S (ι u) = R u * L) (hoff : ∀ c, (∀ u, ι u ≠ c) → S c = ⊥) (G W : Fin k → EReal) :
    ∑ c, Ideal.exp2 (S c - top S) * Ideal.div 1 (∑ c, Ideal.exp2 (S c - top S)) * G c * W c
      = ∑ u, Ideal.exp (R u - top R) * Ideal.div 1 (∑ u, Ideal.exp (R u - top R)) * G (ι u) * W (ι u) := by
  have he : ∀ u, Ideal.exp2 (S (ι u) - top S) = Ideal.exp (R u - top R) := by
    intro u; rw [hS, top_eq ι S R hS hoff, sub_mul_L, exp2_mul_L]
  have hz : ∀ c, (∀ u, ι u ≠ c) → Ideal.exp2 (S c - top S) = 0 := by
    intro c hc; rw [hoff c hc, EReal.bot_sub]; rfl
  rw [sum_image ι hι (fun c => Ideal.exp2 (S c - top S)) hz]
  rw [sum_image ι hι _ (fun c hc => by rw [hz c hc, zero_mul, zero_mul, zero_mul])]
  simp only [he]

end Cert.Soft

end
-- ==== Proof.Quant.lean ====
/- A power of two by its bits: the exponent field computed from floor(log₂(a / 448)) gives the scale 2^(floor(log₂(a / 448)) + 1), and its complement the inverse. -/
module

public import proofs.«01_k».proof.Proof.Soft

@[expose] public section

noncomputable section

namespace Cert.Quant

open Idealize.ShloMosaic Cert.Soft

/-- floor(log₂(a / 448)). -/
def level (a : EReal) : EReal := Ideal.liftRound Int.floor (Ideal.log (a * Ideal.ofBits .f32 0x3B124925#32) * L)

/-- The scale's exponent. -/
def expo (a : EReal) : EReal := if a = 0 then 0 else level a + 1

/-- The exponent field of the level, clipped. -/
def field (a : EReal) : BitVec 32 :=
  IntOp.addi (Ideal.fptosi 32 (min (Ideal.ofBits .f32 0x43000000#32) (max (Ideal.ofBits .f32 0xC2FE0000#32) (level a)))) 127#32

/-- The scale's exponent as a word. -/
def word (f : BitVec 32) : BitVec 32 :=
  Scalar.select (IntOp.ori (IntOp.cmpi .eq f 0#32) (IntOp.cmpi .eq f 255#32)) 0#32 (IntOp.subi f 126#32)

def scaleBits (a : EReal) : BitVec 32 := IntOp.shli .vector (IntOp.addi (word (field a)) 127#32) 23#32
def inverseBits (a : EReal) : BitVec 32 := IntOp.shli .vector (IntOp.subi 127#32 (word (field a))) 23#32

/-- In the range where the field neither under- nor overflows. -/
def InRange (a : EReal) : Prop := a = 0 ∨ (Ideal.ofBits .f32 0x05000000#32 ≤ a ∧ a ≤ Ideal.ofBits .f32 0x7F7F0000#32)

theorem ieee_pow (e : Fin 256) (h0 : e.val ≠ 0) (h1 : e.val ≠ 255) : Ideal.ofBits .f32 (BitVec.ofNat 32 e.val <<< 23) = (((2:ℝ) ^ ((e.val : ℤ) - 127) : ℝ) : EReal) := by
  have hb : ∀ e : Fin 256, ((BitVec.ofNat 32 e.val <<< 23).extractLsb' 31 1 == 1#1) = false ∧ ((BitVec.ofNat 32 e.val <<< 23).extractLsb' 23 8).toNat = e.val
      ∧ ((BitVec.ofNat 32 e.val <<< 23).extractLsb' 0 23).toNat = 0 := by decide +kernel
  obtain ⟨hn, hx, hf⟩ := hb e
  show Ideal.ieee 8 23 _ = _
  unfold Ideal.ieee
  simp only [Nat.reduceAdd, hn, hx, hf]
  rw [if_neg (by simpa using h1), if_neg h0]
  refine congrArg (fun r : ℝ => (r : EReal)) ?_
  simp only [Bool.false_eq_true, if_false, one_mul, add_zero]
  push_cast
  rw [show (8388608 : ℝ) = (2:ℝ) ^ (23 : ℤ) by norm_num, ← zpow_add₀ (by norm_num : (2:ℝ) ≠ 0)]
  refine congrArg (fun n : ℤ => (2 : ℝ) ^ n) ?_
  ring

theorem word_bits : ∀ k : Fin 246, IntOp.shli .vector (IntOp.addi (word (IntOp.addi (BitVec.ofInt 32 ((k.val : ℤ) - 126)) 127#32)) 127#32) 23#32 = BitVec.ofNat 32 (k.val + 2) <<< 23
    ∧ IntOp.shli .vector (IntOp.subi 127#32 (word (IntOp.addi (BitVec.ofInt 32 ((k.val : ℤ) - 126)) 127#32))) 23#32 = BitVec.ofNat 32 (252 - k.val) <<< 23 := by decide +kernel

theorem lowClip : Ideal.ofBits .f32 0xC2FE0000#32 = ((-127 : ℝ) : EReal) := by
  simp [Ideal.ofBits, Ideal.ieee, -EReal.coe_mul, -EReal.coe_neg, -EReal.coe_pow]; norm_num
theorem highClip : Ideal.ofBits .f32 0x43000000#32 = ((128 : ℝ) : EReal) := by
  simp [Ideal.ofBits, Ideal.ieee, -EReal.coe_mul, -EReal.coe_neg, -EReal.coe_pow]; norm_num
theorem recip : Ideal.ofBits .f32 0x3B124925#32 = ((9586981 / 2 ^ 32 : ℝ) : EReal) := by
  simp [Ideal.ofBits, Ideal.ieee, -EReal.coe_mul, -EReal.coe_neg, -EReal.coe_pow]; norm_num
theorem least : Ideal.ofBits .f32 0x05000000#32 = ((1 / 2 ^ 117 : ℝ) : EReal) := by
  simp [Ideal.ofBits, Ideal.ieee, -EReal.coe_mul, -EReal.coe_neg, -EReal.coe_pow]; norm_num
theorem most : Ideal.ofBits .f32 0x7F7F0000#32 = ((255 * 2 ^ 120 : ℝ) : EReal) := by
  simp [Ideal.ofBits, Ideal.ieee, -EReal.coe_mul, -EReal.coe_neg, -EReal.coe_pow]; norm_num

theorem level_zero : level 0 = ⊥ := by
  unfold level
  rw [zero_mul, show Ideal.log 0 = ⊥ from if_pos le_rfl, show (⊥ : EReal) * L = ⊥ from EReal.bot_mul_of_pos L_pos]; rfl

theorem exp2_int (k : ℤ) : Ideal.exp2 (((k : ℝ)) : EReal) = (((2:ℝ) ^ k : ℝ) : EReal) := by
  show ((Real.rpow 2 (k:ℝ) : ℝ) : EReal) = _
  congr 1; exact Real.rpow_intCast 2 k

theorem level_real (a : EReal) (h : Ideal.ofBits .f32 0x05000000#32 ≤ a ∧ a ≤ Ideal.ofBits .f32 0x7F7F0000#32) :
    a ≠ 0 ∧ ∃ k : Fin 246, level a = ((((k.val : ℤ) - 126 : ℤ) : ℝ) : EReal) := by
  rw [least, most] at h
  obtain ⟨h1, h2⟩ := h
  have hnb : a ≠ ⊥ := fun e => by rw [e] at h1; exact absurd h1 (not_le.mpr (EReal.bot_lt_coe _))
  have hnt : a ≠ ⊤ := fun e => by rw [e] at h2; exact absurd h2 (not_le.mpr (EReal.coe_lt_top _))
  lift a to ℝ using ⟨hnt, hnb⟩
  have h1 := EReal.coe_le_coe_iff.mp h1
  have h2 := EReal.coe_le_coe_iff.mp h2
  have ha : 0 < a := lt_of_lt_of_le (by positivity) h1
  refine ⟨by exact_mod_cast ha.ne', ?_⟩
  have hc : (0:ℝ) < a * (9586981 / 2 ^ 32) := by positivity
  have hl : level (a : EReal) = ((⌊Real.log (a * (9586981 / 2 ^ 32)) * (Real.log 2)⁻¹⌋ : ℝ) : EReal) := by
    unfold level
    rw [recip, ← EReal.coe_mul]
    rw [show Ideal.log ((a * (9586981 / 2 ^ 32) : ℝ) : EReal) = ((Real.log (a * (9586981 / 2 ^ 32)) : ℝ) : EReal) from if_neg (not_le.mpr hc)]
    unfold L; rw [← EReal.coe_mul]; rfl
  have h2p := Real.log_pos (one_lt_two (α := ℝ))
  have lo : (-126 : ℤ) ≤ ⌊Real.log (a * (9586981 / 2 ^ 32)) * (Real.log 2)⁻¹⌋ := by
    rw [Int.le_floor, ← div_eq_mul_inv, le_div_iff₀ h2p]
    rw [show ((-126 : ℤ) : ℝ) * Real.log 2 = Real.log ((2:ℝ) ^ (-126 : ℤ)) by rw [Real.log_zpow]]
    apply Real.log_le_log (by positivity)
    refine le_trans ?_ (mul_le_mul_of_nonneg_right h1 (by norm_num))
    norm_num
  have hi : ⌊Real.log (a * (9586981 / 2 ^ 32)) * (Real.log 2)⁻¹⌋ < 120 := by
    rw [Int.floor_lt, ← div_eq_mul_inv, div_lt_iff₀ h2p]
    rw [show ((120 : ℤ) : ℝ) * Real.log 2 = Real.log ((2:ℝ) ^ (120 : ℤ)) by rw [Real.log_zpow]]
    apply Real.log_lt_log hc
    refine lt_of_le_of_lt (mul_le_mul_of_nonneg_right h2 (by norm_num)) ?_
    norm_num
  refine ⟨⟨(⌊Real.log (a * (9586981 / 2 ^ 32)) * (Real.log 2)⁻¹⌋ + 126).toNat, by omega⟩, ?_⟩
  rw [hl]
  congr 2
  exact (show ∀ z : ℤ, -126 ≤ z → z = ((z + 126).toNat : ℤ) - 126 by intro z hz; omega) _ lo

theorem field_real (a : EReal) (k : Fin 246) (h : level a = ((((k.val : ℤ) - 126 : ℤ) : ℝ) : EReal)) : field a = IntOp.addi (BitVec.ofInt 32 ((k.val : ℤ) - 126)) 127#32 := by
  unfold field
  congr 1
  have hk := k.isLt
  rw [h, lowClip, highClip, max_eq_right (by rw [EReal.coe_le_coe_iff]; exact_mod_cast (by omega : (-127 : ℤ) ≤ (k.val : ℤ) - 126)),
    min_eq_right (by rw [EReal.coe_le_coe_iff]; exact_mod_cast (by omega : (k.val : ℤ) - 126 ≤ 128))]
  show BitVec.ofInt 32 (max _ (min _ (if (0:ℝ) ≤ _ then _ else _))) = _
  rw [Int.floor_intCast, Int.ceil_intCast, ite_self]
  congr 1
  norm_num
  omega

/-- The scale by its bits is two to the exponent, and the inverse two to its negation. -/
theorem bits_eq (a : EReal) (h : InRange a) :
    Ideal.ofBits .f32 (scaleBits a) = Ideal.exp2 (expo a) ∧ Ideal.ofBits .f32 (inverseBits a) = Ideal.exp2 (0 - expo a) := by
  rcases h with rfl | h
  · have hf : field 0 = 0#32 := by
      unfold field
      rw [level_zero, max_eq_left bot_le, lowClip, highClip, min_eq_right (by rw [EReal.coe_le_coe_iff]; norm_num)]
      rw [show Ideal.fptosi 32 ((-127 : ℝ) : EReal) = BitVec.ofInt 32 (-127) from ?_]
      · decide
      · show BitVec.ofInt 32 (max _ (min _ (if (0:ℝ) ≤ (-127 : ℝ) then _ else ⌈(-127 : ℝ)⌉))) = _
        rw [if_neg (by norm_num), show (-127 : ℝ) = ((-127 : ℤ) : ℝ) by norm_num, Int.ceil_intCast]
        decide
    have h1 : scaleBits 0 = BitVec.ofNat 32 ((127 : Fin 256)).val <<< 23 := by unfold scaleBits; rw [hf]; decide
    have h2 : inverseBits 0 = BitVec.ofNat 32 ((127 : Fin 256)).val <<< 23 := by unfold inverseBits; rw [hf]; decide
    have hz : Ideal.exp2 0 = (((2:ℝ) ^ (0 : ℤ) : ℝ) : EReal) := by simpa using exp2_int 0
    rw [h1, h2, ieee_pow _ (by decide) (by decide), show expo 0 = 0 from if_pos rfl, sub_zero, hz]
    exact ⟨rfl, rfl⟩
  · obtain ⟨hne, k, hk⟩ := level_real a h
    have hkl := k.isLt
    have hf := field_real a k hk
    have he : expo a = ((((k.val : ℤ) - 125 : ℤ) : ℝ) : EReal) := by
      unfold expo; rw [if_neg hne, hk]
      rw [show (1 : EReal) = ((1 : ℝ) : EReal) from rfl, ← EReal.coe_add]
      congr 1; push_cast; ring
    have hn : (0 : EReal) - expo a = (((125 - (k.val : ℤ) : ℤ) : ℝ) : EReal) := by
      rw [he, show (0 : EReal) = ((0 : ℝ) : EReal) from rfl, ← EReal.coe_sub]
      congr 1; push_cast; ring
    obtain ⟨w1, w2⟩ := word_bits k
    constructor
    · unfold scaleBits; rw [hf, w1, he, exp2_int]
      rw [ieee_pow ⟨k.val + 2, by omega⟩ (by show k.val + 2 ≠ 0; omega) (by show k.val + 2 ≠ 255; omega)]
      congr 2; push_cast; ring
    · unfold inverseBits; rw [hf, w2, hn, exp2_int]
      rw [ieee_pow ⟨252 - k.val, by omega⟩ (by show 252 - k.val ≠ 0; omega) (by show 252 - k.val ≠ 255; omega)]
      congr 2; push_cast; omega

end Cert.Quant

end
-- ==== Proof.Values.lean ====
/- The values both programs share: a row's scale and codes. -/
module

public import proofs.«01_k».proof.Proof.Quant

@[expose] public section

noncomputable section

namespace Cert.Values

open Idealize.ShloMosaic Cert.Soft Cert.Quant

/-- A row's largest magnitude. -/
def amax (r : Fin 128 → EReal) : EReal := Finset.univ.fold max (Ideal.ofBits .f32 0xFF800000#32) (fun x => max (r x) (-(r x)))
/-- A row's scale, and its codes. -/
def scale (r : Fin 128 → EReal) : EReal := Ideal.exp2 (expo (amax r))
def code (r : Fin 128 → EReal) (x : Fin 128) : EReal :=
  min (Ideal.ofBits .f32 0x43E00000#32) (max (Ideal.ofBits .f32 0xC3E00000#32) (r x * Ideal.exp2 (0 - expo (amax r))))

theorem negInf : Ideal.ofBits .f32 0xFF800000#32 = (⊥ : EReal) := by
  simp [Ideal.ofBits, Ideal.ieee]

/-- The inner product of two rows. -/
def dotOf (f g : Fin 128 → EReal) : EReal := ∑ x, f x * g x

/-- The softmax of the scores `R`, each probability times its token's scale and value, summed: 1024 cached tokens and 4 new ones. -/
def attend (R G W : Fin 1028 → EReal) : EReal :=
  ∑ u, Ideal.exp (R u - top R) * Ideal.div 1 (∑ u, Ideal.exp (R u - top R)) * G u * W u

/-- The cached tokens' entries, then the new ones'. -/
def joined (f : Fin 1024 → EReal) (g : Fin 4 → EReal) (u : Fin 1028) : EReal := if h : u.val < 1024 then f ⟨u.val, h⟩ else g ⟨u.val - 1024, by omega⟩

theorem joined_left (f : Fin 1024 → EReal) (g : Fin 4 → EReal) (x : Fin 1024) : joined f g (Fin.castAdd 4 x) = f x := dif_pos x.isLt
theorem joined_right (f : Fin 1024 → EReal) (g : Fin 4 → EReal) (x : Fin 4) : joined f g (Fin.natAdd 1024 x) = g x := by
  unfold joined
  rw [dif_neg (by show ¬ (1024 + x.val < 1024); omega)]
  exact congrArg g (Fin.ext (by show 1024 + x.val - 1024 = x.val; omega))

theorem sum_joined (h : Fin 1028 → EReal) : ∑ u, h u = ∑ x : Fin 1024, h (Fin.castAdd 4 x) + ∑ x : Fin 4, h (Fin.natAdd 1024 x) :=
  Fin.sum_univ_add (a := 1024) (b := 4) h

/-- What the cached tokens' scores are. -/
def cachedScore (n : BitVec 32) (p : BitVec 32) (s : Fin 4) (dot scale : EReal) : EReal :=
  Scalar.select (IntOp.andi (IntOp.cmpi .slt p n) (IntOp.cmpi .sgt p (IntOp.subi (IntOp.addi n (BitVec.ofNat 32 s.val)) 1024#32)))
    (dot * (scale * Ideal.ofBits .f32 0x3DB504F3#32)) ⊥
/-- What the new tokens' scores are. -/
def newScore (n : BitVec 32) (j s : Fin 4) (dot scale : EReal) : EReal :=
  Scalar.select (IntOp.andi (IntOp.cmpi .sle (IntOp.addi n (BitVec.ofNat 32 j.val)) (IntOp.addi n (BitVec.ofNat 32 s.val)))
      (IntOp.cmpi .sgt (IntOp.addi n (BitVec.ofNat 32 j.val)) (IntOp.subi (IntOp.addi n (BitVec.ofNat 32 s.val)) 1024#32)))
    (dot * (scale * Ideal.ofBits .f32 0x3DB504F3#32)) ⊥

/-- What the kernel's score of a token is, in base two: `off` and `own` place the window and the new tokens. -/
def kScore (off i own ownI : BitVec 32) (y : Fin 1088) (dot scale : EReal) : EReal :=
  if y.val < 1024 then
    (if y.val < 128 then Scalar.select (IntOp.cmpi .sgt (BitVec.ofNat 32 y.val) (IntOp.subi (IntOp.addi off i) 1024#32)) (dot * (scale * Ideal.ofBits .f32 0x3DB504F3#32 * L)) ⊥
      else dot * (scale * Ideal.ofBits .f32 0x3DB504F3#32 * L))
  else Scalar.select (IntOp.ori (IntOp.cmpi .slt (BitVec.ofNat 32 (y.val - 1024)) (IntOp.subi off 1024#32)) (IntOp.andi (IntOp.cmpi .sge (BitVec.ofNat 32 (y.val - 1024)) own) (IntOp.cmpi .sle (BitVec.ofNat 32 (y.val - 1024)) ownI)))
    (dot * (scale * Ideal.ofBits .f32 0x3DB504F3#32 * L)) ⊥

/-- A score's share of the softmax in base two. -/
def share (S : Fin 1088 → EReal) (y : Fin 1088) : EReal := Ideal.exp2 (S y - top S) * Ideal.div 1 (∑ y, Ideal.exp2 (S y - top S))

theorem attend_joined (f fG fW : Fin 1024 → EReal) (g gG gW : Fin 4 → EReal) :
    attend (joined f g) (joined fG gG) (joined fW gW)
      = ∑ x, fW x * (Ideal.exp (f x - top (joined f g)) * Ideal.div 1 (∑ x, Ideal.exp (f x - top (joined f g)) + ∑ x, Ideal.exp (g x - top (joined f g))) * fG x)
        + ∑ x, gW x * (Ideal.exp (g x - top (joined f g)) * Ideal.div 1 (∑ x, Ideal.exp (f x - top (joined f g)) + ∑ x, Ideal.exp (g x - top (joined f g))) * gG x) := by
  unfold attend
  rw [sum_joined (fun u => Ideal.exp (joined f g u - top (joined f g))), sum_joined]
  simp only [joined_left, joined_right]
  refine congrArg₂ (· + ·) (Finset.sum_congr rfl fun x _ => mul_comm _ _) (Finset.sum_congr rfl fun x _ => mul_comm _ _)

end Cert.Values

end
-- ==== Proof.Range.lean ====
/- What the precondition says of the lengths and of the new tokens' rows. -/
module

public import proofs.«01_k».proof.Pre_in_range
public import proofs.«01_k».proof.Proof.Values
public import Idealize.ShloMosaic.Lib.StableHlo.ReadAt
public import Idealize.ShloMosaic.Lib.Pointwise
public import Idealize.ShloMosaic.Lib.IdealHost
public import Idealize.ShloMosaic.Lib.ReduceAll
public import Idealize.ShloMosaic.Lib.Affine
public import Idealize.ShloMosaic.Lib.WordCmp

@[expose] public section

set_option maxHeartbeats 1000000
set_option maxRecDepth 16384

noncomputable section

namespace Cert.Range

open Cert.Pre_in_range Cert.Quant Cert.Values
open Idealize.ShloMosaic

/-- The shape relations of the precondition. -/
theorem facts : Cert.Pre_in_range.Facts where
  bcast_S_S8 := by decide
  reducesTo_S8_S_d0 := by decide
  h_S_ := by decide
  bitsLt_bf16_f32 := by decide
  reducesTo_S8x4x2x128_S8x4x2_d3 := by decide
  bcast_S_S8x4x2 := by decide
  reducesTo_S8x4x2_S_d0_1_2 := by decide

variable [Facts]
open Facts

/-- The greatest absolute value of each row. -/
theorem rowmax_at (v : FVec Ideal S8x4x2x128 .bf16) (b : Fin 8) (j : Fin 4) (k : Fin 2) :
    Host.reduce FloatOps.maximumf (Host.absf (extf .f32 v bitsLt_bf16_f32)) (constant (F := Ideal) S_ .f32 0xFF800000#32) reducesTo_S8x4x2x128_S8x4x2_d3 h_S_ (ix3 b j k)
      = amax fun x => v (ix4 b j k x) := by
  pointwise [Host.absf]
  rfl

theorem ofBool_eq_one_iff (b : Bool) : BitVec.ofBool b = 1#1 ↔ b = true := by cases b <;> decide

theorem inRange_of (a : EReal) (h : IntOp.ori (FloatOps.cmpf (F := Ideal) (φ := .f32) .oeq a (Ideal.ofBits .f32 0x00000000#32))
    (IntOp.andi (FloatOps.cmpf (F := Ideal) (φ := .f32) .oge a (Ideal.ofBits .f32 0x05000000#32)) (FloatOps.cmpf (F := Ideal) (φ := .f32) .ole a (Ideal.ofBits .f32 0x7F7F0000#32))) = 1#1) : InRange a := by
  rcases IntOp.ori_eq_one.1 h with h | h
  · left
    have h' : a = Ideal.ofBits .f32 0x00000000#32 := of_decide_eq_true ((ofBool_eq_one_iff _).1 h)
    rw [h']
    exact Ideal.ofBits_zero_f32
  · right
    obtain ⟨h1, h2⟩ := IntOp.andi_eq_one.1 h
    exact ⟨of_decide_eq_true ((ofBool_eq_one_iff _).1 h1), of_decide_eq_true ((ofBool_eq_one_iff _).1 h2)⟩

theorem range_at (v : FVec Ideal S8x4x2x128 .bf16) (a : FVec Ideal S8x4x2 .f32) (ha : a = Host.reduce FloatOps.maximumf (Host.absf (extf .f32 v bitsLt_bf16_f32)) (constant (F := Ideal) S_ .f32 0xFF800000#32) reducesTo_S8x4x2x128_S8x4x2_d3 h_S_)
    (j : S_.Idx)
    (h : Host.reduce IntOp.andi (ori (cmpf .oeq a (broadcastInDim S8x4x2 ![] bcast_S_S8x4x2 (constant (F := Ideal) S_ .f32 0x00000000#32)))
      (andi (cmpf .oge a (broadcastInDim S8x4x2 ![] bcast_S_S8x4x2 (constant (F := Ideal) S_ .f32 0x05000000#32))) (cmpf .ole a (broadcastInDim S8x4x2 ![] bcast_S_S8x4x2 (constant (F := Ideal) S_ .f32 0x7F7F0000#32)))))
      (constantI S_ 1 1#1) reducesTo_S8x4x2_S_d0_1_2 h_S_ j = 1#1) (b : Fin 8) (s : Fin 4) (k : Fin 2) : InRange (amax fun x => v (ix4 b s k x)) := by
  haveI : Subsingleton S_.Idx := ⟨fun f g => funext fun x => x.elim0⟩
  have e := Host.reduce_andi_all _ _ _ _ j h (ix3 b s k)
  have ha' : a (ix3 b s k) = amax fun x => v (ix4 b s k x) := by rw [ha]; exact rowmax_at v b s k
  rw [← ha']
  exact inRange_of _ e

theorem length_of (x : BitVec 32) (l : 1024 ≤ x.toInt) (u : x.toInt ≤ 131072) : 1024 ≤ x.toNat ∧ x.toNat ≤ 131072 := by
  have hx := x.isLt
  have h := BitVec.toInt_eq_toNat_cond x
  split at h <;> omega

/-- The precondition, read: each length is at least 1024 and at most 131072, and each new row's greatest absolute value is zero or in the range of the exponents. -/
theorem of_pre (a0 : FVec Ideal S8x4x16x128 .bf16) (a1 a2 : FVec Ideal S8x4x2x128 .bf16) (a3 : FVec Ideal S8x131072x2x128 .fp8e4m3) (a4 : FVec Ideal S8x131072x2 .f32)
    (a5 : FVec Ideal S8x131072x2x128 .fp8e4m3) (a6 : FVec Ideal S8x131072x2 .f32) (a7 : IVec S8 32) (h : fn (F := Ideal) a0 a1 a2 a3 a4 a5 a6 a7 = fun _ => 1#1) :
    (∀ b : Fin 8, 1024 ≤ (a7 (ix1 b)).toNat ∧ (a7 (ix1 b)).toNat ≤ 131072)
      ∧ (∀ (b : Fin 8) (s : Fin 4) (k : Fin 2), InRange (amax fun x => a1 (ix4 b s k x))) ∧ (∀ (b : Fin 8) (s : Fin 4) (k : Fin 2), InRange (amax fun x => a2 (ix4 b s k x))) := by
  haveI : Subsingleton S_.Idx := ⟨fun f g => funext fun x => x.elim0⟩
  have e := congrFun h (fun x => x.elim0)
  unfold fn fn_part1 at e
  obtain ⟨e, e2⟩ := IntOp.andi_eq_one.1 e
  obtain ⟨e0, e1⟩ := IntOp.andi_eq_one.1 e
  refine ⟨fun b => ?_, range_at a1 _ rfl _ e1, range_at a2 _ rfl _ e2⟩
  obtain ⟨l, u⟩ := IntOp.andi_eq_one.1 (Host.reduce_andi_all _ _ _ _ _ e0 (ix1 b))
  have l' : (1024#32).toInt ≤ (a7 (ix1 b)).toInt := of_decide_eq_true ((ofBool_eq_one_iff _).1 l)
  have u' : (a7 (ix1 b)).toInt ≤ (131072#32).toInt := of_decide_eq_true ((ofBool_eq_one_iff _).1 u)
  rw [show (1024#32).toInt = 1024 from rfl] at l'
  rw [show (131072#32).toInt = 131072 from rfl] at u'
  exact length_of _ l' u'

end Cert.Range

end
-- ==== Proof.Blocks.lean ====
/- What the kernel's body computes, written once: the quantiser of one head's new rows, and the attention of one batch row.
   Each is the body's own operations in the body's own order; the body repeats the quantiser four times and the attention eight times. -/
module

public import proofs.«01_k».proof.Proof.KernelIdealBody

@[expose] public section

noncomputable section

namespace Cert.KernelIdeal.Hand

open Cert.KernelIdeal Cert.KernelIdeal.Gen
open Idealize.ShloMosaic Idealize.ShloMosaic.TcCoe

variable {F : FTy → Type} [FloatOps F] [Named F]

/-! ## The quantiser -/

/-- The new rows of the head of parity 0, and of parity 1. -/
def rowsOf (src : Vec F S64x128 .bf16) : Fin 2 → FVec F S32x128 .f32
  | 0 => extf .f32 (rowsOfParity 0 S32x128 src bitcasts_S64x128_w16_S32x128_w32)
  | 1 => extf .f32 (rowsOfParity 1 S32x128 src bitcasts_S64x128_w16_S32x128_w32)

/-- The exponent field of max|row| / 448. -/
def fieldOf (v : FVec F S32x128 .f32) : IVec S32x128 32 :=
  addi (fptosi 32 (minimumf (broadcast S32x128 (Scalar.ofBits .f32 0x43000000#32)) (maximumf (broadcast S32x128 (Scalar.ofBits .f32 0xC2FE0000#32))
    (floor (mulf (log (mulf (broadcastTo S32x128 (shapeCast S32x1 (shapeCast S32x1 (multiReduction .maximumf [1] S32 (absf v) 0xFF800000#32 reduces_S32x128_S32 (.inl rfl) rfl) shapeCasts_S32_S32x1) shapeCasts_S32x1_S32x1) broadcasts_S32x1_S32x128)
      (broadcast S32x128 (Scalar.ofBits .f32 0x3B124925#32)))) (broadcast S32x128 (Named.named κ "log2e" 0x3FB8AA3B#32)))))))
    (broadcast S32x128 127#32)

/-- The scale's exponent. -/
def expoOf (f : IVec S32x128 32) : IVec S32x128 32 :=
  select (ori (cmpi .eq f (broadcast S32x128 0#32)) (cmpi .eq f (broadcast S32x128 255#32))) (broadcast S32x128 0#32) (subi f (broadcast S32x128 126#32))

/-- The scale, two to the exponent, by its bits. -/
def scaleOf (v : FVec F S32x128 .f32) : FVec F S32x128 .f32 :=
  bitcastToFloat .f32 (shli (addi (expoOf (fieldOf v)) (broadcast S32x128 127#32)) (broadcast S32x128 23#32))

/-- The codes: the row over its scale, clipped. -/
def codesOf (v : FVec F S32x128 .f32) : FVec F S32x128 .fp8e4m3 :=
  truncf .fp8e4m3 (minimumf (broadcast S32x128 (Scalar.ofBits .f32 0x43E00000#32)) (maximumf (broadcast S32x128 (Scalar.ofBits .f32 0xC3E00000#32))
    (mulf v (bitcastToFloat .f32 (shli (subi (broadcast S32x128 127#32) (expoOf (fieldOf v))) (broadcast S32x128 23#32)))))) bitsLt_fp8e4m3_f32

/-- The codes as a piece of the buffer of a head's keys or values. -/
def codesPiece (v : FVec F S32x128 .f32) : FVec F S1x1x32x128 .fp8e4m3 := shapeCast S1x1x32x128 (codesOf v) shapeCasts_S32x128_S1x1x32x128

/-- The codes as a piece of the buffer the result is assembled in. -/
def codesWords (v : FVec F S32x128 .f32) : FVec F S8x4x128 .f32 :=
  shapeCast S8x4x128 (shapeCast S8x4x128 (extf .f32 (codesOf v) bitsLt_fp8e4m3_f32) shapeCasts_S32x128_S8x4x128) shapeCasts_S8x4x128_S8x4x128

/-- The new tokens' scales along the lanes, token `n` in lane `n + 32`. -/
def newScales (v : FVec F S32x128 .f32) : FVec F S1x128 .f32 :=
  shapeCast S1x128 (multiReduction .add [0] S128 (select (cmpi .eq (iota .tc S32x128 32 [1] iota_S32x128_d1_w32) (addi (iota .tc S32x128 32 [0] iota_S32x128_d0_w32) (broadcast S32x128 32#32)))
    (scaleOf v) (broadcast S32x128 (Scalar.ofBits .f32 0x00000000#32))) 0x00000000#32 reduces_S32x128_S128 (.inl rfl) rfl) shapeCasts_S128_S1x128

/-- The scales of the new tokens at place `s` of their sequences, one batch row to a lane. -/
def seqScales (s : BitVec 32) (v : FVec F S32x128 .f32) : FVec F S1x8 .f32 :=
  shapeCast S1x8 (extractStridedSlice S1x8 ![0, 0] (shapeCast S1x128 (multiReduction .add [0] S128 (select (andi (cmpi .eq (remsi (iota .tc S32x128 32 [0] iota_S32x128_d0_w32) (broadcast S32x128 4#32)) (broadcast S32x128 s))
      (cmpi .eq (iota .tc S32x128 32 [1] iota_S32x128_d1_w32) (divsi (iota .tc S32x128 32 [0] iota_S32x128_d0_w32) (broadcast S32x128 4#32))))
    (scaleOf v) (broadcast S32x128 (Scalar.ofBits .f32 0x00000000#32))) 0x00000000#32 reduces_S32x128_S128 (.inl rfl) rfl) shapeCasts_S128_S1x128) slices_S1x128_o0_0_S1x8) shapeCasts_S1x8_S1x8

/-! ## The attention of one batch row -/

/-- Rows that are of the head of parity 0, in each group of eight. -/
def halfMask : IVec S32x128 1 := cmpi .slt (remsi (iota .tc S32x128 32 [0] iota_S32x128_d0_w32) (broadcast S32x128 8#32)) (broadcast S32x128 4#32)

/-- The queries, the rows of the first head in the first 128 lanes and those of the second in the last, zeros beside. -/
def queries (x : Vec F S1x64x128 .bf16) : FVec F S64x256 .bf16 :=
  let lo := rowsOfParity 0 S32x128 (shapeCast S64x128 x shapeCasts_S1x64x128_S64x128) bitcasts_S64x128_w16_S32x128_w32
  let hi := rowsOfParity 1 S32x128 (shapeCast S64x128 x shapeCasts_S1x64x128_S64x128) bitcasts_S64x128_w16_S32x128_w32
  let z : FVec F S32x128 .bf16 := constant S32x128 .bf16 0x0000#16
  interleaveRows S64x256 (concatenate S32x256 1 [⟨S32x128, select halfMask lo z⟩, ⟨S32x128, select halfMask z lo⟩] concatenates_S32x128_S32x128_S32x256_d1)
    (concatenate S32x256 1 [⟨S32x128, select halfMask hi z⟩, ⟨S32x128, select halfMask z hi⟩] concatenates_S32x128_S32x128_S32x256_d1) bitcasts_S64x256_w16_S32x256_w32

/-- The cached scales with the first loaded token's in lane 0. -/
def rolled (shift : BitVec 32) (sc : Vec F S1x2x1152 .f32) : FVec F S2x1152 .f32 :=
  dynamicRotate 1 (Scalar.select (Scalar.cmpi .eq shift 0#32) 0#32 (Scalar.subi 1152#32 shift)) none (shapeCast S2x1152 sc shapeCasts_S1x2x1152_S2x1152) rotates_S2x1152_d1

def lanes8 : IVec S8x128 32 := iota .tc S8x128 32 [1] iota_S8x128_d1_w32

/-- A head's scales of the first 1024 tokens, and of the last 64: 32 cached ones and the 32 new ones. -/
def headScales (shift : BitVec 32) (sc : Vec F S1x2x1152 .f32) : Fin 2 → FVec F S1x1024 .f32
  | 0 => extractStridedSlice S1x1024 ![0, 0] (rolled shift sc) slices_S2x1152_o0_0_S1x1024
  | 1 => extractStridedSlice S1x1024 ![1, 0] (rolled shift sc) slices_S2x1152_o1_0_S1x1024
def tailScales (shift : BitVec 32) (sc : Vec F S1x2x1152 .f32) (new : Fin 2 → FVec F S1x128 .f32) : Fin 2 → FVec F S1x64 .f32
  | 0 => extractStridedSlice S1x64 ![0, 0] (select (cmpi .slt (extractStridedSlice S1x128 ![0, 0] lanes8 slices_S8x128_o0_0_S1x128) (broadcast S1x128 32#32))
      (extractStridedSlice S1x128 ![0, 1024] (rolled shift sc) slices_S2x1152_o0_1024_S1x128) (new 0)) slices_S1x128_o0_0_S1x64
  | 1 => extractStridedSlice S1x64 ![0, 0] (select (cmpi .slt (extractStridedSlice S1x128 ![0, 0] lanes8 slices_S8x128_o0_0_S1x128) (broadcast S1x128 32#32))
      (extractStridedSlice S1x128 ![1, 1024] (rolled shift sc) slices_S2x1152_o1_1024_S1x128) (new 1)) slices_S1x128_o0_0_S1x64

/-- Those scales times 128^(-1/2) and log₂ e. -/
def headFactors (f : FVec F S1x1024 .f32) : FVec F S1x1024 .f32 :=
  mulf (mulf f (broadcast S1x1024 (Scalar.ofBits .f32 0x3DB504F3#32))) (broadcast S1x1024 (Named.named κ "log2e" 0x3FB8AA3B#32))
def tailFactors (f : FVec F S1x64 .f32) : FVec F S1x64 .f32 :=
  mulf (mulf f (broadcast S1x64 (Scalar.ofBits .f32 0x3DB504F3#32))) (broadcast S1x64 (Named.named κ "log2e" 0x3FB8AA3B#32))

/-- Two heads' keys or values side by side. -/
def sideBySide (k0 k1 : Vec F S1x1x1088x128 .fp8e4m3) : FVec F S1088x256 .fp8e4m3 :=
  concatenate S1088x256 1 [⟨S1088x128, shapeCast S1088x128 k0 shapeCasts_S1x1x1088x128_S1088x128⟩, ⟨S1088x128, shapeCast S1088x128 k1 shapeCasts_S1x1x1088x128_S1088x128⟩] concatenates_S1088x128_S1088x128_S1088x256_d1

/-- Every query row against every token. -/
def dots (x : Vec F S1x64x128 .bf16) (k0 k1 : Vec F S1x1x1088x128 .fp8e4m3) : FVec F S64x1088 .f32 :=
  matmul dot_S64x256_S1088x256_S64x1088_1_1_0_0_n_n none (queries x) (sideBySide k0 k1) (constant S64x1088 .f32 0x00000000#32)

/-- The masked scores of eight query rows at place `i` of their sequence, new tokens `own` to `own + i` their own. -/
def scoresOf (off i own ownI : BitVec 32) (s : FVec F S8x1088 .f32) (fh : FVec F S1x1024 .f32) (ft : FVec F S1x64 .f32) : FVec F S8x1088 .f32 :=
  concatenate S8x1088 1 [
    ⟨S8x128, select (cmpi .sgt lanes8 (broadcast S8x128 (Scalar.subi (Scalar.addi off i) 1024#32)))
      (mulf (extractStridedSlice S8x128 ![0, 0] s slices_S8x1088_o0_0_S8x128) (broadcastTo S8x128 (extractStridedSlice S1x128 ![0, 0] fh slices_S1x1024_o0_0_S1x128) broadcasts_S1x128_S8x128))
      (broadcast S8x128 (Scalar.ofBits .f32 0xFF800000#32))⟩,
    ⟨S8x896, mulf (extractStridedSlice S8x896 ![0, 128] s slices_S8x1088_o0_128_S8x896) (broadcastTo S8x896 (extractStridedSlice S1x896 ![0, 128] fh slices_S1x1024_o0_128_S1x896) broadcasts_S1x896_S8x896)⟩,
    ⟨S8x64, select (ori (cmpi .slt (extractStridedSlice S8x64 ![0, 0] lanes8 slices_S8x128_o0_0_S8x64) (broadcast S8x64 (Scalar.subi off 1024#32)))
        (andi (cmpi .sge (extractStridedSlice S8x64 ![0, 0] lanes8 slices_S8x128_o0_0_S8x64) (broadcast S8x64 own)) (cmpi .sle (extractStridedSlice S8x64 ![0, 0] lanes8 slices_S8x128_o0_0_S8x64) (broadcast S8x64 ownI))))
      (mulf (extractStridedSlice S8x64 ![0, 1024] s slices_S8x1088_o0_1024_S8x64) (broadcastTo S8x64 ft broadcasts_S1x64_S8x64))
      (broadcast S8x64 (Scalar.ofBits .f32 0xFF800000#32))⟩] concatenates_S8x128_S8x896_S8x64_S8x1088_d1

/-- Two to the score less the row's largest. -/
def weights (s : FVec F S8x1088 .f32) : FVec F S8x1088 .f32 :=
  exp2 (subf s (broadcastTo S8x1088 (shapeCast S8x1 (multiReduction .maximumf [1] S8 s 0xFF800000#32 reduces_S8x1088_S8 (.inl rfl) rfl) shapeCasts_S8_S8x1) broadcasts_S8x1_S8x1088))

/-- The weights over their sum. -/
def probsOf (e : FVec F S8x1088 .f32) : FVec F S8x1088 .f32 :=
  mulf e (broadcastTo S8x1088 (divf (broadcast S8x1 (Scalar.ofBits .f32 0x3F800000#32)) (shapeCast S8x1 (multiReduction .add [1] S8 e 0x00000000#32 reduces_S8x1088_S8 (.inl rfl) rfl) shapeCasts_S8_S8x1)) broadcasts_S8x1_S8x1088)

/-- The probabilities times the values' scales. -/
def scaledProbs (p : FVec F S8x1088 .f32) (gh : FVec F S1x1024 .f32) (gt : FVec F S1x64 .f32) : FVec F S8x1088 .f32 :=
  concatenate S8x1088 1 [⟨S8x1024, mulf (extractStridedSlice S8x1024 ![0, 0] p slices_S8x1088_o0_0_S8x1024) (broadcastTo S8x1024 gh broadcasts_S1x1024_S8x1024)⟩,
    ⟨S8x64, mulf (extractStridedSlice S8x64 ![0, 1024] p slices_S8x1088_o0_1024_S8x64) (broadcastTo S8x64 gt broadcasts_S1x64_S8x64)⟩] concatenates_S8x1024_S8x64_S8x1088_d1

def rowProbs (off i own ownI : BitVec 32) (s : FVec F S8x1088 .f32) (kh : FVec F S1x1024 .f32) (kt : FVec F S1x64 .f32) (gh : FVec F S1x1024 .f32) (gt : FVec F S1x64 .f32) : FVec F S8x1088 .f32 :=
  scaledProbs (probsOf (weights (scoresOf off i own ownI s (headFactors kh) (tailFactors kt)))) gh gt

/-- All 64 query rows' probabilities times the values' scales. -/
def allProbs (off own own1 own2 own3 : BitVec 32) (s : FVec F S64x1088 .f32) (kh : Fin 2 → FVec F S1x1024 .f32) (kt : Fin 2 → FVec F S1x64 .f32)
    (gh : Fin 2 → FVec F S1x1024 .f32) (gt : Fin 2 → FVec F S1x64 .f32) : FVec F S64x1088 .bf16 :=
  truncf .bf16 (concatenate S64x1088 0 [
    ⟨S8x1088, rowProbs off 0#32 own own (extractStridedSlice S8x1088 ![0, 0] s slices_S64x1088_o0_0_S8x1088) (kh 0) (kt 0) (gh 0) (gt 0)⟩,
    ⟨S8x1088, rowProbs off 0#32 own own (extractStridedSlice S8x1088 ![8, 0] s slices_S64x1088_o8_0_S8x1088) (kh 1) (kt 1) (gh 1) (gt 1)⟩,
    ⟨S8x1088, rowProbs off 1#32 own own1 (extractStridedSlice S8x1088 ![16, 0] s slices_S64x1088_o16_0_S8x1088) (kh 0) (kt 0) (gh 0) (gt 0)⟩,
    ⟨S8x1088, rowProbs off 1#32 own own1 (extractStridedSlice S8x1088 ![24, 0] s slices_S64x1088_o24_0_S8x1088) (kh 1) (kt 1) (gh 1) (gt 1)⟩,
    ⟨S8x1088, rowProbs off 2#32 own own2 (extractStridedSlice S8x1088 ![32, 0] s slices_S64x1088_o32_0_S8x1088) (kh 0) (kt 0) (gh 0) (gt 0)⟩,
    ⟨S8x1088, rowProbs off 2#32 own own2 (extractStridedSlice S8x1088 ![40, 0] s slices_S64x1088_o40_0_S8x1088) (kh 1) (kt 1) (gh 1) (gt 1)⟩,
    ⟨S8x1088, rowProbs off 3#32 own own3 (extractStridedSlice S8x1088 ![48, 0] s slices_S64x1088_o48_0_S8x1088) (kh 0) (kt 0) (gh 0) (gt 0)⟩,
    ⟨S8x1088, rowProbs off 3#32 own own3 (extractStridedSlice S8x1088 ![56, 0] s slices_S64x1088_o56_0_S8x1088) (kh 1) (kt 1) (gh 1) (gt 1)⟩]
    concatenates_S8x1088_S8x1088_S8x1088_S8x1088_S8x1088_S8x1088_S8x1088_S8x1088_S64x1088_d0) bitsLt_bf16_f32

/-- Every query row against both heads' values. -/
def mixed (p : FVec F S64x1088 .bf16) (v0 v1 : Vec F S1x1x1088x128 .fp8e4m3) : FVec F S64x256 .f32 :=
  matmul dot_S64x1088_S1088x256_S64x256_1_0_0_1_n_n none p (sideBySide v0 v1) (constant S64x256 .f32 0x00000000#32)

/-- One batch row: its 64 query rows against both heads' values. -/
def batchOut (off shift own own1 own2 own3 : BitVec 32) (x : Vec F S1x64x128 .bf16) (k0 k1 v0 v1 : Vec F S1x1x1088x128 .fp8e4m3) (ks vs : Vec F S1x2x1152 .f32)
    (newK newV : Fin 2 → FVec F S1x128 .f32) : FVec F S64x256 .f32 :=
  mixed (allProbs off own own1 own2 own3 (dots x k0 k1) (headScales shift ks) (tailScales shift ks newK) (headScales shift vs) (tailScales shift vs newV)) v0 v1

end Cert.KernelIdeal.Hand

end
-- ==== Proof.Structure.lean ====
/- The body's run, batch row by batch row: each row's output is the attention of what the buffers of keys, values and scales hold. -/
module

public import proofs.«01_k».proof.Proof.Blocks

@[expose] public section

noncomputable section

namespace Cert.KernelIdeal.Hand

open Cert.KernelIdeal Cert.KernelIdeal.Gen
open Idealize.ShloMosaic Idealize.ShloMosaic.TcCoe

variable {F : FTy → Type} [FloatOps F] [Named F]

/-- A buffer each for the operands, the results and the scratch memory. -/
structure Bufs29 (G0 G1 G2 G3 G4 G5 G6 G7 F8 F9 F10 F11 F12 S0 S1 S2 S3 S4 S5 S6 S7 S8 S9 S10 S11 S12 S13 S14 : Type) where
  g0 : G0
  g1 : G1
  g2 : G2
  g3 : G3
  g4 : G4
  g5 : G5
  g6 : G6
  g7 : G7
  f8 : F8
  f9 : F9
  f10 : F10
  f11 : F11
  f12 : F12
  s0 : S0
  s1 : S1
  s2 : S2
  s3 : S3
  s4 : S4
  s5 : S5
  s6 : S6
  s7 : S7
  s8 : S8
  s9 : S9
  s10 : S10
  s11 : S11
  s12 : S12
  s13 : S13
  s14 : S14

/-- What the operands, the results and the scratch buffers hold when the body starts. -/
abbrev Bufs (F : FTy → Type) [FloatOps F] [Named F] (c : Dev nD) : Type :=
  Bufs29 (MBuf (F := F) c hb0) (MBuf (F := F) c hb1) (MBuf (F := F) c hb2) (MBuf (F := F) c hb3) (MBuf (F := F) c hb4) (MBuf (F := F) c hb5) (MBuf (F := F) c hb6) (MBuf (F := F) c hb7) (MBuf (F := F) c hb8) (MBuf (F := F) c hb9) (MBuf (F := F) c hb10) (MBuf (F := F) c hb11) (MBuf (F := F) c hb12) (MBuf (F := F) c sc0) (MBuf (F := F) c sc1) (MBuf (F := F) c sc2) (MBuf (F := F) c sc3) (MBuf (F := F) c sc4) (MBuf (F := F) c sc5) (MBuf (F := F) c sc6) (MBuf (F := F) c sc7) (MBuf (F := F) c sc8) (MBuf (F := F) c sc9) (MBuf (F := F) c sc10) (MBuf (F := F) c sc11) (MBuf (F := F) c sc12) (MBuf (F := F) c sc13) (MBuf (F := F) c sc14)

variable {c : Dev nD}

/-- A batch row's query rows against both heads' values, as the run names it. -/
def Bufs29.out (B : Bufs F c) : Fin 8 → FVec F S64x256 .f32
  | 0 => (kernelRun.sl.v1395 c B.g0 B.g1 B.g2 B.g3 B.g4 B.g5 B.g6 B.g7 B.s0 B.s1 B.s2 B.s3 B.s4 B.s5 B.s6 B.s7 chk1 chk2 chk3 chk4 chk5 chk6 chk7 chk8)
  | 1 => (kernelRun.sl.v1923 c B.g0 B.g1 B.g2 B.g3 B.g4 B.g5 B.g6 B.g7 B.s0 B.s1 B.s2 B.s3 B.s4 B.s5 B.s6 B.s7 chk1 chk2 chk3 chk4 chk5 chk6 chk7 chk8)
  | 2 => (kernelRun.sl.v2451 c B.g0 B.g1 B.g2 B.g3 B.g4 B.g5 B.g6 B.g7 B.s0 B.s1 B.s2 B.s3 B.s4 B.s5 B.s6 B.s7 chk1 chk2 chk3 chk4 chk5 chk6 chk7 chk8)
  | 3 => (kernelRun.sl.v2979 c B.g0 B.g1 B.g2 B.g3 B.g4 B.g5 B.g6 B.g7 B.s0 B.s1 B.s2 B.s3 B.s4 B.s5 B.s6 B.s7 chk1 chk2 chk3 chk4 chk5 chk6 chk7 chk8)
  | 4 => (kernelRun.sl.v3507 c B.g0 B.g1 B.g2 B.g3 B.g4 B.g5 B.g6 B.g7 B.s0 B.s1 B.s2 B.s3 B.s4 B.s5 B.s6 B.s7 chk1 chk2 chk3 chk4 chk5 chk6 chk7 chk8)
  | 5 => (kernelRun.sl.v4035 c B.g0 B.g1 B.g2 B.g3 B.g4 B.g5 B.g6 B.g7 B.s0 B.s1 B.s2 B.s3 B.s4 B.s5 B.s6 B.s7 chk1 chk2 chk3 chk4 chk5 chk6 chk7 chk8)
  | 6 => (kernelRun.sl.v4563 c B.g0 B.g1 B.g2 B.g3 B.g4 B.g5 B.g6 B.g7 B.s0 B.s1 B.s2 B.s3 B.s4 B.s5 B.s6 B.s7 chk1 chk2 chk3 chk4 chk5 chk6 chk7 chk8)
  | 7 => (kernelRun.sl.v5091 c B.g0 B.g1 B.g2 B.g3 B.g4 B.g5 B.g6 B.g7 B.s0 B.s1 B.s2 B.s3 B.s4 B.s5 B.s6 B.s7 chk1 chk2 chk3 chk4 chk5 chk6 chk7 chk8)

/-- The window's first position less the first token loaded. -/
def Bufs29.off (B : Bufs F c) : Fin 8 → BitVec 32
  | 0 => (kernelRun.sl.v19 c B.g0 B.s0)
  | 1 => (kernelRun.sl.v54 c B.g0 B.s0)
  | 2 => (kernelRun.sl.v89 c B.g0 B.s0)
  | 3 => (kernelRun.sl.v124 c B.g0 B.s0)
  | 4 => (kernelRun.sl.v159 c B.g0 B.s0)
  | 5 => (kernelRun.sl.v194 c B.g0 B.s0)
  | 6 => (kernelRun.sl.v229 c B.g0 B.s0)
  | 7 => (kernelRun.sl.v264 c B.g0 B.s0)

/-- The first token loaded less the first scale loaded. -/
def Bufs29.shift (B : Bufs F c) : Fin 8 → BitVec 32
  | 0 => (kernelRun.sl.v20 c B.g0 B.s0)
  | 1 => (kernelRun.sl.v55 c B.g0 B.s0)
  | 2 => (kernelRun.sl.v90 c B.g0 B.s0)
  | 3 => (kernelRun.sl.v125 c B.g0 B.s0)
  | 4 => (kernelRun.sl.v160 c B.g0 B.s0)
  | 5 => (kernelRun.sl.v195 c B.g0 B.s0)
  | 6 => (kernelRun.sl.v230 c B.g0 B.s0)
  | 7 => (kernelRun.sl.v265 c B.g0 B.s0)

/-- The cache length the body reads. -/
def Bufs29.word (B : Bufs F c) : Fin 8 → BitVec 32
  | 0 => (kernelRun.sl.r c B.g0 B.s0)
  | 1 => (kernelRun.sl.r_1 c B.g0 B.s0)
  | 2 => (kernelRun.sl.r_2 c B.g0 B.s0)
  | 3 => (kernelRun.sl.r_3 c B.g0 B.s0)
  | 4 => (kernelRun.sl.r_4 c B.g0 B.s0)
  | 5 => (kernelRun.sl.r_5 c B.g0 B.s0)
  | 6 => (kernelRun.sl.r_6 c B.g0 B.s0)
  | 7 => (kernelRun.sl.r_7 c B.g0 B.s0)

/-- The keys of the first head, the body reads. -/
def Bufs29.k0 (B : Bufs F c) : Fin 8 → Vec F S1x1x1088x128 .fp8e4m3
  | 0 => (kernelRun.sl.v991 c B.g0 B.g2 B.g4 B.s0 B.s2 B.s4 chk1 chk2 chk3 chk4 chk5 chk6 chk7 chk8)
  | 1 => (kernelRun.sl.v1519 c B.g0 B.g2 B.g4 B.s0 B.s2 B.s4 chk1 chk2 chk3 chk4 chk5 chk6 chk7 chk8)
  | 2 => (kernelRun.sl.v2047 c B.g0 B.g2 B.g4 B.s0 B.s2 B.s4 chk1 chk2 chk3 chk4 chk5 chk6 chk7 chk8)
  | 3 => (kernelRun.sl.v2575 c B.g0 B.g2 B.g4 B.s0 B.s2 B.s4 chk1 chk2 chk3 chk4 chk5 chk6 chk7 chk8)
  | 4 => (kernelRun.sl.v3103 c B.g0 B.g2 B.g4 B.s0 B.s2 B.s4 chk1 chk2 chk3 chk4 chk5 chk6 chk7 chk8)
  | 5 => (kernelRun.sl.v3631 c B.g0 B.g2 B.g4 B.s0 B.s2 B.s4 chk1 chk2 chk3 chk4 chk5 chk6 chk7 chk8)
  | 6 => (kernelRun.sl.v4159 c B.g0 B.g2 B.g4 B.s0 B.s2 B.s4 chk1 chk2 chk3 chk4 chk5 chk6 chk7 chk8)
  | 7 => (kernelRun.sl.v4687 c B.g0 B.g2 B.g4 B.s0 B.s2 B.s4 chk1 chk2 chk3 chk4 chk5 chk6 chk7 chk8)

/-- The keys of the second head. -/
def Bufs29.k1 (B : Bufs F c) : Fin 8 → Vec F S1x1x1088x128 .fp8e4m3
  | 0 => (kernelRun.sl.v993 c B.g0 B.g2 B.g4 B.s0 B.s2 B.s4 chk1 chk2 chk3 chk4 chk5 chk6 chk7 chk8)
  | 1 => (kernelRun.sl.v1521 c B.g0 B.g2 B.g4 B.s0 B.s2 B.s4 chk1 chk2 chk3 chk4 chk5 chk6 chk7 chk8)
  | 2 => (kernelRun.sl.v2049 c B.g0 B.g2 B.g4 B.s0 B.s2 B.s4 chk1 chk2 chk3 chk4 chk5 chk6 chk7 chk8)
  | 3 => (kernelRun.sl.v2577 c B.g0 B.g2 B.g4 B.s0 B.s2 B.s4 chk1 chk2 chk3 chk4 chk5 chk6 chk7 chk8)
  | 4 => (kernelRun.sl.v3105 c B.g0 B.g2 B.g4 B.s0 B.s2 B.s4 chk1 chk2 chk3 chk4 chk5 chk6 chk7 chk8)
  | 5 => (kernelRun.sl.v3633 c B.g0 B.g2 B.g4 B.s0 B.s2 B.s4 chk1 chk2 chk3 chk4 chk5 chk6 chk7 chk8)
  | 6 => (kernelRun.sl.v4161 c B.g0 B.g2 B.g4 B.s0 B.s2 B.s4 chk1 chk2 chk3 chk4 chk5 chk6 chk7 chk8)
  | 7 => (kernelRun.sl.v4689 c B.g0 B.g2 B.g4 B.s0 B.s2 B.s4 chk1 chk2 chk3 chk4 chk5 chk6 chk7 chk8)

/-- The values of the first head. -/
def Bufs29.v0 (B : Bufs F c) : Fin 8 → Vec F S1x1x1088x128 .fp8e4m3
  | 0 => (kernelRun.sl.v1390 c B.g0 B.g3 B.g6 B.s0 B.s3 B.s5 chk1 chk2 chk3 chk4 chk5 chk6 chk7 chk8)
  | 1 => (kernelRun.sl.v1918 c B.g0 B.g3 B.g6 B.s0 B.s3 B.s5 chk1 chk2 chk3 chk4 chk5 chk6 chk7 chk8)
  | 2 => (kernelRun.sl.v2446 c B.g0 B.g3 B.g6 B.s0 B.s3 B.s5 chk1 chk2 chk3 chk4 chk5 chk6 chk7 chk8)
  | 3 => (kernelRun.sl.v2974 c B.g0 B.g3 B.g6 B.s0 B.s3 B.s5 chk1 chk2 chk3 chk4 chk5 chk6 chk7 chk8)
  | 4 => (kernelRun.sl.v3502 c B.g0 B.g3 B.g6 B.s0 B.s3 B.s5 chk1 chk2 chk3 chk4 chk5 chk6 chk7 chk8)
  | 5 => (kernelRun.sl.v4030 c B.g0 B.g3 B.g6 B.s0 B.s3 B.s5 chk1 chk2 chk3 chk4 chk5 chk6 chk7 chk8)
  | 6 => (kernelRun.sl.v4558 c B.g0 B.g3 B.g6 B.s0 B.s3 B.s5 chk1 chk2 chk3 chk4 chk5 chk6 chk7 chk8)
  | 7 => (kernelRun.sl.v5086 c B.g0 B.g3 B.g6 B.s0 B.s3 B.s5 chk1 chk2 chk3 chk4 chk5 chk6 chk7 chk8)

/-- The values of the second head. -/
def Bufs29.v1 (B : Bufs F c) : Fin 8 → Vec F S1x1x1088x128 .fp8e4m3
  | 0 => (kernelRun.sl.v1392 c B.g0 B.g3 B.g6 B.s0 B.s3 B.s5 chk1 chk2 chk3 chk4 chk5 chk6 chk7 chk8)
  | 1 => (kernelRun.sl.v1920 c B.g0 B.g3 B.g6 B.s0 B.s3 B.s5 chk1 chk2 chk3 chk4 chk5 chk6 chk7 chk8)
  | 2 => (kernelRun.sl.v2448 c B.g0 B.g3 B.g6 B.s0 B.s3 B.s5 chk1 chk2 chk3 chk4 chk5 chk6 chk7 chk8)
  | 3 => (kernelRun.sl.v2976 c B.g0 B.g3 B.g6 B.s0 B.s3 B.s5 chk1 chk2 chk3 chk4 chk5 chk6 chk7 chk8)
  | 4 => (kernelRun.sl.v3504 c B.g0 B.g3 B.g6 B.s0 B.s3 B.s5 chk1 chk2 chk3 chk4 chk5 chk6 chk7 chk8)
  | 5 => (kernelRun.sl.v4032 c B.g0 B.g3 B.g6 B.s0 B.s3 B.s5 chk1 chk2 chk3 chk4 chk5 chk6 chk7 chk8)
  | 6 => (kernelRun.sl.v4560 c B.g0 B.g3 B.g6 B.s0 B.s3 B.s5 chk1 chk2 chk3 chk4 chk5 chk6 chk7 chk8)
  | 7 => (kernelRun.sl.v5088 c B.g0 B.g3 B.g6 B.s0 B.s3 B.s5 chk1 chk2 chk3 chk4 chk5 chk6 chk7 chk8)

/-- The keys' scales the body reads. -/
def Bufs29.ks (B : Bufs F c) : Fin 8 → Vec F S1x2x1152 .f32
  | 0 => (kernelRun.sl.v935 c B.g0 B.g5 B.s0 B.s6 chk1 chk2 chk3 chk4 chk5 chk6 chk7 chk8)
  | 1 => (kernelRun.sl.v1463 c B.g0 B.g5 B.s0 B.s6 chk1 chk2 chk3 chk4 chk5 chk6 chk7 chk8)
  | 2 => (kernelRun.sl.v1991 c B.g0 B.g5 B.s0 B.s6 chk1 chk2 chk3 chk4 chk5 chk6 chk7 chk8)
  | 3 => (kernelRun.sl.v2519 c B.g0 B.g5 B.s0 B.s6 chk1 chk2 chk3 chk4 chk5 chk6 chk7 chk8)
  | 4 => (kernelRun.sl.v3047 c B.g0 B.g5 B.s0 B.s6 chk1 chk2 chk3 chk4 chk5 chk6 chk7 chk8)
  | 5 => (kernelRun.sl.v3575 c B.g0 B.g5 B.s0 B.s6 chk1 chk2 chk3 chk4 chk5 chk6 chk7 chk8)
  | 6 => (kernelRun.sl.v4103 c B.g0 B.g5 B.s0 B.s6 chk1 chk2 chk3 chk4 chk5 chk6 chk7 chk8)
  | 7 => (kernelRun.sl.v4631 c B.g0 B.g5 B.s0 B.s6 chk1 chk2 chk3 chk4 chk5 chk6 chk7 chk8)

/-- The values' scales the body reads. -/
def Bufs29.vs (B : Bufs F c) : Fin 8 → Vec F S1x2x1152 .f32
  | 0 => (kernelRun.sl.v968 c B.g0 B.g7 B.s0 B.s7 chk1 chk2 chk3 chk4 chk5 chk6 chk7 chk8)
  | 1 => (kernelRun.sl.v1496 c B.g0 B.g7 B.s0 B.s7 chk1 chk2 chk3 chk4 chk5 chk6 chk7 chk8)
  | 2 => (kernelRun.sl.v2024 c B.g0 B.g7 B.s0 B.s7 chk1 chk2 chk3 chk4 chk5 chk6 chk7 chk8)
  | 3 => (kernelRun.sl.v2552 c B.g0 B.g7 B.s0 B.s7 chk1 chk2 chk3 chk4 chk5 chk6 chk7 chk8)
  | 4 => (kernelRun.sl.v3080 c B.g0 B.g7 B.s0 B.s7 chk1 chk2 chk3 chk4 chk5 chk6 chk7 chk8)
  | 5 => (kernelRun.sl.v3608 c B.g0 B.g7 B.s0 B.s7 chk1 chk2 chk3 chk4 chk5 chk6 chk7 chk8)
  | 6 => (kernelRun.sl.v4136 c B.g0 B.g7 B.s0 B.s7 chk1 chk2 chk3 chk4 chk5 chk6 chk7 chk8)
  | 7 => (kernelRun.sl.v4664 c B.g0 B.g7 B.s0 B.s7 chk1 chk2 chk3 chk4 chk5 chk6 chk7 chk8)

/-- The query rows the body reads. -/
def Bufs29.x (B : Bufs F c) : Fin 8 → Vec F S1x64x128 .bf16
  | 0 => sc1.view.readAt (Elt F) (Rect.unit (s := S8x64x128) ![0, 0, 0] S1x64x128.size (by decide)).toLoadRect (sc1.view.write (Elt F) B.s1 (kernelRun.sl.dma0_3 c B.g1) Finset.univ)
  | 1 => sc1.view.readAt (Elt F) (Rect.unit (s := S8x64x128) ![1, 0, 0] S1x64x128.size (by decide)).toLoadRect (sc1.view.write (Elt F) B.s1 (kernelRun.sl.dma0_3 c B.g1) Finset.univ)
  | 2 => sc1.view.readAt (Elt F) (Rect.unit (s := S8x64x128) ![2, 0, 0] S1x64x128.size (by decide)).toLoadRect (sc1.view.write (Elt F) B.s1 (kernelRun.sl.dma0_3 c B.g1) Finset.univ)
  | 3 => sc1.view.readAt (Elt F) (Rect.unit (s := S8x64x128) ![3, 0, 0] S1x64x128.size (by decide)).toLoadRect (sc1.view.write (Elt F) B.s1 (kernelRun.sl.dma0_3 c B.g1) Finset.univ)
  | 4 => sc1.view.readAt (Elt F) (Rect.unit (s := S8x64x128) ![4, 0, 0] S1x64x128.size (by decide)).toLoadRect (sc1.view.write (Elt F) B.s1 (kernelRun.sl.dma0_3 c B.g1) Finset.univ)
  | 5 => sc1.view.readAt (Elt F) (Rect.unit (s := S8x64x128) ![5, 0, 0] S1x64x128.size (by decide)).toLoadRect (sc1.view.write (Elt F) B.s1 (kernelRun.sl.dma0_3 c B.g1) Finset.univ)
  | 6 => sc1.view.readAt (Elt F) (Rect.unit (s := S8x64x128) ![6, 0, 0] S1x64x128.size (by decide)).toLoadRect (sc1.view.write (Elt F) B.s1 (kernelRun.sl.dma0_3 c B.g1) Finset.univ)
  | 7 => sc1.view.readAt (Elt F) (Rect.unit (s := S8x64x128) ![7, 0, 0] S1x64x128.size (by decide)).toLoadRect (sc1.view.write (Elt F) B.s1 (kernelRun.sl.dma0_3 c B.g1) Finset.univ)
/-- The new keys the body reads, and the new values. -/
def Bufs29.kn (B : Bufs F c) : Vec F S64x128 .bf16 := sc2.view.readAt (Elt F) (Rect.unit (s := S64x128) ![0, 0] S64x128.size (by decide)).toLoadRect (sc2.view.write (Elt F) B.s2 (kernelRun.sl.dma0_1 c B.g2) Finset.univ)
def Bufs29.vn (B : Bufs F c) : Vec F S64x128 .bf16 := sc3.view.readAt (Elt F) (Rect.unit (s := S64x128) ![0, 0] S64x128.size (by decide)).toLoadRect (sc3.view.write (Elt F) B.s3 (kernelRun.sl.dma0_2 c B.g3) Finset.univ)

/-- The lane of batch row `b`'s new token at place `i`. -/
def own (b : Fin 8) (i : ℕ) : BitVec 32 := BitVec.ofNat 32 (32 + 4 * b.val + i)

def newK (B : Bufs F c) : Fin 2 → FVec F S1x128 .f32 := fun kv => newScales (rowsOf B.kn kv)
def newV (B : Bufs F c) : Fin 2 → FVec F S1x128 .f32 := fun kv => newScales (rowsOf B.vn kv)

theorem codesPiece_kn (B : Bufs F c) : (fun kv : Fin 2 => codesPiece (rowsOf B.kn kv)) = fun | 0 => (kernelRun.sl.v346 c B.g2 B.s2) | 1 => (kernelRun.sl.v490 c B.g2 B.s2) := by
  funext kv; match kv with
  | 0 => rfl
  | 1 => rfl

theorem newScales_kn (B : Bufs F c) : (fun kv : Fin 2 => newScales (rowsOf B.kn kv)) = fun | 0 => (kernelRun.sl.v379 c B.g2 B.s2) | 1 => (kernelRun.sl.v523 c B.g2 B.s2) := by
  funext kv; match kv with
  | 0 => rfl
  | 1 => rfl

end Cert.KernelIdeal.Hand

end
-- ==== Proof.Buffers.lean ====
/- What a buffer filled piece by piece reads at an index: the buffers of the keys and values, of their scales, of the codes and of the
   results. -/
module

public import proofs.«01_k».proof.Proof.Blocks
public import Idealize.ShloMosaic.Lib.WritesUnit
public import Idealize.ShloMosaic.Lib.ValueIdx
public import Idealize.ShloMosaic.Lib.VecWindow
public import Idealize.ShloMosaic.Lib.ValueLayout

@[expose] public section

noncomputable section

namespace Cert.KernelIdeal.Hand

open Cert.KernelIdeal Cert.KernelIdeal.Gen
open Idealize.ShloMosaic
open Idealize.ShloMosaic.TcCoe Idealize.ShloMosaic.ValueIdx

/-- A write through a squeezed slice is one more piece. -/
theorem write_squeezed {κ : Kind} {sp : Space} {s : Shape} {e : EltTy} {Val : EltTy → Type} (m : Memref sig κ sp s e) (r : Rect s) (hr : ∀ a, r.stride a = 1)
    {s' : Shape} (h : r.shape.Squeezes s') (f : m.view.ty.Contents Val) (w : s'.Idx → Val e) :
    ((m.slice r hr).squeeze s' h).view.write Val f w Finset.univ
      = m.view.writes Val f [⟨r, fun x => w ((Shape.reshapeEquiv h.numel_eq).symm x)⟩] := by
  exact View.write_reshape_univ (v := m.view.slice r) h.numel_eq f w

section Pieces

variable {e : EltTy} {Val : EltTy → Type}

/-! ### Keys and values -/

theorem keysInb (b : Fin 8) : ∀ a, (![b.val, 0, 0, 0] : Fin 4 → ℕ) a + S1x2x1056x128.size a ≤ S8x2x1088x128.size a := by
  intro a; fin_cases a <;> simp [S1x2x1056x128, S8x2x1088x128] <;> omega
theorem newInb (b : Fin 8) (kv : Fin 2) : ∀ a, (![b.val, kv.val, 1056, 0] : Fin 4 → ℕ) a + S1x1x32x128.size a ≤ S8x2x1088x128.size a := by
  intro a; fin_cases a <;> simp [S1x1x32x128, S8x2x1088x128] <;> omega

/-- The piece of batch row `b`'s loaded tokens, and of a head's new ones. -/
def loadedPiece (w : Fin 8 → S2x1056x128.Idx → Val e) (b : Fin 8) : View.Piece Val S8x2x1088x128 e :=
  ⟨Rect.unit ![b.val, 0, 0, 0] S1x2x1056x128.size (keysInb b), fun x => w b ((Shape.reshapeEquiv squeezes_S1x2x1056x128_S2x1056x128.numel_eq).symm x)⟩
def newPiece (n : Fin 2 → S1x1x32x128.Idx → Val e) (kv : Fin 2) (b : Fin 8) : View.Piece Val S8x2x1088x128 e :=
  ⟨Rect.unit ![b.val, kv.val, 1056, 0] S1x1x32x128.size (newInb b kv), n kv⟩

/-- The buffer of keys (or values): batch row, head, token, coordinate; the first 1056 tokens loaded, the last 32 new. -/
def keysBuf (w : Fin 8 → S2x1056x128.Idx → Val e) (n : Fin 2 → S1x1x32x128.Idx → Val e) : S8x2x1088x128.Idx → Val e := fun y =>
  if h : (y 2).val < 1056 then w (y 0) (ValueIdx.ix3 (y 1) ⟨(y 2).val, h⟩ (y 3))
  else n (y 1) (ValueIdx.ix4 0 0 ⟨(y 2).val - 1056, by have : (y 2).val < 1088 := (y 2).isLt; omega⟩ (y 3))

theorem emb_loaded (b : Fin 8) (x : S1x2x1056x128.Idx) (h : (x 2).val < 1088) :
    (Rect.unit (s := S8x2x1088x128) ![b.val, 0, 0, 0] S1x2x1056x128.size (keysInb b)).emb x = ValueIdx.ix4 b (x 1) ⟨(x 2).val, h⟩ (x 3) := by
  funext a
  have h0 : (x 0).val < 1 := (x 0).isLt
  match a with
  | ⟨0, _⟩ => exact Fin.ext (show b.val + 1 * (x 0).val = b.val by omega)
  | ⟨1, _⟩ => exact Fin.ext (show 0 + 1 * (x 1).val = (x 1).val by omega)
  | ⟨2, _⟩ => exact Fin.ext (show 0 + 1 * (x 2).val = (x 2).val by omega)
  | ⟨3, _⟩ => exact Fin.ext (show 0 + 1 * (x 3).val = (x 3).val by omega)
theorem emb_new (b : Fin 8) (kv : Fin 2) (x : S1x1x32x128.Idx) (h : 1056 + (x 2).val < 1088) :
    (Rect.unit (s := S8x2x1088x128) ![b.val, kv.val, 1056, 0] S1x1x32x128.size (newInb b kv)).emb x = ValueIdx.ix4 b kv ⟨1056 + (x 2).val, h⟩ (x 3) := by
  funext a
  have h0 : (x 0).val < 1 := (x 0).isLt
  have h1 : (x 1).val < 1 := (x 1).isLt
  match a with
  | ⟨0, _⟩ => exact Fin.ext (show b.val + 1 * (x 0).val = b.val by omega)
  | ⟨1, _⟩ => exact Fin.ext (show kv.val + 1 * (x 1).val = kv.val by omega)
  | ⟨2, _⟩ => exact Fin.ext (show 1056 + 1 * (x 2).val = 1056 + (x 2).val by omega)
  | ⟨3, _⟩ => exact Fin.ext (show 0 + 1 * (x 3).val = (x 3).val by omega)

theorem keys_read {κ : Kind} {sp : Space} (v : View sig κ sp S8x2x1088x128 e) (f : v.ty.Contents Val) (w : Fin 8 → S2x1056x128.Idx → Val e) (n : Fin 2 → S1x1x32x128.Idx → Val e)
    (y : S8x2x1088x128.Idx) (L : List (View.Piece Val S8x2x1088x128 e)) (hL : ∀ p ∈ L, (∃ b, p = loadedPiece w b) ∨ ∃ kv b, p = newPiece n kv b)
    (h1 : ∀ b, loadedPiece w b ∈ L) (h2 : ∀ kv b, newPiece n kv b ∈ L) :
    v.read Val (v.writes Val f L) y = keysBuf w n y := by
  refine View.read_writes_apply_of_pieces v f (keysBuf w n) L (fun p hp => ?_) y ?_
  · rcases hL p hp with ⟨b, rfl⟩ | ⟨kv, b, rfl⟩
    · intro (x : S1x2x1056x128.Idx)
      have lt : (x 2).val < 1056 := (x 2).isLt
      show w b ((Shape.reshapeEquiv squeezes_S1x2x1056x128_S2x1056x128.numel_eq).symm x) = keysBuf w n ((Rect.unit (s := S8x2x1088x128) ![b.val, 0, 0, 0] S1x2x1056x128.size (keysInb b)).emb x)
      rw [emb_loaded b x (by omega)]
      unfold keysBuf
      rw [dif_pos (show (x 2).val < 1056 from lt)]
      refine congrArg (w b) ?_
      rw [Equiv.symm_apply_eq]
      have h0 : (x 0).val < 1 := (x 0).isLt
      refine Eq.trans ?_ (reshapeEquiv_ix3_1abc _ (x 1) (⟨(x 2).val, lt⟩ : Fin 1056) (x 3)).symm
      funext a
      match a with
      | ⟨0, _⟩ => exact Fin.ext (show (x 0).val = 0 by omega)
      | ⟨1, _⟩ => rfl
      | ⟨2, _⟩ => rfl
      | ⟨3, _⟩ => rfl
    · intro (x : S1x1x32x128.Idx)
      have lt : (x 2).val < 32 := (x 2).isLt
      have h0 : (x 0).val < 1 := (x 0).isLt
      have h1 : (x 1).val < 1 := (x 1).isLt
      show n kv x = keysBuf w n ((Rect.unit (s := S8x2x1088x128) ![b.val, kv.val, 1056, 0] S1x1x32x128.size (newInb b kv)).emb x)
      rw [emb_new b kv x (by omega)]
      unfold keysBuf
      rw [dif_neg (show ¬ 1056 + (x 2).val < 1056 by omega)]
      refine congrArg (n kv) ?_
      funext a
      match a with
      | ⟨0, _⟩ => exact Fin.ext (show (x 0).val = 0 by omega)
      | ⟨1, _⟩ => exact Fin.ext (show (x 1).val = 0 by omega)
      | ⟨2, _⟩ => exact Fin.ext (show (x 2).val = 1056 + (x 2).val - 1056 by omega)
      | ⟨3, _⟩ => rfl
  · have b2 : (y 2).val < 1088 := (y 2).isLt
    by_cases h : (y 2).val < 1056
    · refine ⟨_, h1 (y 0), (Rect.mem_set_unit (inb := keysInb (y 0))).mpr fun a => ?_⟩
      match a with
      | ⟨0, _⟩ => exact ⟨Nat.le_refl _, Nat.lt_succ_self _⟩
      | ⟨1, _⟩ => exact ⟨Nat.zero_le _, show (y 1).val < 0 + 2 by have : (y 1).val < 2 := (y 1).isLt; omega⟩
      | ⟨2, _⟩ => exact ⟨Nat.zero_le _, show (y 2).val < 0 + 1056 by omega⟩
      | ⟨3, _⟩ => exact ⟨Nat.zero_le _, show (y 3).val < 0 + 128 by have : (y 3).val < 128 := (y 3).isLt; omega⟩
    · refine ⟨_, h2 (y 1) (y 0), (Rect.mem_set_unit (inb := newInb (y 0) (y 1))).mpr fun a => ?_⟩
      match a with
      | ⟨0, _⟩ => exact ⟨Nat.le_refl _, Nat.lt_succ_self _⟩
      | ⟨1, _⟩ => exact ⟨Nat.le_refl _, Nat.lt_succ_self _⟩
      | ⟨2, _⟩ => exact ⟨show 1056 ≤ (y 2).val by omega, show (y 2).val < 1056 + 32 by omega⟩
      | ⟨3, _⟩ => exact ⟨Nat.zero_le _, show (y 3).val < 0 + 128 by have : (y 3).val < 128 := (y 3).isLt; omega⟩

/-! ### Writing the eight batch rows, last row outermost -/

/-- The pieces of the rows below `n`, the last first. -/
def piecesBelow {s : Shape} (pc : Fin 8 → List (View.Piece Val s e)) : ℕ → List (View.Piece Val s e)
  | 0 => []
  | n + 1 => pc (Fin.ofNat 8 n) ++ piecesBelow pc n

theorem mem_piecesBelow {s : Shape} {pc : Fin 8 → List (View.Piece Val s e)} {p : View.Piece Val s e} : ∀ n ≤ 8, (p ∈ piecesBelow pc n ↔ ∃ b : Fin 8, b.val < n ∧ p ∈ pc b)
  | 0, _ => by simp [piecesBelow]
  | n + 1, h => by
    have hv : (Fin.ofNat 8 n).val = n := Nat.mod_eq_of_lt (by omega)
    simp only [piecesBelow, List.mem_append, mem_piecesBelow n (by omega)]
    constructor
    · rintro (h' | ⟨b, hb, h'⟩)
      · exact ⟨_, by omega, h'⟩
      · exact ⟨b, by omega, h'⟩
    · rintro ⟨b, hb, h'⟩
      by_cases hbn : b.val = n
      · left; rwa [show Fin.ofNat 8 n = b from Fin.ext (hv.trans hbn.symm)]
      · right; exact ⟨b, by omega, h'⟩

/-- The eight rows of loaded keys written one after another. -/
def keysNest {sp : Space} (m : Memref sig .tc sp S8x2x1088x128 e) (w : Fin 8 → S2x1056x128.Idx → Val e) (f : m.view.ty.Contents Val) : ℕ → m.view.ty.Contents Val
  | 0 => f
  | n + 1 => ((m.slice (Rect.unit ![(Fin.ofNat 8 n).val, 0, 0, 0] S1x2x1056x128.size (keysInb (Fin.ofNat 8 n))) (fun _ => rfl)).squeeze S2x1056x128 squeezes_S1x2x1056x128_S2x1056x128).view.write Val
      (keysNest m w f n) (w (Fin.ofNat 8 n)) Finset.univ

theorem keysNest_eq {sp : Space} (m : Memref sig .tc sp S8x2x1088x128 e) (w : Fin 8 → S2x1056x128.Idx → Val e) (f : m.view.ty.Contents Val) :
    ∀ n, keysNest m w f n = m.view.writes Val f (piecesBelow (fun b => [loadedPiece w b]) n)
  | 0 => rfl
  | n + 1 => by
    show View.write Val _ _ _ _ = _
    rw [write_squeezed, keysNest_eq m w f n]; rfl

/-- The buffer of keys after the loads and the new tokens' pieces. -/
theorem keysNest_read {sp : Space} (m : Memref sig .tc sp S8x2x1088x128 e) (w : Fin 8 → S2x1056x128.Idx → Val e) (n : Fin 2 → S1x1x32x128.Idx → Val e) (f : m.view.ty.Contents Val)
    (y : S8x2x1088x128.Idx) :
    m.view.read Val (m.view.writes Val (keysNest m w f 8) (piecesBelow (fun b => [newPiece n 1 b]) 8 ++ piecesBelow (fun b => [newPiece n 0 b]) 8)) y = keysBuf w n y := by
  rw [keysNest_eq, ← View.writes_append]
  refine keys_read m.view f w n y _ (fun p hp => ?_) (fun b => ?_) (fun kv b => ?_)
  · simp only [List.mem_append, mem_piecesBelow 8 (le_refl 8), List.mem_singleton] at hp
    rcases hp with (⟨b, -, h⟩ | ⟨b, -, h⟩) | ⟨b, -, h⟩
    · exact .inr ⟨_, _, h⟩
    · exact .inr ⟨_, _, h⟩
    · exact .inl ⟨_, h⟩
  · simp only [List.mem_append, mem_piecesBelow 8 (le_refl 8), List.mem_singleton]
    exact .inr ⟨b, b.isLt, rfl⟩
  · simp only [List.mem_append, mem_piecesBelow 8 (le_refl 8), List.mem_singleton]
    match kv with
    | 0 => exact .inl (.inr ⟨b, b.isLt, rfl⟩)
    | 1 => exact .inl (.inl ⟨b, b.isLt, rfl⟩)

/-! ### One matrix to a batch row -/

section Rows

variable {p q : ℕ}

theorem rowInb (p q : ℕ) (b : Fin 8) : ∀ a, (![b.val, 0, 0] : Fin 3 → ℕ) a + (![1, p, q] : Fin 3 → ℕ) a ≤ (![8, p, q] : Fin 3 → ℕ) a := by
  intro a; fin_cases a <;> simp <;> omega

/-- Batch row `b`. -/
abbrev rowRect (p q : ℕ) (b : Fin 8) : Rect ⟨3, ![8, p, q]⟩ := Rect.unit ![b.val, 0, 0] ![1, p, q] (rowInb p q b)

theorem emb_row (b : Fin 8) (x : Shape.Idx ⟨3, ![1, p, q]⟩) : (rowRect p q b).emb x = (ValueIdx.ix3 b (x 1) (x 2) : Shape.Idx ⟨3, ![8, p, q]⟩) := by
  funext a
  have h0 : (x 0).val < 1 := (x 0).isLt
  match a with
  | ⟨0, _⟩ => exact Fin.ext (show b.val + 1 * (x 0).val = b.val by omega)
  | ⟨1, _⟩ => exact Fin.ext (show 0 + 1 * (x 1).val = (x 1).val by omega)
  | ⟨2, _⟩ => exact Fin.ext (show 0 + 1 * (x 2).val = (x 2).val by omega)

theorem row_mem (y : Shape.Idx ⟨3, ![8, p, q]⟩) : y ∈ (rowRect p q (y 0)).set := by
  refine Rect.mem_set_unit.mpr fun a => ?_
  match a with
  | ⟨0, _⟩ => exact ⟨Nat.le_refl _, Nat.lt_succ_self _⟩
  | ⟨1, _⟩ => exact ⟨Nat.zero_le _, show (y 1).val < 0 + p by have : (y 1).val < p := (y 1).isLt; omega⟩
  | ⟨2, _⟩ => exact ⟨Nat.zero_le _, show (y 2).val < 0 + q by have : (y 2).val < q := (y 2).isLt; omega⟩

theorem squeeze_row (h : (⟨2, ![p, q]⟩ : Shape).numel = (⟨3, ![1, p, q]⟩ : Shape).numel) (x : Shape.Idx ⟨3, ![1, p, q]⟩) :
    (Shape.reshapeEquiv h).symm x = (ValueIdx.ix2 (x 1) (x 2) : Shape.Idx ⟨2, ![p, q]⟩) := by
  rw [Equiv.symm_apply_eq]
  have h0 : (x 0).val < 1 := (x 0).isLt
  refine Eq.trans ?_ (reshapeEquiv_ix2_1ab _ (x 1) (x 2)).symm
  funext a
  match a with
  | ⟨0, _⟩ => exact Fin.ext (show (x 0).val = 0 by omega)
  | ⟨1, _⟩ => rfl
  | ⟨2, _⟩ => rfl

/-- The eight matrices written one after another. -/
def rowsNest {sp : Space} (m : Memref sig .tc sp ⟨3, ![8, p, q]⟩ e) (h : (⟨3, ![1, p, q]⟩ : Shape).Squeezes ⟨2, ![p, q]⟩) (w : Fin 8 → Shape.Idx ⟨2, ![p, q]⟩ → Val e) (f : m.view.ty.Contents Val) : ℕ → m.view.ty.Contents Val
  | 0 => f
  | n + 1 => ((m.slice (rowRect p q (Fin.ofNat 8 n)) (fun _ => rfl)).squeeze ⟨2, ![p, q]⟩ h).view.write Val (rowsNest m h w f n) (w (Fin.ofNat 8 n)) Finset.univ

theorem rowsNest_eq {sp : Space} (m : Memref sig .tc sp ⟨3, ![8, p, q]⟩ e) (h : (⟨3, ![1, p, q]⟩ : Shape).Squeezes ⟨2, ![p, q]⟩) (w : Fin 8 → Shape.Idx ⟨2, ![p, q]⟩ → Val e) (f : m.view.ty.Contents Val) :
    ∀ n, rowsNest m h w f n = m.view.writes Val f (piecesBelow (fun b => [⟨rowRect p q b, fun x => w b ((Shape.reshapeEquiv h.numel_eq).symm x)⟩]) n)
  | 0 => rfl
  | n + 1 => by
    show View.write Val _ _ _ _ = _
    rw [write_squeezed, rowsNest_eq m h w f n]; rfl

theorem rowsNest_read {sp : Space} (m : Memref sig .tc sp ⟨3, ![8, p, q]⟩ e) (h : (⟨3, ![1, p, q]⟩ : Shape).Squeezes ⟨2, ![p, q]⟩) (w : Fin 8 → Shape.Idx ⟨2, ![p, q]⟩ → Val e) (f : m.view.ty.Contents Val)
    (y : Shape.Idx ⟨3, ![8, p, q]⟩) : m.view.read Val (rowsNest m h w f 8) y = w (y 0) (ValueIdx.ix2 (y 1) (y 2)) := by
  rw [rowsNest_eq]
  refine View.read_writes_apply_of_pieces m.view f (fun y => w (y 0) (ValueIdx.ix2 (y 1) (y 2))) _ (fun pc hp => ?_) y ?_
  · simp only [mem_piecesBelow 8 (le_refl 8), List.mem_singleton] at hp
    obtain ⟨b, -, rfl⟩ := hp
    intro x
    show w b ((Shape.reshapeEquiv _).symm x) = w ((rowRect p q b).emb x 0) (ValueIdx.ix2 ((rowRect p q b).emb x 1) ((rowRect p q b).emb x 2))
    rw [emb_row, squeeze_row]
    rfl
  · refine ⟨⟨rowRect p q (y 0), fun x => w (y 0) ((Shape.reshapeEquiv h.numel_eq).symm x)⟩, ?_, row_mem y⟩
    simp only [mem_piecesBelow 8 (le_refl 8), List.mem_singleton]
    exact ⟨y 0, (y 0).isLt, rfl⟩

/-- Reading row `b` through a squeezed slice, of a buffer filled row by row up to `b`. -/
theorem rowsBelow_read {sp : Space} (m : Memref sig .tc sp ⟨3, ![8, p, q]⟩ e) (h : (⟨3, ![1, p, q]⟩ : Shape).Squeezes ⟨2, ![p, q]⟩) (w : Fin 8 → Shape.Idx ⟨3, ![1, p, q]⟩ → Val e) (f : m.view.ty.Contents Val)
    (b : Fin 8) (n : ℕ) (hn : n ≤ 8) (hb : b.val < n) (y : Shape.Idx ⟨2, ![p, q]⟩) :
    ((m.slice (rowRect p q b) (fun _ => rfl)).squeeze ⟨2, ![p, q]⟩ h).view.read Val (m.view.writes Val f (piecesBelow (fun b => [⟨rowRect p q b, w b⟩]) n)) y
      = w b (ValueIdx.ix3 0 (y 0) (y 1)) := by
  show m.view.read Val _ ((rowRect p q b).emb (Shape.reshapeEquiv h.numel_eq y)) = _
  rw [show Shape.reshapeEquiv h.numel_eq y = ValueIdx.ix3 0 (y 0) (y 1) from
    (congrArg _ (eq_ix2 y)).trans (reshapeEquiv_ix2_1ab _ (y 0) (y 1))]
  refine (View.read_writes_apply_of_pieces m.view f (fun y => w (y 0) (ValueIdx.ix3 0 (y 1) (y 2))) _ (fun pc hp => ?_) _ ?_).trans
    (show w ((rowRect p q b).emb (ValueIdx.ix3 0 (y 0) (y 1)) 0) (ValueIdx.ix3 0 ((rowRect p q b).emb (ValueIdx.ix3 0 (y 0) (y 1)) 1) ((rowRect p q b).emb (ValueIdx.ix3 0 (y 0) (y 1)) 2)) = _ by rw [emb_row]; rfl)
  · simp only [mem_piecesBelow n hn, List.mem_singleton] at hp
    obtain ⟨b, -, rfl⟩ := hp
    intro x
    show w b x = w ((rowRect p q b).emb x 0) (ValueIdx.ix3 0 ((rowRect p q b).emb x 1) ((rowRect p q b).emb x 2))
    rw [emb_row]
    refine congrArg (w b) ?_
    have h0 : (x 0).val < 1 := (x 0).isLt
    funext a
    match a with
    | ⟨0, _⟩ => exact Fin.ext (show (x 0).val = 0 by omega)
    | ⟨1, _⟩ => rfl
    | ⟨2, _⟩ => rfl
  · refine ⟨⟨rowRect p q b, w b⟩, ?_, (rowRect p q b).toLoadRect.idx_mem _⟩
    simp only [mem_piecesBelow n hn, List.mem_singleton]
    exact ⟨b, hb, rfl⟩

end Rows

end Pieces
end Cert.KernelIdeal.Hand

end
-- ==== Proof.Reads.lean ====
/- What each batch row reads: the cache length, the queries, the new keys and values, the window of keys, values and scales copied in. -/
module

public import proofs.«01_k».proof.Proof.Structure
public import proofs.«01_k».proof.Proof.Buffers
public import proofs.«01_k».proof.Proof.Words
public import proofs.«01_k».proof.Proof.KernelIdealChecks

@[expose] public section

noncomputable section

namespace Cert.KernelIdeal.Hand

open Cert.KernelIdeal Cert.KernelIdeal.Gen
open Idealize.ShloMosaic Idealize.ShloMosaic.TcCoe Idealize.ShloMosaic.ValueIdx

variable {F : FTy → Type} [FloatOps F] [Named F] {c : Dev nD}

/-- The window of keys copied for each batch row. -/
def Bufs29.loadK (B : Bufs F c) : Fin 8 → S2x1056x128.Idx → F .fp8e4m3
  | 0 => (kernelRun.sl.dma1_2 c B.g0 B.g4 B.s0 chk1)
  | 1 => (kernelRun.sl.dma2_2 c B.g0 B.g4 B.s0 chk2)
  | 2 => (kernelRun.sl.dma3_2 c B.g0 B.g4 B.s0 chk3)
  | 3 => (kernelRun.sl.dma4_2 c B.g0 B.g4 B.s0 chk4)
  | 4 => (kernelRun.sl.dma5_2 c B.g0 B.g4 B.s0 chk5)
  | 5 => (kernelRun.sl.dma6_2 c B.g0 B.g4 B.s0 chk6)
  | 6 => (kernelRun.sl.dma7_2 c B.g0 B.g4 B.s0 chk7)
  | 7 => (kernelRun.sl.dma8_2 c B.g0 B.g4 B.s0 chk8)

/-- The window of values copied for each batch row. -/
def Bufs29.loadV (B : Bufs F c) : Fin 8 → S2x1056x128.Idx → F .fp8e4m3
  | 0 => (kernelRun.sl.dma1_3 c B.g0 B.g6 B.s0 chk1)
  | 1 => (kernelRun.sl.dma2_3 c B.g0 B.g6 B.s0 chk2)
  | 2 => (kernelRun.sl.dma3_3 c B.g0 B.g6 B.s0 chk3)
  | 3 => (kernelRun.sl.dma4_3 c B.g0 B.g6 B.s0 chk4)
  | 4 => (kernelRun.sl.dma5_3 c B.g0 B.g6 B.s0 chk5)
  | 5 => (kernelRun.sl.dma6_3 c B.g0 B.g6 B.s0 chk6)
  | 6 => (kernelRun.sl.dma7_3 c B.g0 B.g6 B.s0 chk7)
  | 7 => (kernelRun.sl.dma8_3 c B.g0 B.g6 B.s0 chk8)

/-- The window of keys' scales copied for each batch row. -/
def Bufs29.loadKS (B : Bufs F c) : Fin 8 → S2x1152.Idx → F .f32
  | 0 => (kernelRun.sl.dma1 c B.g0 B.g5 B.s0 chk1)
  | 1 => (kernelRun.sl.dma2 c B.g0 B.g5 B.s0 chk2)
  | 2 => (kernelRun.sl.dma3 c B.g0 B.g5 B.s0 chk3)
  | 3 => (kernelRun.sl.dma4 c B.g0 B.g5 B.s0 chk4)
  | 4 => (kernelRun.sl.dma5 c B.g0 B.g5 B.s0 chk5)
  | 5 => (kernelRun.sl.dma6 c B.g0 B.g5 B.s0 chk6)
  | 6 => (kernelRun.sl.dma7 c B.g0 B.g5 B.s0 chk7)
  | 7 => (kernelRun.sl.dma8 c B.g0 B.g5 B.s0 chk8)

/-- The window of values' scales copied for each batch row. -/
def Bufs29.loadVS (B : Bufs F c) : Fin 8 → S2x1152.Idx → F .f32
  | 0 => (kernelRun.sl.dma1_1 c B.g0 B.g7 B.s0 chk1)
  | 1 => (kernelRun.sl.dma2_1 c B.g0 B.g7 B.s0 chk2)
  | 2 => (kernelRun.sl.dma3_1 c B.g0 B.g7 B.s0 chk3)
  | 3 => (kernelRun.sl.dma4_1 c B.g0 B.g7 B.s0 chk4)
  | 4 => (kernelRun.sl.dma5_1 c B.g0 B.g7 B.s0 chk5)
  | 5 => (kernelRun.sl.dma6_1 c B.g0 B.g7 B.s0 chk6)
  | 6 => (kernelRun.sl.dma7_1 c B.g0 B.g7 B.s0 chk7)
  | 7 => (kernelRun.sl.dma8_1 c B.g0 B.g7 B.s0 chk8)

/-- The cache length of a batch row. -/
def Bufs29.len (B : Bufs F c) (b : Fin 8) : BitVec 32 := hb0.view.read (Elt F) B.g0 (ValueIdx.ix1 b)

theorem wordInb (b : Fin 8) : ∀ a, (![b.val] : Fin 1 → ℕ) a + S1.size a ≤ S8.size a := by
  intro a; fin_cases a; show b.val + 1 ≤ 8; omega
theorem word_eq (B : Bufs F c) (b : Fin 8) : B.word b = B.len b := by
  have key : B.word b = sc0.view.readAt (Elt F) (Rect.unit (s := S8) ![b.val] S1.size (wordInb b)).toLoadRect (sc0.view.write (Elt F) B.s0 (kernelRun.sl.dma0 c B.g0) Finset.univ) (ValueIdx.ix1 0) := by
    match b with
      | 0 => rfl
      | 1 => rfl
      | 2 => rfl
      | 3 => rfl
      | 4 => rfl
      | 5 => rfl
      | 6 => rfl
      | 7 => rfl
  rw [key, View.readAt_apply, View.read_write_univ]
  have e : (Rect.unit (s := S8) ![b.val] S1.size (wordInb b)).toLoadRect.idx (ValueIdx.ix1 0) = ValueIdx.ix1 b := by
    funext a
    match a with
    | ⟨0, _⟩ => exact Fin.ext (show b.val + 1 * 0 = b.val by omega)
  rw [e]; rfl

theorem off_eq (B : Bufs F c) (b : Fin 8) : B.off b = Scalar.subi (B.len b) (Words.lo (B.len b)) := by
  rw [← word_eq]
  match b with
  | 0 => rfl
  | 1 => rfl
  | 2 => rfl
  | 3 => rfl
  | 4 => rfl
  | 5 => rfl
  | 6 => rfl
  | 7 => rfl
theorem shift_eq (B : Bufs F c) (b : Fin 8) : B.shift b = Scalar.subi (Words.lo (B.len b)) (Words.laneLo (B.len b)) := by
  rw [← word_eq]
  match b with
  | 0 => rfl
  | 1 => rfl
  | 2 => rfl
  | 3 => rfl
  | 4 => rfl
  | 5 => rfl
  | 6 => rfl
  | 7 => rfl

theorem x_eq (B : Bufs F c) (b : Fin 8) (y : S1x64x128.Idx) : B.x b y = hb1.view.read (Elt F) B.g1 (ValueIdx.ix3 b (y 1) (y 2)) := by
  have key : B.x b y = sc1.view.readAt (Elt F) (rowRect 64 128 b).toLoadRect (sc1.view.write (Elt F) B.s1 (kernelRun.sl.dma0_3 c B.g1) Finset.univ) y := by
    match b with
      | 0 => rfl
      | 1 => rfl
      | 2 => rfl
      | 3 => rfl
      | 4 => rfl
      | 5 => rfl
      | 6 => rfl
      | 7 => rfl
  rw [key, View.readAt_apply, View.read_write_univ]
  exact congrArg _ (emb_row b y)

theorem kn_eq (B : Bufs F c) : B.kn = hb2.view.read (Elt F) B.g2 := by
  funext y
  unfold Bufs29.kn
  rw [View.readAt_apply, View.read_write_univ]
  refine congrArg (hb2.view.read (Elt F) B.g2) ?_
  funext a
  match a with
  | ⟨0, _⟩ => exact Fin.ext (show 0 + 1 * (y 0).val = (y 0).val by omega)
  | ⟨1, _⟩ => exact Fin.ext (show 0 + 1 * (y 1).val = (y 1).val by omega)
theorem vn_eq (B : Bufs F c) : B.vn = hb3.view.read (Elt F) B.g3 := by
  funext y
  unfold Bufs29.vn
  rw [View.readAt_apply, View.read_write_univ]
  refine congrArg (hb3.view.read (Elt F) B.g3) ?_
  funext a
  match a with
  | ⟨0, _⟩ => exact Fin.ext (show 0 + 1 * (y 0).val = (y 0).val by omega)
  | ⟨1, _⟩ => exact Fin.ext (show 0 + 1 * (y 1).val = (y 1).val by omega)

theorem headInb (b : Fin 8) (kv : Fin 2) : ∀ a, (![b.val, kv.val, 0, 0] : Fin 4 → ℕ) a + S1x1x1088x128.size a ≤ S8x2x1088x128.size a := by
  intro a; fin_cases a <;> simp [S1x1x1088x128, S8x2x1088x128] <;> omega
theorem emb_head (b : Fin 8) (kv : Fin 2) (x : S1x1x1088x128.Idx) :
    (Rect.unit (s := S8x2x1088x128) ![b.val, kv.val, 0, 0] S1x1x1088x128.size (headInb b kv)).toLoadRect.idx x = ValueIdx.ix4 b kv (x 2) (x 3) := by
  funext a
  have h0 : (x 0).val < 1 := (x 0).isLt
  have h1 : (x 1).val < 1 := (x 1).isLt
  match a with
  | ⟨0, _⟩ => exact Fin.ext (show b.val + 1 * (x 0).val = b.val by omega)
  | ⟨1, _⟩ => exact Fin.ext (show kv.val + 1 * (x 1).val = kv.val by omega)
  | ⟨2, _⟩ => exact Fin.ext (show 0 + 1 * (x 2).val = (x 2).val by omega)
  | ⟨3, _⟩ => exact Fin.ext (show 0 + 1 * (x 3).val = (x 3).val by omega)

/-- The codes of the new keys, and of the new values, as pieces. -/
def Bufs29.pieceK (B : Bufs F c) (kv : Fin 2) : S1x1x32x128.Idx → F .fp8e4m3 := codesPiece (rowsOf B.kn kv)
def Bufs29.pieceV (B : Bufs F c) (kv : Fin 2) : S1x1x32x128.Idx → F .fp8e4m3 := codesPiece (rowsOf B.vn kv)

theorem k0_eq (B : Bufs F c) (b : Fin 8) (y : S1x1x1088x128.Idx) : B.k0 b y = keysBuf B.loadK B.pieceK (ValueIdx.ix4 b 0 (y 2) (y 3)) := by
  have key : B.k0 b = sc4.view.readAt (Elt F) (Rect.unit (s := S8x2x1088x128) ![b.val, ((0 : Fin 2)).val, 0, 0] S1x1x1088x128.size (headInb b 0)).toLoadRect
      (sc4.view.writes (Elt F) (keysNest sc4 B.loadK B.s4 8) (piecesBelow (fun b => [newPiece B.pieceK 1 b]) 8 ++ piecesBelow (fun b => [newPiece B.pieceK 0 b]) 8)) := by
    match b with
      | 0 => rfl
      | 1 => rfl
      | 2 => rfl
      | 3 => rfl
      | 4 => rfl
      | 5 => rfl
      | 6 => rfl
      | 7 => rfl
  rw [key, View.readAt_apply, keysNest_read, emb_head]; rfl

theorem k1_eq (B : Bufs F c) (b : Fin 8) (y : S1x1x1088x128.Idx) : B.k1 b y = keysBuf B.loadK B.pieceK (ValueIdx.ix4 b 1 (y 2) (y 3)) := by
  have key : B.k1 b = sc4.view.readAt (Elt F) (Rect.unit (s := S8x2x1088x128) ![b.val, ((1 : Fin 2)).val, 0, 0] S1x1x1088x128.size (headInb b 1)).toLoadRect
      (sc4.view.writes (Elt F) (keysNest sc4 B.loadK B.s4 8) (piecesBelow (fun b => [newPiece B.pieceK 1 b]) 8 ++ piecesBelow (fun b => [newPiece B.pieceK 0 b]) 8)) := by
    match b with
      | 0 => rfl
      | 1 => rfl
      | 2 => rfl
      | 3 => rfl
      | 4 => rfl
      | 5 => rfl
      | 6 => rfl
      | 7 => rfl
  rw [key, View.readAt_apply, keysNest_read, emb_head]; rfl

theorem v0_eq (B : Bufs F c) (b : Fin 8) (y : S1x1x1088x128.Idx) : B.v0 b y = keysBuf B.loadV B.pieceV (ValueIdx.ix4 b 0 (y 2) (y 3)) := by
  have key : B.v0 b = sc5.view.readAt (Elt F) (Rect.unit (s := S8x2x1088x128) ![b.val, ((0 : Fin 2)).val, 0, 0] S1x1x1088x128.size (headInb b 0)).toLoadRect
      (sc5.view.writes (Elt F) (keysNest sc5 B.loadV B.s5 8) (piecesBelow (fun b => [newPiece B.pieceV 1 b]) 8 ++ piecesBelow (fun b => [newPiece B.pieceV 0 b]) 8)) := by
    match b with
      | 0 => rfl
      | 1 => rfl
      | 2 => rfl
      | 3 => rfl
      | 4 => rfl
      | 5 => rfl
      | 6 => rfl
      | 7 => rfl
  rw [key, View.readAt_apply, keysNest_read, emb_head]; rfl

theorem v1_eq (B : Bufs F c) (b : Fin 8) (y : S1x1x1088x128.Idx) : B.v1 b y = keysBuf B.loadV B.pieceV (ValueIdx.ix4 b 1 (y 2) (y 3)) := by
  have key : B.v1 b = sc5.view.readAt (Elt F) (Rect.unit (s := S8x2x1088x128) ![b.val, ((1 : Fin 2)).val, 0, 0] S1x1x1088x128.size (headInb b 1)).toLoadRect
      (sc5.view.writes (Elt F) (keysNest sc5 B.loadV B.s5 8) (piecesBelow (fun b => [newPiece B.pieceV 1 b]) 8 ++ piecesBelow (fun b => [newPiece B.pieceV 0 b]) 8)) := by
    match b with
      | 0 => rfl
      | 1 => rfl
      | 2 => rfl
      | 3 => rfl
      | 4 => rfl
      | 5 => rfl
      | 6 => rfl
      | 7 => rfl
  rw [key, View.readAt_apply, keysNest_read, emb_head]; rfl

theorem ks_eq (B : Bufs F c) (b : Fin 8) (y : S1x2x1152.Idx) : B.ks b y = B.loadKS b (ValueIdx.ix2 (y 1) (y 2)) := by
  have key : B.ks b = sc6.view.readAt (Elt F) (rowRect 2 1152 b).toLoadRect (rowsNest sc6 squeezes_S1x2x1152_S2x1152 B.loadKS B.s6 8) := by
    match b with
      | 0 => rfl
      | 1 => rfl
      | 2 => rfl
      | 3 => rfl
      | 4 => rfl
      | 5 => rfl
      | 6 => rfl
      | 7 => rfl
  rw [key, View.readAt_apply, rowsNest_read]
  have e : (rowRect 2 1152 b).toLoadRect.idx y = ValueIdx.ix3 b (y 1) (y 2) := emb_row b y
  rw [e]

theorem vs_eq (B : Bufs F c) (b : Fin 8) (y : S1x2x1152.Idx) : B.vs b y = B.loadVS b (ValueIdx.ix2 (y 1) (y 2)) := by
  have key : B.vs b = sc7.view.readAt (Elt F) (rowRect 2 1152 b).toLoadRect (rowsNest sc7 squeezes_S1x2x1152_S2x1152 B.loadVS B.s7 8) := by
    match b with
      | 0 => rfl
      | 1 => rfl
      | 2 => rfl
      | 3 => rfl
      | 4 => rfl
      | 5 => rfl
      | 6 => rfl
      | 7 => rfl
  rw [key, View.readAt_apply, rowsNest_read]
  have e : (rowRect 2 1152 b).toLoadRect.idx y = ValueIdx.ix3 b (y 1) (y 2) := emb_row b y
  rw [e]

/-! ### The copied windows, element by element -/

theorem window_read {e : EltTy} (m : Memref sig .tc .hbm S8x2x131072x128 e) (g : m.view.ty.Contents (Elt F)) (off : Fin 4 → ℕ) (b : Fin 8) (l : ℕ) (hoff : off = ![b.val, 0, l, 0])
    (inb : ∀ a, off a + S1x2x1056x128.size a ≤ S8x2x131072x128.size a) (y : S2x1056x128.Idx) (h : l + (y 1).val < 131072) :
    ((m.slice (Rect.unit (s := S8x2x131072x128) off S1x2x1056x128.size inb) (fun _ => rfl)).squeeze S2x1056x128 squeezes_S1x2x1056x128_S2x1056x128).view.read (Elt F) g y
      = m.view.read (Elt F) g (ValueIdx.ix4 b (y 0) ⟨l + (y 1).val, h⟩ (y 2)) := by
  subst hoff
  show m.view.read (Elt F) g ((Rect.unit (s := S8x2x131072x128) ![b.val, 0, l, 0] S1x2x1056x128.size inb).emb (Shape.reshapeEquiv squeezes_S1x2x1056x128_S2x1056x128.numel_eq y)) = _
  rw [show Shape.reshapeEquiv squeezes_S1x2x1056x128_S2x1056x128.numel_eq y = ValueIdx.ix4 0 (y 0) (y 1) (y 2) from
    (congrArg _ (eq_ix3 y)).trans (reshapeEquiv_ix3_1abc _ (y 0) (y 1) (y 2))]
  refine congrArg _ ?_
  funext a
  match a with
  | ⟨0, _⟩ => exact Fin.ext (show b.val + 1 * 0 = b.val by omega)
  | ⟨1, _⟩ => exact Fin.ext (show 0 + 1 * (y 0).val = (y 0).val by omega)
  | ⟨2, _⟩ => exact Fin.ext (show l + 1 * (y 1).val = l + (y 1).val by omega)
  | ⟨3, _⟩ => exact Fin.ext (show 0 + 1 * (y 2).val = (y 2).val by omega)

theorem lanes_read {e : EltTy} (m : Memref sig .tc .hbm S8x2x131072 e) (g : m.view.ty.Contents (Elt F)) (off : Fin 3 → ℕ) (b : Fin 8) (l : ℕ) (hoff : off = ![b.val, 0, l])
    (inb : ∀ a, off a + S1x2x1152.size a ≤ S8x2x131072.size a) (y : S2x1152.Idx) (h : l + (y 1).val < 131072) :
    ((m.slice (Rect.unit (s := S8x2x131072) off S1x2x1152.size inb) (fun _ => rfl)).squeeze S2x1152 squeezes_S1x2x1152_S2x1152).view.read (Elt F) g y
      = m.view.read (Elt F) g (ValueIdx.ix3 b (y 0) ⟨l + (y 1).val, h⟩) := by
  subst hoff
  show m.view.read (Elt F) g ((Rect.unit (s := S8x2x131072) ![b.val, 0, l] S1x2x1152.size inb).emb (Shape.reshapeEquiv squeezes_S1x2x1152_S2x1152.numel_eq y)) = _
  rw [show Shape.reshapeEquiv squeezes_S1x2x1152_S2x1152.numel_eq y = ValueIdx.ix3 0 (y 0) (y 1) from
    (congrArg _ (eq_ix2 y)).trans (reshapeEquiv_ix2_1ab _ (y 0) (y 1))]
  refine congrArg _ ?_
  funext a
  match a with
  | ⟨0, _⟩ => exact Fin.ext (show b.val + 1 * 0 = b.val by omega)
  | ⟨1, _⟩ => exact Fin.ext (show 0 + 1 * (y 0).val = (y 0).val by omega)
  | ⟨2, _⟩ => exact Fin.ext (show l + 1 * (y 1).val = l + (y 1).val by omega)

/-- The offsets the body computes from a batch row's cache length. -/
def tokenOff (n : BitVec 32) : Fin 8 → Fin 4 → ℕ
  | 0 => k0_off2 n
  | 1 => k0_off4 n
  | 2 => k0_off6 n
  | 3 => k0_off8 n
  | 4 => k0_off10 n
  | 5 => k0_off12 n
  | 6 => k0_off14 n
  | 7 => k0_off16 n
def laneOff (n : BitVec 32) : Fin 8 → Fin 3 → ℕ
  | 0 => k0_off1 n
  | 1 => k0_off3 n
  | 2 => k0_off5 n
  | 3 => k0_off7 n
  | 4 => k0_off9 n
  | 5 => k0_off11 n
  | 6 => k0_off13 n
  | 7 => k0_off15 n
theorem tokenOff_eq (n : BitVec 32) (b : Fin 8) : tokenOff n b = ![b.val, 0, (Words.lo n).toNat, 0] := by
  match b with
  | 0 => rfl
  | 1 => rfl
  | 2 => rfl
  | 3 => rfl
  | 4 => rfl
  | 5 => rfl
  | 6 => rfl
  | 7 => rfl
theorem laneOff_eq (n : BitVec 32) (b : Fin 8) : laneOff n b = ![b.val, 0, (Words.laneLo n).toNat] := by
  match b with
  | 0 => rfl
  | 1 => rfl
  | 2 => rfl
  | 3 => rfl
  | 4 => rfl
  | 5 => rfl
  | 6 => rfl
  | 7 => rfl
theorem tokenInb (n : BitVec 32) (b : Fin 8) : ∀ a, tokenOff n b a + S1x2x1056x128.size a ≤ S8x2x131072x128.size a := by
  rw [tokenOff_eq]; exact inb4 b.val b.isLt n
theorem laneInb (n : BitVec 32) (b : Fin 8) : ∀ a, laneOff n b a + S1x2x1152.size a ≤ S8x2x131072.size a := by
  rw [laneOff_eq]; exact inb3 b.val b.isLt n

theorem loadK_key (B : Bufs F c) (b : Fin 8) : B.loadK b = ReadAs.same.apply (((hb4.slice (Rect.unit (s := S8x2x131072x128) (tokenOff (B.word b) b) S1x2x1056x128.size (tokenInb (B.word b) b)) (fun _ => rfl)).squeeze S2x1056x128 squeezes_S1x2x1056x128_S2x1056x128).view.read (Elt F) B.g4) := by
  match b with
  | 0 => rfl
  | 1 => rfl
  | 2 => rfl
  | 3 => rfl
  | 4 => rfl
  | 5 => rfl
  | 6 => rfl
  | 7 => rfl

theorem loadK_eq (B : Bufs F c) (b : Fin 8) (y : S2x1056x128.Idx) (h : (Words.lo (B.len b)).toNat + (y 1).val < 131072) :
    B.loadK b y = hb4.view.read (Elt F) B.g4 (ValueIdx.ix4 b (y 0) ⟨(Words.lo (B.len b)).toNat + (y 1).val, h⟩ (y 2)) := by
  rw [loadK_key]
  exact window_read hb4 B.g4 _ b _ (by rw [tokenOff_eq, word_eq]) _ y h

theorem loadV_key (B : Bufs F c) (b : Fin 8) : B.loadV b = ReadAs.same.apply (((hb6.slice (Rect.unit (s := S8x2x131072x128) (tokenOff (B.word b) b) S1x2x1056x128.size (tokenInb (B.word b) b)) (fun _ => rfl)).squeeze S2x1056x128 squeezes_S1x2x1056x128_S2x1056x128).view.read (Elt F) B.g6) := by
  match b with
  | 0 => rfl
  | 1 => rfl
  | 2 => rfl
  | 3 => rfl
  | 4 => rfl
  | 5 => rfl
  | 6 => rfl
  | 7 => rfl

theorem loadV_eq (B : Bufs F c) (b : Fin 8) (y : S2x1056x128.Idx) (h : (Words.lo (B.len b)).toNat + (y 1).val < 131072) :
    B.loadV b y = hb6.view.read (Elt F) B.g6 (ValueIdx.ix4 b (y 0) ⟨(Words.lo (B.len b)).toNat + (y 1).val, h⟩ (y 2)) := by
  rw [loadV_key]
  exact window_read hb6 B.g6 _ b _ (by rw [tokenOff_eq, word_eq]) _ y h

theorem loadKS_key (B : Bufs F c) (b : Fin 8) : B.loadKS b = ReadAs.same.apply (((hb5.slice (Rect.unit (s := S8x2x131072) (laneOff (B.word b) b) S1x2x1152.size (laneInb (B.word b) b)) (fun _ => rfl)).squeeze S2x1152 squeezes_S1x2x1152_S2x1152).view.read (Elt F) B.g5) := by
  match b with
  | 0 => rfl
  | 1 => rfl
  | 2 => rfl
  | 3 => rfl
  | 4 => rfl
  | 5 => rfl
  | 6 => rfl
  | 7 => rfl

theorem loadKS_eq (B : Bufs F c) (b : Fin 8) (y : S2x1152.Idx) (h : (Words.laneLo (B.len b)).toNat + (y 1).val < 131072) :
    B.loadKS b y = hb5.view.read (Elt F) B.g5 (ValueIdx.ix3 b (y 0) ⟨(Words.laneLo (B.len b)).toNat + (y 1).val, h⟩) := by
  rw [loadKS_key]
  exact lanes_read hb5 B.g5 _ b _ (by rw [laneOff_eq, word_eq]) _ y h

theorem loadVS_key (B : Bufs F c) (b : Fin 8) : B.loadVS b = ReadAs.same.apply (((hb7.slice (Rect.unit (s := S8x2x131072) (laneOff (B.word b) b) S1x2x1152.size (laneInb (B.word b) b)) (fun _ => rfl)).squeeze S2x1152 squeezes_S1x2x1152_S2x1152).view.read (Elt F) B.g7) := by
  match b with
  | 0 => rfl
  | 1 => rfl
  | 2 => rfl
  | 3 => rfl
  | 4 => rfl
  | 5 => rfl
  | 6 => rfl
  | 7 => rfl

theorem loadVS_eq (B : Bufs F c) (b : Fin 8) (y : S2x1152.Idx) (h : (Words.laneLo (B.len b)).toNat + (y 1).val < 131072) :
    B.loadVS b y = hb7.view.read (Elt F) B.g7 (ValueIdx.ix3 b (y 0) ⟨(Words.laneLo (B.len b)).toNat + (y 1).val, h⟩) := by
  rw [loadVS_key]
  exact lanes_read hb7 B.g7 _ b _ (by rw [laneOff_eq, word_eq]) _ y h

end Cert.KernelIdeal.Hand

end
-- ==== Proof.Results.lean ====
/- What the five result buffers hold when the body ends, element by element. None depends on what the results or the scratch
   memory held before. -/
module

public import proofs.«01_k».proof.Proof.Reads

@[expose] public section

noncomputable section

namespace Cert.KernelIdeal.Hand

open Cert.KernelIdeal Cert.KernelIdeal.Gen
open Idealize.ShloMosaic Idealize.ShloMosaic.TcCoe Idealize.ShloMosaic.ValueIdx

variable {F : FTy → Type} [FloatOps F] [Named F] {c : Dev nD}

/-! ## The attention's result -/

theorem eightInb (b : Fin 8) (r : ℕ) (hr : r ≤ 35 := by omega) : ∀ a, (![b.val, r, 0] : Fin 3 → ℕ) a + (![1, 4, 1] : Fin 3 → ℕ) a * (S1x8x128.size a - 1) < S8x64x128.size a := by
  intro a; fin_cases a
  · show b.val + 1 * 0 < 8; omega
  · show r + 4 * 7 < 64; omega
  · show 0 + 1 * 127 < 128; omega

/-- Every fourth of the rows from `r` of batch row `b`, eight of them. -/
def eightRows (b : Fin 8) (r : ℕ) (hr : r ≤ 35) : Rect S8x64x128 :=
  ⟨⟨![b.val, r, 0], S1x8x128.size, ![1, 4, 1], fun a => .inr (eightInb b r hr a)⟩, fun a => match a with | ⟨0, _⟩ => Nat.one_pos | ⟨1, _⟩ => Nat.succ_pos 3 | ⟨2, _⟩ => Nat.one_pos⟩

/-- The pieces a batch row is assembled from, the last first. -/
def pieces8 (O : Fin 8 → FVec F S64x256 .f32) (b : Fin 8) : List (View.Piece (Elt F) S8x64x128 .f32) := [
  ⟨eightRows b 35 (by decide), shapeCast S1x8x128 (extractStridedSlice S8x128 ![56, 128] (O b) slices_S64x256_o56_128_S8x128) shapeCasts_S8x128_S1x8x128⟩,
  ⟨eightRows b 3 (by decide), shapeCast S1x8x128 (extractStridedSlice S8x128 ![48, 0] (O b) slices_S64x256_o48_0_S8x128) shapeCasts_S8x128_S1x8x128⟩,
  ⟨eightRows b 34 (by decide), shapeCast S1x8x128 (extractStridedSlice S8x128 ![40, 128] (O b) slices_S64x256_o40_128_S8x128) shapeCasts_S8x128_S1x8x128⟩,
  ⟨eightRows b 2 (by decide), shapeCast S1x8x128 (extractStridedSlice S8x128 ![32, 0] (O b) slices_S64x256_o32_0_S8x128) shapeCasts_S8x128_S1x8x128⟩,
  ⟨eightRows b 33 (by decide), shapeCast S1x8x128 (extractStridedSlice S8x128 ![24, 128] (O b) slices_S64x256_o24_128_S8x128) shapeCasts_S8x128_S1x8x128⟩,
  ⟨eightRows b 1 (by decide), shapeCast S1x8x128 (extractStridedSlice S8x128 ![16, 0] (O b) slices_S64x256_o16_0_S8x128) shapeCasts_S8x128_S1x8x128⟩,
  ⟨eightRows b 32 (by decide), shapeCast S1x8x128 (extractStridedSlice S8x128 ![8, 128] (O b) slices_S64x256_o8_128_S8x128) shapeCasts_S8x128_S1x8x128⟩,
  ⟨eightRows b 0 (by decide), shapeCast S1x8x128 (extractStridedSlice S8x128 ![0, 0] (O b) slices_S64x256_o0_0_S8x128) shapeCasts_S8x128_S1x8x128⟩]

/-- The element of a batch row's product that the element (row, lane) of its result is. -/
def pick (O : FVec F S64x256 .f32) : FVec F S64x128 .f32 := fun y =>
  O (ValueIdx.ix2 ⟨8 * (2 * ((y 0).val % 4) + (y 0).val / 32) + (y 0).val % 32 / 4, by have : (y 0).val < 64 := (y 0).isLt; omega⟩
    ⟨128 * ((y 0).val / 32) + (y 1).val, by have : (y 0).val < 64 := (y 0).isLt; have : (y 1).val < 128 := (y 1).isLt; omega⟩)

theorem piece_agree (O : Fin 8 → FVec F S64x256 .f32) (b : Fin 8) (r : ℕ) (hr : r ≤ 35) (o0 o1 : ℕ) (h : S64x256.Slices ![o0, o1] S8x128)
    (e0 : o0 = 8 * (2 * (r % 4) + r / 32)) (e1 : o1 = 128 * (r / 32)) (e2 : r % 32 < 4) (x : S1x8x128.Idx) :
    shapeCast S1x8x128 (extractStridedSlice S8x128 ![o0, o1] (O b) h) shapeCasts_S8x128_S1x8x128 x
      = (fun y : S8x64x128.Idx => pick (O (y 0)) (ValueIdx.ix2 (y 1) (y 2))) ((eightRows b r hr).emb x) := by
  have h0 : (x 0).val < 1 := (x 0).isLt
  have h1 : (x 1).val < 8 := (x 1).isLt
  have h2 : (x 2).val < 128 := (x 2).isLt
  have hb : (eightRows b r hr).emb x 0 = b := Fin.ext (show b.val + 1 * (x 0).val = b.val by omega)
  have hr' : ((eightRows b r hr).emb x 1).val = r + 4 * (x 1).val := rfl
  have hl : ((eightRows b r hr).emb x 2).val = (x 2).val := show 0 + 1 * (x 2).val = _ by omega
  show _ = pick (O ((eightRows b r hr).emb x 0)) _
  rw [hb]
  unfold pick
  refine (shapeCast_apply (extractStridedSlice S8x128 ![o0, o1] (O b) h) _ x (ValueIdx.ix2 (x 1) (x 2)) ?_).trans ?_
  · rw [Shape.rowMajor_val_two, Shape.rowMajor_val_three]
    show (x 1).val * 128 + (x 2).val = ((x 0).val * 8 + (x 1).val) * 128 + (x 2).val
    omega
  · refine congrArg (O b) ?_
    funext a
    match a with
    | ⟨0, _⟩ => exact Fin.ext (show o0 + (x 1).val = 8 * (2 * ((r + 4 * (x 1).val) % 4) + (r + 4 * (x 1).val) / 32) + (r + 4 * (x 1).val) % 32 / 4 by omega)
    | ⟨1, _⟩ => exact Fin.ext (show o1 + (x 2).val = 128 * ((r + 4 * (x 1).val) / 32) + ((eightRows b r hr).emb x 2).val by rw [hl]; omega)

theorem mem_eightRows (b : Fin 8) (y0 : Fin 64) (y1 : Fin 128) (r : ℕ) (hr : r ≤ 35) (e : y0.val / 32 * 32 + y0.val % 4 = r) :
    (ValueIdx.ix3 b y0 y1 : S8x64x128.Idx) ∈ (eightRows b r hr).set := by
  refine LoadRect.mem_set _ |>.mpr fun a => ?_
  match a with
  | ⟨0, _⟩ => exact ⟨0, Nat.one_pos, (show b.val = b.val + 1 * 0 by omega)⟩
  | ⟨1, _⟩ => exact ⟨y0.val % 32 / 4, (show y0.val % 32 / 4 < 8 by omega), (show y0.val = r + 4 * (y0.val % 32 / 4) by omega)⟩
  | ⟨2, _⟩ => exact ⟨y1.val, y1.isLt, (show y1.val = 0 + 1 * y1.val by omega)⟩

/-- What a batch row's part of the buffer holds once its eight pieces are stored. -/
theorem pieces8_read {κ : Kind} {sp : Space} (v : View sig κ sp S8x64x128 .f32) (f : v.ty.Contents (Elt F)) (O : Fin 8 → FVec F S64x256 .f32) (b : Fin 8) (n : ℕ) (hn : n ≤ 8) (hb : b.val < n)
    (y0 : Fin 64) (y1 : Fin 128) : v.read (Elt F) (v.writes (Elt F) f (piecesBelow (pieces8 O) n)) (ValueIdx.ix3 b y0 y1) = pick (O b) (ValueIdx.ix2 y0 y1) := by
  refine View.read_writes_apply_of_pieces v f (fun y : S8x64x128.Idx => pick (O (y 0)) (ValueIdx.ix2 (y 1) (y 2))) _ (fun p hp => ?_) (ValueIdx.ix3 b y0 y1) ?_
  · rw [mem_piecesBelow n hn] at hp
    obtain ⟨b', -, hp⟩ := hp
    simp only [pieces8, List.mem_cons, List.mem_nil_iff, or_false] at hp
    rcases hp with rfl | rfl | rfl | rfl | rfl | rfl | rfl | rfl <;> intro x
    · exact piece_agree O b' 35 (by decide) 56 128 slices_S64x256_o56_128_S8x128 (by decide) (by decide) (by decide) x
    · exact piece_agree O b' 3 (by decide) 48 0 slices_S64x256_o48_0_S8x128 (by decide) (by decide) (by decide) x
    · exact piece_agree O b' 34 (by decide) 40 128 slices_S64x256_o40_128_S8x128 (by decide) (by decide) (by decide) x
    · exact piece_agree O b' 2 (by decide) 32 0 slices_S64x256_o32_0_S8x128 (by decide) (by decide) (by decide) x
    · exact piece_agree O b' 33 (by decide) 24 128 slices_S64x256_o24_128_S8x128 (by decide) (by decide) (by decide) x
    · exact piece_agree O b' 1 (by decide) 16 0 slices_S64x256_o16_0_S8x128 (by decide) (by decide) (by decide) x
    · exact piece_agree O b' 32 (by decide) 8 128 slices_S64x256_o8_128_S8x128 (by decide) (by decide) (by decide) x
    · exact piece_agree O b' 0 (by decide) 0 0 slices_S64x256_o0_0_S8x128 (by decide) (by decide) (by decide) x
  · have h64 := y0.isLt
    have : y0.val / 32 * 32 + y0.val % 4 = 35 ∨ y0.val / 32 * 32 + y0.val % 4 = 3 ∨ y0.val / 32 * 32 + y0.val % 4 = 34 ∨ y0.val / 32 * 32 + y0.val % 4 = 2
      ∨ y0.val / 32 * 32 + y0.val % 4 = 33 ∨ y0.val / 32 * 32 + y0.val % 4 = 1 ∨ y0.val / 32 * 32 + y0.val % 4 = 32 ∨ y0.val / 32 * 32 + y0.val % 4 = 0 := by omega
    obtain ⟨p, hp, hy⟩ : ∃ p ∈ pieces8 O b, (ValueIdx.ix3 b y0 y1 : S8x64x128.Idx) ∈ p.1.set := by
      unfold pieces8
      simp only [List.exists_mem_cons_iff]
      rcases this with h | h | h | h | h | h | h | h
      · exact .inl (mem_eightRows b y0 y1 35 (by decide) h)
      · exact .inr (.inl (mem_eightRows b y0 y1 3 (by decide) h))
      · exact .inr (.inr (.inl (mem_eightRows b y0 y1 34 (by decide) h)))
      · exact .inr (.inr (.inr (.inl (mem_eightRows b y0 y1 2 (by decide) h))))
      · exact .inr (.inr (.inr (.inr (.inl (mem_eightRows b y0 y1 33 (by decide) h)))))
      · exact .inr (.inr (.inr (.inr (.inr (.inl (mem_eightRows b y0 y1 1 (by decide) h))))))
      · exact .inr (.inr (.inr (.inr (.inr (.inr (.inl (mem_eightRows b y0 y1 32 (by decide) h)))))))
      · exact .inr (.inr (.inr (.inr (.inr (.inr (.inr (.inl (mem_eightRows b y0 y1 0 (by decide) h))))))))
    exact ⟨p, (mem_piecesBelow n hn).mpr ⟨b, hb, hp⟩, hy⟩

/-- A batch row's result as staged for its copy out. -/
def Bufs29.staged (B : Bufs F c) (b : Fin 8) : S1x64x128.Idx → F .bf16 :=
  shapeCast S1x64x128 (truncf .bf16 (shapeCast S64x128 (sc8.view.readAt (Elt F) (rowRect 64 128 b).toLoadRect (sc8.view.writes (Elt F) B.s8 (piecesBelow (pieces8 B.out) (b.val + 1))))
    shapeCasts_S1x64x128_S64x128) bitsLt_bf16_f32) shapeCasts_S64x128_S1x64x128

/-- A batch row as copied out. -/
def Bufs29.copied (B : Bufs F c) : Fin 8 → S64x128.Idx → F .bf16
  | 0 => (kernelRun.sl.dma146 c B.g0 B.g1 B.g2 B.g3 B.g4 B.g5 B.g6 B.g7 B.s0 B.s1 B.s2 B.s3 B.s4 B.s5 B.s6 B.s7 B.s8 B.s9 chk1 chk2 chk3 chk4 chk5 chk6 chk7 chk8)
  | 1 => (kernelRun.sl.dma172 c B.g0 B.g1 B.g2 B.g3 B.g4 B.g5 B.g6 B.g7 B.s0 B.s1 B.s2 B.s3 B.s4 B.s5 B.s6 B.s7 B.s8 B.s9 chk1 chk2 chk3 chk4 chk5 chk6 chk7 chk8)
  | 2 => (kernelRun.sl.dma198 c B.g0 B.g1 B.g2 B.g3 B.g4 B.g5 B.g6 B.g7 B.s0 B.s1 B.s2 B.s3 B.s4 B.s5 B.s6 B.s7 B.s8 B.s9 chk1 chk2 chk3 chk4 chk5 chk6 chk7 chk8)
  | 3 => (kernelRun.sl.dma224 c B.g0 B.g1 B.g2 B.g3 B.g4 B.g5 B.g6 B.g7 B.s0 B.s1 B.s2 B.s3 B.s4 B.s5 B.s6 B.s7 B.s8 B.s9 chk1 chk2 chk3 chk4 chk5 chk6 chk7 chk8)
  | 4 => (kernelRun.sl.dma250 c B.g0 B.g1 B.g2 B.g3 B.g4 B.g5 B.g6 B.g7 B.s0 B.s1 B.s2 B.s3 B.s4 B.s5 B.s6 B.s7 B.s8 B.s9 chk1 chk2 chk3 chk4 chk5 chk6 chk7 chk8)
  | 5 => (kernelRun.sl.dma276 c B.g0 B.g1 B.g2 B.g3 B.g4 B.g5 B.g6 B.g7 B.s0 B.s1 B.s2 B.s3 B.s4 B.s5 B.s6 B.s7 B.s8 B.s9 chk1 chk2 chk3 chk4 chk5 chk6 chk7 chk8)
  | 6 => (kernelRun.sl.dma302 c B.g0 B.g1 B.g2 B.g3 B.g4 B.g5 B.g6 B.g7 B.s0 B.s1 B.s2 B.s3 B.s4 B.s5 B.s6 B.s7 B.s8 B.s9 chk1 chk2 chk3 chk4 chk5 chk6 chk7 chk8)
  | 7 => (kernelRun.sl.dma328 c B.g0 B.g1 B.g2 B.g3 B.g4 B.g5 B.g6 B.g7 B.s0 B.s1 B.s2 B.s3 B.s4 B.s5 B.s6 B.s7 B.s8 B.s9 chk1 chk2 chk3 chk4 chk5 chk6 chk7 chk8)

theorem copied_key (B : Bufs F c) (b : Fin 8) : B.copied b = ReadAs.same.apply (((sc9.slice (rowRect 64 128 b) (fun _ => rfl)).squeeze S64x128 squeezes_S1x64x128_S64x128).view.read (Elt F)
    (sc9.view.writes (Elt F) B.s9 (piecesBelow (fun b => [⟨rowRect 64 128 b, B.staged b⟩]) (b.val + 1)))) := by
  match b with
  | 0 => rfl
  | 1 => rfl
  | 2 => rfl
  | 3 => rfl
  | 4 => rfl
  | 5 => rfl
  | 6 => rfl
  | 7 => rfl

theorem copied_eq (B : Bufs F c) (b : Fin 8) : B.copied b = truncf .bf16 (pick (B.out b)) bitsLt_bf16_f32 := by
  funext y
  rw [copied_key]
  refine (rowsBelow_read sc9 squeezes_S1x64x128_S64x128 B.staged B.s9 b (b.val + 1) b.isLt (Nat.lt_succ_self _) y).trans ?_
  unfold Bufs29.staged
  refine (shapeCast_apply _ _ (ValueIdx.ix3 0 (y 0) (y 1)) y ?_).trans ?_
  · rw [Shape.rowMajor_val_two, Shape.rowMajor_val_three]
    show (y 0).val * 128 + (y 1).val = (0 * 64 + (y 0).val) * 128 + (y 1).val
    omega
  · refine congrArg (fun z : FVec F S64x128 .f32 => truncf .bf16 z bitsLt_bf16_f32 y) ?_
    funext y
    refine (shapeCast_apply _ _ y (ValueIdx.ix3 0 (y 0) (y 1)) ?_).trans ?_
    · rw [Shape.rowMajor_val_two, Shape.rowMajor_val_three]
      show (0 * 64 + (y 0).val) * 128 + (y 1).val = (y 0).val * 128 + (y 1).val
      omega
    · have e : (rowRect 64 128 b).toLoadRect.idx (ValueIdx.ix3 0 (y 0) (y 1)) = ValueIdx.ix3 b (y 0) (y 1) := emb_row b _
      refine (congrArg (sc8.view.read (Elt F) _) e).trans ?_
      exact (pieces8_read sc8.view B.s8 B.out b (b.val + 1) b.isLt (Nat.lt_succ_self _) (y 0) (y 1)).trans (congrArg _ (eq_ix2 y).symm)

/-- The body's run on the buffers `B`. -/
abbrev Bufs29.run (B : Bufs F c) := kernelRun c B.g0 B.g1 B.g2 B.g3 B.g4 B.g5 B.g6 B.g7 B.f8 B.f9 B.f10 B.f11 B.f12 B.s0 B.s1 B.s2 B.s3 B.s4 B.s5 B.s6 B.s7 B.s8 B.s9 B.s10 B.s11 B.s12 B.s13 B.s14

theorem out_key (B : Bufs F c) : B.run.1.1 = rowsNest hb8 squeezes_S1x64x128_S64x128 B.copied B.f8 8 := rfl

/-- The attention's result buffer. -/
theorem out_read (B : Bufs F c) (y : S8x64x128.Idx) : hb8.view.read (Elt F) B.run.1.1 y = truncf .bf16 (pick (B.out (y 0))) bitsLt_bf16_f32 (ValueIdx.ix2 (y 1) (y 2)) := by
  rw [out_key, rowsNest_read]
  exact congrFun (copied_eq B (y 0)) _

/-! ## The codes -/

theorem wordsInb (kv : Fin 2) : ∀ a, (![kv.val, 0, 0] : Fin 3 → ℕ) a + (![2, 1, 1] : Fin 3 → ℕ) a * (S8x4x128.size a - 1) < S16x4x128.size a := by
  intro a; fin_cases a
  · show kv.val + 2 * 7 < 16; omega
  · show 0 + 1 * 3 < 4; omega
  · show 0 + 1 * 127 < 128; omega

/-- Every other of the sixteen, from `kv`. -/
def wordRect (kv : Fin 2) : Rect S16x4x128 :=
  ⟨⟨![kv.val, 0, 0], S8x4x128.size, ![2, 1, 1], fun a => .inr (wordsInb kv a)⟩, fun a => match a with | ⟨0, _⟩ => Nat.succ_pos 1 | ⟨1, _⟩ => Nat.one_pos | ⟨2, _⟩ => Nat.one_pos⟩

/-- The two heads' codes interleaved. -/
def interleaved (src : Vec F S64x128 .bf16) : FVec F S16x4x128 .f32 := fun y =>
  codesWords (rowsOf src ⟨(y 0).val % 2, Nat.mod_lt _ (by decide)⟩) (ValueIdx.ix3 ⟨(y 0).val / 2, by have : (y 0).val < 16 := (y 0).isLt; omega⟩ (y 1) (y 2))

theorem words_read {κ : Kind} {sp : Space} (v : View sig κ sp S16x4x128 .f32) (f : v.ty.Contents (Elt F)) (src : Vec F S64x128 .bf16) (y : S16x4x128.Idx) :
    v.read (Elt F) (v.writes (Elt F) f [⟨wordRect 1, codesWords (rowsOf src 1)⟩, ⟨wordRect 0, codesWords (rowsOf src 0)⟩]) y = interleaved src y := by
  have agree : ∀ (kv : Fin 2) (x : S8x4x128.Idx), codesWords (rowsOf src kv) x = interleaved src ((wordRect kv).emb x) := by
    intro kv x
    have h0 : (x 0).val < 8 := (x 0).isLt
    have e0 : ((wordRect kv).emb x 0).val = kv.val + 2 * (x 0).val := rfl
    have k2 := kv.isLt
    unfold interleaved
    rw [show (⟨((wordRect kv).emb x 0).val % 2, Nat.mod_lt _ (by decide)⟩ : Fin 2) = kv from Fin.ext (show (kv.val + 2 * (x 0).val) % 2 = kv.val by omega)]
    refine congrArg _ ?_
    funext a
    match a with
    | ⟨0, _⟩ => exact Fin.ext (show (x 0).val = (kv.val + 2 * (x 0).val) / 2 by omega)
    | ⟨1, _⟩ => exact Fin.ext (show (x 1).val = 0 + 1 * (x 1).val by omega)
    | ⟨2, _⟩ => exact Fin.ext (show (x 2).val = 0 + 1 * (x 2).val by omega)
  have mem : ∀ kv : Fin 2, (y 0).val % 2 = kv.val → y ∈ (wordRect kv).set := by
    intro kv hk
    have h0 : (y 0).val < 16 := (y 0).isLt
    have h1 : (y 1).val < 4 := (y 1).isLt
    have h2 : (y 2).val < 128 := (y 2).isLt
    refine LoadRect.mem_set _ |>.mpr fun a => ?_
    match a with
    | ⟨0, _⟩ => exact ⟨(y 0).val / 2, (show (y 0).val / 2 < 8 by omega), (show (y 0).val = kv.val + 2 * ((y 0).val / 2) by omega)⟩
    | ⟨1, _⟩ => exact ⟨(y 1).val, h1, (show (y 1).val = 0 + 1 * (y 1).val by omega)⟩
    | ⟨2, _⟩ => exact ⟨(y 2).val, h2, (show (y 2).val = 0 + 1 * (y 2).val by omega)⟩
  refine View.read_writes_apply_of_pieces v f (interleaved src) _ (fun p hp => ?_) y ?_
  · simp only [List.mem_cons, List.mem_nil_iff, or_false] at hp
    rcases hp with rfl | rfl
    · exact agree 1
    · exact agree 0
  · rcases Nat.mod_two_eq_zero_or_one (y 0).val with h | h
    · exact ⟨_, List.mem_cons_of_mem _ List.mem_cons_self, mem 0 h⟩
    · exact ⟨_, List.mem_cons_self, mem 1 h⟩

/-- The codes of all the new rows, as a result holds them. -/
def allCodes (src : Vec F S64x128 .bf16) : Vec F S64x128 .fp8e4m3 :=
  shapeCast S64x128 (truncf .fp8e4m3 (shapeCast S64x128 (interleaved src) shapeCasts_S16x4x128_S64x128) bitsLt_fp8e4m3_f32) shapeCasts_S64x128_S64x128

theorem wholeInb (s : Shape) : ∀ a, (fun _ => 0 : Fin s.rank → ℕ) a + s.size a ≤ s.size a := fun a => by simp

theorem staged_codes {v : View sig .tc .vmem S16x4x128 .f32} (f : v.ty.Contents (Elt F)) (src : Vec F S64x128 .bf16) (h : ∀ a, (![0, 0, 0] : Fin 3 → ℕ) a + S16x4x128.size a ≤ S16x4x128.size a) :
    v.readAt (Elt F) (Rect.unit (s := S16x4x128) ![0, 0, 0] S16x4x128.size h).toLoadRect (v.writes (Elt F) f [⟨wordRect 1, codesWords (rowsOf src 1)⟩, ⟨wordRect 0, codesWords (rowsOf src 0)⟩])
      = interleaved src := by
  funext y
  rw [View.readAt_apply, words_read]
  refine congrArg _ ?_
  funext a
  match a with
  | ⟨0, _⟩ => exact Fin.ext (show 0 + 1 * (y 0).val = (y 0).val by omega)
  | ⟨1, _⟩ => exact Fin.ext (show 0 + 1 * (y 1).val = (y 1).val by omega)
  | ⟨2, _⟩ => exact Fin.ext (show 0 + 1 * (y 2).val = (y 2).val by omega)

theorem whole_read {v : View sig .tc .vmem S64x128 .fp8e4m3} (f : v.ty.Contents (Elt F)) (w : Vec F S64x128 .fp8e4m3) (h : ∀ a, (![0, 0] : Fin 2 → ℕ) a + S64x128.size a ≤ S64x128.size a) :
    v.read (Elt F) (v.writes (Elt F) f [⟨Rect.unit (s := S64x128) ![0, 0] S64x128.size h, w⟩]) = w := by
  funext y
  have e : ∀ x : S64x128.Idx, (Rect.unit (s := S64x128) ![0, 0] S64x128.size h).emb x = x := by
    intro x
    funext a
    match a with
    | ⟨0, _⟩ => exact Fin.ext (show 0 + 1 * (x 0).val = (x 0).val by omega)
    | ⟨1, _⟩ => exact Fin.ext (show 0 + 1 * (x 1).val = (x 1).val by omega)
  refine View.read_writes_apply_of_pieces v f w _ (fun p hp => ?_) y ⟨_, List.mem_cons_self, ?_⟩
  · simp only [List.mem_cons, List.mem_nil_iff, or_false] at hp
    subst hp
    intro x
    exact congrArg w (e x).symm
  · have := (Rect.unit (s := S64x128) ![0, 0] S64x128.size h).toLoadRect.idx_mem y
    rwa [show (Rect.unit (s := S64x128) ![0, 0] S64x128.size h).toLoadRect.idx y = y from e y] at this

theorem codes_keyK (B : Bufs F c) : B.run.1.2.1 = hb9.view.write (Elt F) B.f9 (ReadAs.same.apply (sc10.view.read (Elt F) (sc10.view.writes (Elt F) B.s10 [⟨Rect.unit (s := S64x128) ![0, 0] S64x128.size (by decide),
    shapeCast S64x128 (truncf .fp8e4m3 (shapeCast S64x128 (sc14.view.readAt (Elt F) (Rect.unit (s := S16x4x128) ![0, 0, 0] S16x4x128.size (by decide)).toLoadRect
      (sc14.view.writes (Elt F) B.s14 [⟨wordRect 1, codesWords (rowsOf B.kn 1)⟩, ⟨wordRect 0, codesWords (rowsOf B.kn 0)⟩])) shapeCasts_S16x4x128_S64x128) bitsLt_fp8e4m3_f32) shapeCasts_S64x128_S64x128⟩]))) Finset.univ := rfl

/-- The codes of the new keys. -/
theorem codes_readK (B : Bufs F c) : hb9.view.read (Elt F) B.run.1.2.1 = allCodes B.kn := by
  rw [codes_keyK, View.read_write_univ]
  show sc10.view.read (Elt F) _ = _
  rw [whole_read, staged_codes]; rfl

theorem codes_keyV (B : Bufs F c) : B.run.1.2.2.2.1 = hb11.view.write (Elt F) B.f11 (ReadAs.same.apply (sc12.view.read (Elt F) (sc12.view.writes (Elt F) B.s12 [⟨Rect.unit (s := S64x128) ![0, 0] S64x128.size (by decide),
    shapeCast S64x128 (truncf .fp8e4m3 (shapeCast S64x128 (sc14.view.readAt (Elt F) (Rect.unit (s := S16x4x128) ![0, 0, 0] S16x4x128.size (by decide)).toLoadRect
      (sc14.view.writes (Elt F) B.s14 [⟨wordRect 1, codesWords (rowsOf B.vn 1)⟩, ⟨wordRect 0, codesWords (rowsOf B.vn 0)⟩, ⟨wordRect 1, codesWords (rowsOf B.kn 1)⟩, ⟨wordRect 0, codesWords (rowsOf B.kn 0)⟩])) shapeCasts_S16x4x128_S64x128) bitsLt_fp8e4m3_f32) shapeCasts_S64x128_S64x128⟩]))) Finset.univ := rfl

/-- The codes of the new values. -/
theorem codes_readV (B : Bufs F c) : hb11.view.read (Elt F) B.run.1.2.2.2.1 = allCodes B.vn := by
  rw [codes_keyV, View.read_write_univ]
  show sc12.view.read (Elt F) _ = _
  rw [whole_read, show ∀ a b c d : View.Piece (Elt F) S16x4x128 .f32, [a, b, c, d] = [a, b] ++ [c, d] from fun _ _ _ _ => rfl, View.writes_append, staged_codes]; rfl

/-! ## The scales -/

theorem lineInb (r : ℕ) (hr : r < 8) : ∀ a, (![r, 0] : Fin 2 → ℕ) a + S1x8.size a ≤ S8x8.size a := by
  intro a; fin_cases a
  · show r + 1 ≤ 8; omega
  · exact Nat.le_refl 8

/-- Row `2 s + kv` of the scales: those of the tokens at place `s` of their sequences, head `kv`. -/
def scalePiece (src : Vec F S64x128 .bf16) (s : ℕ) (kv : Fin 2) (h : 2 * s + kv.val < 8) : View.Piece (Elt F) S8x8 .f32 :=
  ⟨Rect.unit (s := S8x8) ![2 * s + kv.val, 0] S1x8.size (lineInb _ h), seqScales (BitVec.ofNat 32 s) (rowsOf src kv)⟩

/-- The scales of all the new rows, as a result holds them. -/
def allScales (src : Vec F S64x128 .bf16) : Vec F S8x8 .f32 := fun y =>
  seqScales (BitVec.ofNat 32 ((y 0).val / 2)) (rowsOf src ⟨(y 0).val % 2, Nat.mod_lt _ (by decide)⟩) (ValueIdx.ix2 0 (y 1))

def scalePieces (src : Vec F S64x128 .bf16) : List (View.Piece (Elt F) S8x8 .f32) :=
  [scalePiece src 3 1 (by decide), scalePiece src 2 1 (by decide), scalePiece src 1 1 (by decide), scalePiece src 0 1 (by decide),
   scalePiece src 3 0 (by decide), scalePiece src 2 0 (by decide), scalePiece src 1 0 (by decide), scalePiece src 0 0 (by decide)]

theorem scales_read {v : View sig .tc .vmem S8x8 .f32} (f : v.ty.Contents (Elt F)) (src : Vec F S64x128 .bf16) (y : S8x8.Idx) :
    v.read (Elt F) (v.writes (Elt F) f (scalePieces src)) y = allScales src y := by
  have agree : ∀ (s : ℕ) (kv : Fin 2) (h : 2 * s + kv.val < 8) (x : (scalePiece src s kv h).1.shape.Idx), (scalePiece src s kv h).2 x = allScales src ((scalePiece src s kv h).1.emb x) := by
    intro s kv h (x : S1x8.Idx)
    have k2 := kv.isLt
    have h0 : (x 0).val < 1 := (x 0).isLt
    have e0 : ((scalePiece src s kv h).1.emb x 0).val = 2 * s + kv.val + 1 * (x 0).val := rfl
    show seqScales (BitVec.ofNat 32 s) (rowsOf src kv) x = seqScales (BitVec.ofNat 32 (((scalePiece src s kv h).1.emb x 0).val / 2)) (rowsOf src ⟨((scalePiece src s kv h).1.emb x 0).val % 2, _⟩) _
    rw [show (⟨((scalePiece src s kv h).1.emb x 0).val % 2, Nat.mod_lt _ (by decide)⟩ : Fin 2) = kv from Fin.ext (show (2 * s + kv.val + 1 * (x 0).val) % 2 = kv.val by omega),
      show ((scalePiece src s kv h).1.emb x 0).val / 2 = s from show (2 * s + kv.val + 1 * (x 0).val) / 2 = s by omega]
    refine congrArg _ ?_
    funext a
    match a with
    | ⟨0, _⟩ => exact Fin.ext (show (x 0).val = 0 by omega)
    | ⟨1, _⟩ => exact Fin.ext (show (x 1).val = 0 + 1 * (x 1).val by omega)
  have mem : ∀ (s : ℕ) (kv : Fin 2) (h : 2 * s + kv.val < 8), (y 0).val = 2 * s + kv.val → y ∈ (scalePiece src s kv h).1.set := by
    intro s kv h e
    refine (Rect.mem_set_unit (inb := lineInb _ h)).mpr fun a => ?_
    have h1 : (y 1).val < 8 := (y 1).isLt
    match a with
    | ⟨0, _⟩ => exact ⟨Nat.le_of_eq e.symm, (show (y 0).val < 2 * s + kv.val + 1 by omega)⟩
    | ⟨1, _⟩ => exact ⟨Nat.zero_le _, (show (y 1).val < 0 + 8 by omega)⟩
  refine View.read_writes_apply_of_pieces v f (allScales src) _ (fun p hp => ?_) y ?_
  · simp only [scalePieces, List.mem_cons, List.mem_nil_iff, or_false] at hp
    rcases hp with rfl | rfl | rfl | rfl | rfl | rfl | rfl | rfl <;> exact agree _ _ _
  · have h0 : (y 0).val < 8 := (y 0).isLt
    have : (y 0).val = 7 ∨ (y 0).val = 5 ∨ (y 0).val = 3 ∨ (y 0).val = 1 ∨ (y 0).val = 6 ∨ (y 0).val = 4 ∨ (y 0).val = 2 ∨ (y 0).val = 0 := by omega
    unfold scalePieces
    rcases this with h | h | h | h | h | h | h | h
    · exact ⟨_, List.mem_cons_self, mem 3 1 (by decide) h⟩
    · exact ⟨_, List.mem_cons_of_mem _ (List.mem_cons_self), mem 2 1 (by decide) h⟩
    · exact ⟨_, List.mem_cons_of_mem _ (List.mem_cons_of_mem _ (List.mem_cons_self)), mem 1 1 (by decide) h⟩
    · exact ⟨_, List.mem_cons_of_mem _ (List.mem_cons_of_mem _ (List.mem_cons_of_mem _ (List.mem_cons_self))), mem 0 1 (by decide) h⟩
    · exact ⟨_, List.mem_cons_of_mem _ (List.mem_cons_of_mem _ (List.mem_cons_of_mem _ (List.mem_cons_of_mem _ (List.mem_cons_self)))), mem 3 0 (by decide) h⟩
    · exact ⟨_, List.mem_cons_of_mem _ (List.mem_cons_of_mem _ (List.mem_cons_of_mem _ (List.mem_cons_of_mem _ (List.mem_cons_of_mem _ (List.mem_cons_self))))), mem 2 0 (by decide) h⟩
    · exact ⟨_, List.mem_cons_of_mem _ (List.mem_cons_of_mem _ (List.mem_cons_of_mem _ (List.mem_cons_of_mem _ (List.mem_cons_of_mem _ (List.mem_cons_of_mem _ (List.mem_cons_self)))))), mem 1 0 (by decide) h⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), mem 0 0 (by decide) h⟩

theorem scales_keyK (B : Bufs F c) : B.run.1.2.2.1 = hb10.view.write (Elt F) B.f10 (ReadAs.same.apply (sc11.view.read (Elt F) (sc11.view.writes (Elt F) B.s11 (scalePieces B.kn)))) Finset.univ := rfl

/-- The scales of the new keys. -/
theorem scales_readK (B : Bufs F c) : hb10.view.read (Elt F) B.run.1.2.2.1 = allScales B.kn := by
  rw [scales_keyK, View.read_write_univ]
  funext y
  exact scales_read B.s11 B.kn y

theorem scales_keyV (B : Bufs F c) : B.run.1.2.2.2.2 = hb12.view.write (Elt F) B.f12 (ReadAs.same.apply (sc13.view.read (Elt F) (sc13.view.writes (Elt F) B.s13 (scalePieces B.vn)))) Finset.univ := rfl

/-- The scales of the new values. -/
theorem scales_readV (B : Bufs F c) : hb12.view.read (Elt F) B.run.1.2.2.2.2 = allScales B.vn := by
  rw [scales_keyV, View.read_write_univ]
  funext y
  exact scales_read B.s13 B.vn y

end Cert.KernelIdeal.Hand

end
-- ==== Proof.Rows.lean ====
/- Each batch row's output, as the run names it, is the attention of what the row reads. -/
module

public import proofs.«01_k».proof.Proof.Structure

@[expose] public section

noncomputable section

namespace Cert.KernelIdeal.Hand

open Cert.KernelIdeal Cert.KernelIdeal.Gen
open Idealize.ShloMosaic Idealize.ShloMosaic.TcCoe

variable {F : FTy → Type} [FloatOps F] [Named F] {c : Dev nD}

/-- A batch row's output is the attention of the queries, keys, values and scales the row reads. -/
theorem out_eq (B : Bufs F c) (b : Fin 8) :
    B.out b = batchOut (B.off b) (B.shift b) (own b 0) (own b 1) (own b 2) (own b 3) (B.x b) (B.k0 b) (B.k1 b) (B.v0 b) (B.v1 b) (B.ks b) (B.vs b) (newK B) (newV B) := by
  match b with
  | 0 => rfl
  | 1 => rfl
  | 2 => rfl
  | 3 => rfl
  | 4 => rfl
  | 5 => rfl
  | 6 => rfl
  | 7 => rfl

end Cert.KernelIdeal.Hand

end
-- ==== Proof.KernelIdealSpec.lean ====
/- What the five result buffers hold when the body ends, as functions of the operands alone. -/
module

public import proofs.«01_k».proof.Proof.Results
public import proofs.«01_k».proof.Proof.Rows

@[expose] public section

noncomputable section

namespace Cert.KernelIdeal.Hand

open Cert.KernelIdeal Cert.KernelIdeal.Gen
open Idealize.ShloMosaic Idealize.ShloMosaic.TcCoe Idealize.ShloMosaic.ValueIdx

variable {F : FTy → Type} [FloatOps F] [Named F] {c : Dev nD}

theorem token_lt (n : BitVec 32) (t : Fin 1056) : (Words.lo n).toNat + t.val < 131072 := by
  have := Words.lo_le n; have := t.isLt; omega
theorem lane_lt (n : BitVec 32) (t : Fin 1152) : (Words.laneLo n).toNat + t.val < 131072 := by
  have := Words.laneLo_le n; have := t.isLt; omega

/-- The tokens loaded of each batch row, and the lanes of scales. -/
def windowOf (n : Vec F S8 .i32) (g : Vec F S8x2x131072x128 .fp8e4m3) (b : Fin 8) : S2x1056x128.Idx → F .fp8e4m3 := fun y =>
  g (ix4 b (y 0) ⟨(Words.lo (n (ix1 b))).toNat + (y 1).val, token_lt _ (y 1)⟩ (y 2))
def lanesOf (n : Vec F S8 .i32) (g : Vec F S8x2x131072 .f32) (b : Fin 8) : Vec F S1x2x1152 .f32 := fun y =>
  g (ix3 b (y 1) ⟨(Words.laneLo (n (ix1 b))).toNat + (y 2).val, lane_lt _ (y 2)⟩)
/-- A head's keys or values of a batch row: the tokens loaded, then the new codes. -/
def headOf (n : Vec F S8 .i32) (g : Vec F S8x2x131072x128 .fp8e4m3) (new : Vec F S64x128 .bf16) (b : Fin 8) (kv : Fin 2) : Vec F S1x1x1088x128 .fp8e4m3 := fun y =>
  keysBuf (windowOf n g) (fun kv => codesPiece (rowsOf new kv)) (ix4 b kv (y 2) (y 3))

/-- A batch row's query rows against both heads' values. -/
def outOf (n : Vec F S8 .i32) (x : Vec F S8x64x128 .bf16) (kn vn : Vec F S64x128 .bf16) (k : Vec F S8x2x131072x128 .fp8e4m3) (ks : Vec F S8x2x131072 .f32)
    (v : Vec F S8x2x131072x128 .fp8e4m3) (vs : Vec F S8x2x131072 .f32) (b : Fin 8) : FVec F S64x256 .f32 :=
  batchOut (Scalar.subi (n (ix1 b)) (Words.lo (n (ix1 b)))) (Scalar.subi (Words.lo (n (ix1 b))) (Words.laneLo (n (ix1 b)))) (own b 0) (own b 1) (own b 2) (own b 3)
    (fun y => x (ix3 b (y 1) (y 2))) (headOf n k kn b 0) (headOf n k kn b 1) (headOf n v vn b 0) (headOf n v vn b 1) (lanesOf n ks b) (lanesOf n vs b)
    (fun kv => newScales (rowsOf kn kv)) (fun kv => newScales (rowsOf vn kv))

theorem loadK_spec (B : Bufs F c) : B.loadK = windowOf B.g0 B.g4 := by
  funext b y; exact loadK_eq B b y (token_lt _ (y 1))
theorem loadV_spec (B : Bufs F c) : B.loadV = windowOf B.g0 B.g6 := by
  funext b y; exact loadV_eq B b y (token_lt _ (y 1))
theorem kn_spec (B : Bufs F c) : B.kn = B.g2 := kn_eq B
theorem vn_spec (B : Bufs F c) : B.vn = B.g3 := vn_eq B

theorem out_spec (B : Bufs F c) (b : Fin 8) : B.out b = outOf B.g0 B.g1 B.g2 B.g3 B.g4 B.g5 B.g6 B.g7 b := by
  have hk0 : B.k0 b = headOf B.g0 B.g4 B.g2 b 0 := by
    funext y; rw [k0_eq, loadK_spec]; unfold Bufs29.pieceK; rw [kn_spec]; rfl
  have hk1 : B.k1 b = headOf B.g0 B.g4 B.g2 b 1 := by
    funext y; rw [k1_eq, loadK_spec]; unfold Bufs29.pieceK; rw [kn_spec]; rfl
  have hv0 : B.v0 b = headOf B.g0 B.g6 B.g3 b 0 := by
    funext y; rw [v0_eq, loadV_spec]; unfold Bufs29.pieceV; rw [vn_spec]; rfl
  have hv1 : B.v1 b = headOf B.g0 B.g6 B.g3 b 1 := by
    funext y; rw [v1_eq, loadV_spec]; unfold Bufs29.pieceV; rw [vn_spec]; rfl
  have hks : B.ks b = lanesOf B.g0 B.g5 b := by
    funext y; rw [ks_eq]; exact loadKS_eq B b _ (lane_lt _ (y 2))
  have hvs : B.vs b = lanesOf B.g0 B.g7 b := by
    funext y; rw [vs_eq]; exact loadVS_eq B b _ (lane_lt _ (y 2))
  have hx : B.x b = fun y => B.g1 (ix3 b (y 1) (y 2)) := by
    funext y; exact x_eq B b y
  rw [out_eq, off_eq, shift_eq, hk0, hk1, hv0, hv1, hks, hvs, hx]
  unfold newK newV outOf
  rw [kn_spec, vn_spec]
  rfl

/-- The attention's result buffer. -/
def resultOf (n : Vec F S8 .i32) (x : Vec F S8x64x128 .bf16) (kn vn : Vec F S64x128 .bf16) (k : Vec F S8x2x131072x128 .fp8e4m3) (ks : Vec F S8x2x131072 .f32)
    (v : Vec F S8x2x131072x128 .fp8e4m3) (vs : Vec F S8x2x131072 .f32) : Vec F S8x64x128 .bf16 := fun y =>
  truncf .bf16 (pick (outOf n x kn vn k ks v vs (y 0))) bitsLt_bf16_f32 (ix2 (y 1) (y 2))

theorem out_run (B : Bufs F c) : B.run.1.1 = (resultOf B.g0 B.g1 B.g2 B.g3 B.g4 B.g5 B.g6 B.g7 : Vec F S8x64x128 .bf16) := by
  funext y
  exact (out_read B y).trans (congrArg (fun O => truncf .bf16 (pick O) bitsLt_bf16_f32 (ix2 (y 1) (y 2))) (out_spec B (y 0)))
theorem codesK_run (B : Bufs F c) : B.run.1.2.1 = (allCodes B.g2 : Vec F S64x128 .fp8e4m3) := (codes_readK B).trans (by rw [kn_spec])
theorem scalesK_run (B : Bufs F c) : B.run.1.2.2.1 = (allScales B.g2 : Vec F S8x8 .f32) := (scales_readK B).trans (by rw [kn_spec])
theorem codesV_run (B : Bufs F c) : B.run.1.2.2.2.1 = (allCodes B.g3 : Vec F S64x128 .fp8e4m3) := (codes_readV B).trans (by rw [vn_spec])
theorem scalesV_run (B : Bufs F c) : B.run.1.2.2.2.2 = (allScales B.g3 : Vec F S8x8 .f32) := (scales_readV B).trans (by rw [vn_spec])

end Cert.KernelIdeal.Hand

end
-- ==== Proof.KernelIdealQuant.lean ====
/- The kernel's quantiser on a row: the row's scale and codes. -/
module

public import proofs.«01_k».proof.Proof.KernelIdealSpec
public import proofs.«01_k».proof.Proof.Values
public import Idealize.ShloMosaic.Lib.Pointwise
public import Idealize.ShloMosaic.Lib.IdealHost

@[expose] public section

set_option maxHeartbeats 4000000

noncomputable section

namespace Cert.KernelIdeal.Hand

open Cert.KernelIdeal Cert.KernelIdeal.Gen Cert.Quant Cert.Values
open Idealize.ShloMosaic Idealize.ShloMosaic.TcCoe

theorem pick_yes {α : Type} {p : BitVec 1} (h : p = 1#1) (x y : α) : Scalar.select p x y = x := by subst h; rfl
theorem pick_no {α : Type} {p : BitVec 1} (h : p = 0#1) (x y : α) : Scalar.select p x y = y := by subst h; rfl

theorem scaleOf_at (v : FVec Ideal S32x128 .f32) (r : Fin 32) (l : Fin 128) (h : InRange (amax fun x => v (ix2 r x))) :
    scaleOf v (ix2 r l) = scale fun x => v (ix2 r x) := by
  refine Eq.trans ?_ (bits_eq _ h).1
  pointwise [scaleOf, fieldOf, expoOf]
  rfl

theorem codesOf_at (v : FVec Ideal S32x128 .f32) (r : Fin 32) (l : Fin 128) (h : InRange (amax fun x => v (ix2 r x))) :
    codesOf v (ix2 r l) = code (fun x => v (ix2 r x)) l := by
  unfold code
  rw [← (bits_eq _ h).2]
  pointwise [codesOf, fieldOf, expoOf]
  rfl

theorem rowsOf_at (src : Vec Ideal S64x128 .bf16) (kv : Fin 2) (r : Fin 32) (l : Fin 128) :
    rowsOf src kv (ix2 r l) = src (ix2 (⟨2 * r.val + kv.val, by omega⟩ : Fin 64) l) := by
  match kv with
  | 0 =>
    pointwise [rowsOf]
  | 1 =>
    pointwise [rowsOf]

/-- Token `r`'s scale stands in lane `r + 32`. -/
theorem newScales_at (v : FVec Ideal S32x128 .f32) (r : Fin 32) (h : InRange (amax fun x => v (ix2 r x))) :
    newScales v (ix2 0 (⟨r.val + 32, by omega⟩ : Fin 128)) = scale fun x => v (ix2 r x) := by
  rw [← scaleOf_at v r ⟨r.val + 32, by omega⟩ h]
  pointwise [newScales]
  rw [Finset.sum_eq_single r]
  · exact pick_yes ((by decide : ∀ r : Fin 32, IntOp.cmpi .eq (BitVec.ofNat 32 (r.val + 32)) (IntOp.addi (BitVec.ofNat 32 r.val) 32#32) = 1#1) r) _ _
  · intro x _ hx
    exact pick_no ((by decide : ∀ r x : Fin 32, x ≠ r → IntOp.cmpi .eq (BitVec.ofNat 32 (r.val + 32)) (IntOp.addi (BitVec.ofNat 32 x.val) 32#32) = 0#1) r x hx) _ _
  · simp

theorem seqScales_at (v : FVec Ideal S32x128 .f32) (s : Fin 4) (b : Fin 8) (h : InRange (amax fun x => v (ix2 (⟨4 * b.val + s.val, by omega⟩ : Fin 32) x))) :
    seqScales (BitVec.ofNat 32 s.val) v (ix2 0 b) = scale fun x => v (ix2 (⟨4 * b.val + s.val, by omega⟩ : Fin 32) x) := by
  rw [← scaleOf_at v ⟨4 * b.val + s.val, by omega⟩ ⟨b.val, by omega⟩ h]
  pointwise [seqScales]
  rw [Finset.sum_eq_single ⟨4 * b.val + s.val, by omega⟩]
  · exact pick_yes ((by decide : ∀ (s : Fin 4) (b : Fin 8), IntOp.andi (IntOp.cmpi .eq (IntOp.remsi .vector (BitVec.ofNat 32 (4 * b.val + s.val)) 4#32) (BitVec.ofNat 32 s.val))
        (IntOp.cmpi .eq (BitVec.ofNat 32 b.val) (IntOp.divsi .vector (BitVec.ofNat 32 (4 * b.val + s.val)) 4#32)) = 1#1) s b) _ _
  · intro x _ hx
    exact pick_no ((by decide +kernel : ∀ (s : Fin 4) (b : Fin 8) (x : Fin 32), x.val ≠ 4 * b.val + s.val → IntOp.andi (IntOp.cmpi .eq (IntOp.remsi .vector (BitVec.ofNat 32 x.val) 4#32) (BitVec.ofNat 32 s.val))
        (IntOp.cmpi .eq (BitVec.ofNat 32 b.val) (IntOp.divsi .vector (BitVec.ofNat 32 x.val) 4#32)) = 0#1) s b x (fun e => hx (Fin.ext e))) _ _
  · simp

theorem codesWords_at (v : FVec Ideal S32x128 .f32) (r : Fin 8) (s : Fin 4) (l : Fin 128) :
    codesWords v (ix3 r s l) = codesOf v (ix2 (⟨r.val * 4 + s.val, by omega⟩ : Fin 32) l) := by
  pointwise [codesWords]

theorem rows_at (src : Vec Ideal S64x128 .bf16) (kv : Fin 2) (r : Fin 32) :
    (fun x => rowsOf src kv (ix2 r x)) = fun x => src (ix2 (⟨2 * r.val + kv.val, by omega⟩ : Fin 64) x) := funext fun x => rowsOf_at src kv r x

/-- The codes' result: row 8b + 4kv + s has the codes of row 2(4b + s) + kv. -/
theorem allCodes_at (src : Vec Ideal S64x128 .bf16) (b : Fin 8) (kv : Fin 2) (s : Fin 4) (l : Fin 128)
    (h : ∀ r : Fin 64, InRange (amax fun x => src (ix2 r x))) :
    allCodes src (ix2 (⟨8 * b.val + 4 * kv.val + s.val, by omega⟩ : Fin 64) l) = code (fun x => src (ix2 (⟨2 * (4 * b.val + s.val) + kv.val, by omega⟩ : Fin 64) x)) l := by
  have e : allCodes src (ix2 (⟨8 * b.val + 4 * kv.val + s.val, by omega⟩ : Fin 64) l) = interleaved src (ix3 (⟨2 * b.val + kv.val, by omega⟩ : Fin 16) s l) := by
    pointwise [allCodes]
    exact congrArg (fun r : Fin 16 => interleaved src (ix3 r s l)) (Fin.ext (by show (8 * b.val + 4 * kv.val + s.val) / 4 = 2 * b.val + kv.val; omega))
  rw [e]
  have hk : (⟨(2 * b.val + kv.val) % 2, Nat.mod_lt _ (by decide)⟩ : Fin 2) = kv := Fin.ext (by show (2 * b.val + kv.val) % 2 = kv.val; omega)
  have hb : (2 * b.val + kv.val) / 2 = b.val := by omega
  show codesWords (rowsOf src ⟨(2 * b.val + kv.val) % 2, _⟩) (ix3 (⟨(2 * b.val + kv.val) / 2, _⟩ : Fin 8) s l) = _
  rw [hk, codesWords_at, codesOf_at _ _ _ (by rw [rows_at]; exact h _), rows_at]
  simp only [hb, Nat.mul_comm b.val 4]

theorem allScales_at (src : Vec Ideal S64x128 .bf16) (b : Fin 8) (kv : Fin 2) (s : Fin 4)
    (h : ∀ r : Fin 64, InRange (amax fun x => src (ix2 r x))) :
    allScales src (ix2 (⟨2 * s.val + kv.val, by omega⟩ : Fin 8) b) = scale (fun x => src (ix2 (⟨2 * (4 * b.val + s.val) + kv.val, by omega⟩ : Fin 64) x)) := by
  have hk : (⟨(2 * s.val + kv.val) % 2, Nat.mod_lt _ (by decide)⟩ : Fin 2) = kv := Fin.ext (by show (2 * s.val + kv.val) % 2 = kv.val; omega)
  have hs : (2 * s.val + kv.val) / 2 = s.val := by omega
  show seqScales (BitVec.ofNat 32 ((2 * s.val + kv.val) / 2)) (rowsOf src ⟨(2 * s.val + kv.val) % 2, _⟩) (ix2 0 b) = _
  rw [hk, hs, seqScales_at _ s b (by rw [rows_at]; exact h _), rows_at]

end Cert.KernelIdeal.Hand

end
-- ==== Proof.KernelIdealRow.lean ====
/- One row of the kernel’s attention. -/
module

public import proofs.«01_k».proof.Proof.KernelIdealQuant
public import proofs.«01_k».proof.Proof.Soft

@[expose] public section

set_option maxHeartbeats 1000000
set_option maxRecDepth 16384

noncomputable section

namespace Cert.KernelIdeal.Hand

open Cert.KernelIdeal Cert.KernelIdeal.Gen Cert.Quant Cert.Values Cert.Soft
open Idealize.ShloMosaic Idealize.ShloMosaic.TcCoe

theorem probs_at (s : FVec Ideal S8x1088 .f32) (gh : FVec Ideal S1x1024 .f32) (gt : FVec Ideal S1x64 .f32) (g : Fin 8) (x : Fin 1088) :
    scaledProbs (probsOf (weights s)) gh gt (ix2 g x)
      = share (fun x => s (ix2 g x)) x * (if h : x.val < 1024 then gh (ix2 0 ⟨x.val, h⟩) else gt (ix2 0 ⟨x.val - 1024, by omega⟩)) := by
  unfold share Cert.Soft.top
  rw [← negInf]
  pointwise [scaledProbs, probsOf, weights]
  by_cases h : x.val < 1024
  · simp only [dif_pos h]; rfl
  · have e : (⟨1024 + (x.val - 1024), by omega⟩ : Fin 1088) = x := Fin.ext (by show 1024 + (x.val - 1024) = x.val; omega)
    simp only [dif_neg h, e]; rfl

theorem scores_at (off i own ownI : BitVec 32) (s : FVec Ideal S8x1088 .f32) (fh : FVec Ideal S1x1024 .f32) (ft : FVec Ideal S1x64 .f32) (g : Fin 8) (x : Fin 1088) :
    scoresOf off i own ownI s (headFactors fh) (tailFactors ft) (ix2 g x)
      = kScore off i own ownI x (s (ix2 g x)) (if h : x.val < 1024 then fh (ix2 0 ⟨x.val, h⟩) else ft (ix2 0 ⟨x.val - 1024, by omega⟩)) := by
  unfold kScore
  rw [← negInf]
  pointwise [scoresOf, headFactors, tailFactors, lanes8]
  by_cases h1 : x.val < 128
  · have h2 : x.val < 1024 := by omega
    simp only [dif_pos h1, if_pos h1, dif_pos h2, if_pos h2]; rfl
  · by_cases h2 : x.val < 1024
    · have h3 : x.val - 128 < 896 := by omega
      have e : 128 + (x.val - 128) = x.val := by omega
      simp only [dif_neg h1, if_neg h1, dif_pos h2, if_pos h2, dif_pos h3, e]; rfl
    · have h3 : ¬ x.val - 128 < 896 := by omega
      have e : x.val - 128 - 896 = x.val - 1024 := by omega
      have e' : 1024 + (x.val - 1024) = x.val := by omega
      simp only [dif_neg h1, dif_neg h2, if_neg h2, dif_neg h3, e, e']; rfl

theorem sliceAt (i : Fin 4) (kv : Fin 2) : S64x1088.Slices ![16 * i.val + 8 * kv.val, 0] S8x1088 :=
  match i, kv with
  | 0, 0 => slices_S64x1088_o0_0_S8x1088
  | 0, 1 => slices_S64x1088_o8_0_S8x1088
  | 1, 0 => slices_S64x1088_o16_0_S8x1088
  | 1, 1 => slices_S64x1088_o24_0_S8x1088
  | 2, 0 => slices_S64x1088_o32_0_S8x1088
  | 2, 1 => slices_S64x1088_o40_0_S8x1088
  | 3, 0 => slices_S64x1088_o48_0_S8x1088
  | 3, 1 => slices_S64x1088_o56_0_S8x1088

theorem allProbs_at (off : BitVec 32) (o : Fin 4 → BitVec 32) (s : FVec Ideal S64x1088 .f32) (kh : Fin 2 → FVec Ideal S1x1024 .f32) (kt : Fin 2 → FVec Ideal S1x64 .f32)
    (gh : Fin 2 → FVec Ideal S1x1024 .f32) (gt : Fin 2 → FVec Ideal S1x64 .f32) (i : Fin 4) (kv : Fin 2) (g : Fin 8) (x : Fin 1088) :
    allProbs off (o 0) (o 1) (o 2) (o 3) s kh kt gh gt (ix2 (⟨16 * i.val + 8 * kv.val + g.val, by omega⟩ : Fin 64) x)
      = rowProbs off (BitVec.ofNat 32 i.val) (o 0) (o i) (extractStridedSlice S8x1088 ![16 * i.val + 8 * kv.val, 0] s (sliceAt i kv)) (kh kv) (kt kv) (gh kv) (gt kv) (ix2 g x) := by
  match i, kv with
  | 0, 0 =>
    pointwise [allProbs]
  | 0, 1 =>
    pointwise [allProbs]
  | 1, 0 =>
    pointwise [allProbs]
    have e : 16 + g.val - 8 - 8 = g.val := by omega
    rw [dif_neg (show ¬ (16 + g.val < 8) by omega), dif_neg (show ¬ (16 + g.val - 8 < 8) by omega), dif_pos (show 16 + g.val - 8 - 8 < 8 by omega)]
    simp only [e, Fin.eta]
  | 1, 1 =>
    pointwise [allProbs]
    have e : 24 + g.val - 8 - 8 - 8 = g.val := by omega
    rw [dif_neg (show ¬ (24 + g.val < 8) by omega), dif_neg (show ¬ (24 + g.val - 8 < 8) by omega), dif_neg (show ¬ (24 + g.val - 8 - 8 < 8) by omega), dif_pos (show 24 + g.val - 8 - 8 - 8 < 8 by omega)]
    simp only [e, Fin.eta]
  | 2, 0 =>
    pointwise [allProbs]
    have e : 32 + g.val - 8 - 8 - 8 - 8 = g.val := by omega
    rw [dif_neg (show ¬ (32 + g.val < 8) by omega), dif_neg (show ¬ (32 + g.val - 8 < 8) by omega), dif_neg (show ¬ (32 + g.val - 8 - 8 < 8) by omega), dif_neg (show ¬ (32 + g.val - 8 - 8 - 8 < 8) by omega), dif_pos (show 32 + g.val - 8 - 8 - 8 - 8 < 8 by omega)]
    simp only [e, Fin.eta]
  | 2, 1 =>
    pointwise [allProbs]
    have e : 40 + g.val - 8 - 8 - 8 - 8 - 8 = g.val := by omega
    rw [dif_neg (show ¬ (40 + g.val < 8) by omega), dif_neg (show ¬ (40 + g.val - 8 < 8) by omega), dif_neg (show ¬ (40 + g.val - 8 - 8 < 8) by omega), dif_neg (show ¬ (40 + g.val - 8 - 8 - 8 < 8) by omega), dif_neg (show ¬ (40 + g.val - 8 - 8 - 8 - 8 < 8) by omega), dif_pos (show 40 + g.val - 8 - 8 - 8 - 8 - 8 < 8 by omega)]
    simp only [e, Fin.eta]
  | 3, 0 =>
    pointwise [allProbs]
    have e : 48 + g.val - 8 - 8 - 8 - 8 - 8 - 8 = g.val := by omega
    rw [dif_neg (show ¬ (48 + g.val < 8) by omega), dif_neg (show ¬ (48 + g.val - 8 < 8) by omega), dif_neg (show ¬ (48 + g.val - 8 - 8 < 8) by omega), dif_neg (show ¬ (48 + g.val - 8 - 8 - 8 < 8) by omega), dif_neg (show ¬ (48 + g.val - 8 - 8 - 8 - 8 < 8) by omega), dif_neg (show ¬ (48 + g.val - 8 - 8 - 8 - 8 - 8 < 8) by omega), dif_pos (show 48 + g.val - 8 - 8 - 8 - 8 - 8 - 8 < 8 by omega)]
    simp only [e, Fin.eta]
  | 3, 1 =>
    pointwise [allProbs]
    have e : 56 + g.val - 8 - 8 - 8 - 8 - 8 - 8 - 8 = g.val := by omega
    rw [dif_neg (show ¬ (56 + g.val < 8) by omega), dif_neg (show ¬ (56 + g.val - 8 < 8) by omega), dif_neg (show ¬ (56 + g.val - 8 - 8 < 8) by omega), dif_neg (show ¬ (56 + g.val - 8 - 8 - 8 < 8) by omega), dif_neg (show ¬ (56 + g.val - 8 - 8 - 8 - 8 < 8) by omega), dif_neg (show ¬ (56 + g.val - 8 - 8 - 8 - 8 - 8 < 8) by omega), dif_neg (show ¬ (56 + g.val - 8 - 8 - 8 - 8 - 8 - 8 < 8) by omega)]
    simp only [e, Fin.eta]

theorem cond0 : ∀ i : Fin 4, ∀ g : Fin 8, IntOp.cmpi .slt (IntOp.remsi ArithUnit.vector (BitVec.ofNat 32 ((16 * i.val + 8 * 0 + g.val) / 2)) 8#32) 4#32 = 1#1 := by decide
theorem cond1 : ∀ i : Fin 4, ∀ g : Fin 8, IntOp.cmpi .slt (IntOp.remsi ArithUnit.vector (BitVec.ofNat 32 ((16 * i.val + 8 * 1 + g.val) / 2)) 8#32) 4#32 = 0#1 := by decide

theorem dots_at (x : Vec Ideal S1x64x128 .bf16) (k : Fin 2 → Vec Ideal S1x1x1088x128 .fp8e4m3) (i : Fin 4) (kv : Fin 2) (g : Fin 8) (y : Fin 1088) :
    dots x (k 0) (k 1) (ix2 (⟨16 * i.val + 8 * kv.val + g.val, by omega⟩ : Fin 64) y)
      = dotOf (fun l => x (ix3 0 (⟨16 * i.val + 8 * kv.val + g.val, by omega⟩ : Fin 64) l)) (fun l => k kv (ix4 0 0 y l)) := by
  unfold dotOf
  pointwise [dots, sideBySide, queries, halfMask]
  have hc := cond0 i g
  have hd := cond1 i g
  match kv with
  | 0 =>
    simp only [Fin.val_zero, pick_yes hc, ite_self, zero_mul, Finset.sum_const_zero, add_zero]
    by_cases h : (16 * i.val + 8 * 0 + g.val) % 2 = 0
    · have e : 2 * ((16 * i.val + 8 * 0 + g.val) / 2) = 16 * i.val + 8 * 0 + g.val := by omega
      simp only [if_pos h, e]
    · have e : 2 * ((16 * i.val + 8 * 0 + g.val) / 2) + 1 = 16 * i.val + 8 * 0 + g.val := by omega
      simp only [if_neg h, e]
  | 1 =>
    simp only [Fin.val_one, pick_no hd, ite_self, zero_mul, Finset.sum_const_zero, zero_add]
    by_cases h : (16 * i.val + 8 * 1 + g.val) % 2 = 0
    · have e : 2 * ((16 * i.val + 8 * 1 + g.val) / 2) = 16 * i.val + 8 * 1 + g.val := by omega
      simp only [if_pos h, e]
    · have e : 2 * ((16 * i.val + 8 * 1 + g.val) / 2) + 1 = 16 * i.val + 8 * 1 + g.val := by omega
      simp only [if_neg h, e]

theorem mixed_at (p : FVec Ideal S64x1088 .bf16) (v : Fin 2 → Vec Ideal S1x1x1088x128 .fp8e4m3) (r : Fin 64) (kv : Fin 2) (d : Fin 128) :
    mixed p (v 0) (v 1) (ix2 r (⟨128 * kv.val + d.val, by omega⟩ : Fin 256)) = ∑ y, p (ix2 r y) * v kv (ix4 0 0 y d) := by
  match kv with
  | 0 => pointwise [mixed, sideBySide]
  | 1 => pointwise [mixed, sideBySide]

theorem roll_eq (shift : BitVec 32) (h : shift.toNat ≤ 96) (x : ℕ) (hx : x < 1056) :
    (x + 1152 - (Scalar.select (Scalar.cmpi CmpIPredicate.eq shift 0#32) (0#32) (Scalar.subi (1152#32) shift)).toNat % 1152) % 1152 = shift.toNat + x := by
  by_cases hz : shift = 0#32
  · subst hz
    show (x + 1152 - 0 % 1152) % 1152 = 0 + x
    omega
  · have hn : shift.toNat ≠ 0 := fun e => hz (BitVec.eq_of_toNat_eq (by rw [e]; rfl))
    rw [pick_no (show Scalar.cmpi CmpIPredicate.eq shift 0#32 = 0#1 by
      show BitVec.ofBool (shift == 0#32) = 0#1
      rw [beq_eq_false_iff_ne.mpr hz]; rfl)]
    have e : (Scalar.subi (1152#32) shift).toNat = 1152 - shift.toNat := by
      show ((1152#32) - shift).toNat = _
      rw [BitVec.toNat_sub]
      have : (1152#32).toNat = 1152 := rfl
      rw [this]; omega
    rw [e]; omega

/-- A token's scale among a batch row's: the first 1056 are cached, the last 32 new. -/
def tokScale (shift : BitVec 32) (h : shift.toNat ≤ 96) (sc : Vec Ideal S1x2x1152 .f32) (new : Fin 2 → FVec Ideal S1x128 .f32) (kv : Fin 2) (y : Fin 1088) : EReal :=
  if hy : y.val < 1056 then sc (ix3 0 kv (⟨shift.toNat + y.val, by omega⟩ : Fin 1152)) else new kv (ix2 0 (⟨y.val - 1024, by omega⟩ : Fin 128))

theorem lt32 : ∀ x : Fin 64, x.val < 32 → IntOp.cmpi .slt (BitVec.ofNat 32 x.val) 32#32 = 1#1 := by decide
theorem ge32 : ∀ x : Fin 64, ¬ x.val < 32 → IntOp.cmpi .slt (BitVec.ofNat 32 x.val) 32#32 = 0#1 := by decide

theorem headScales_at (shift : BitVec 32) (sc : Vec Ideal S1x2x1152 .f32) (kv : Fin 2) (x : Fin 1024) (h : shift.toNat ≤ 96) :
    headScales shift sc kv (ix2 0 x) = sc (ix3 0 kv (⟨shift.toNat + x.val, by omega⟩ : Fin 1152)) := by
  have e := roll_eq shift h x.val (by omega)
  match kv with
  | 0 =>
    pointwise [headScales, rolled]
    simp only [e]
  | 1 =>
    pointwise [headScales, rolled]
    simp only [e]
theorem tailScales_at (shift : BitVec 32) (sc : Vec Ideal S1x2x1152 .f32) (new : Fin 2 → FVec Ideal S1x128 .f32) (kv : Fin 2) (x : Fin 64) (h : shift.toNat ≤ 96) :
    tailScales shift sc new kv (ix2 0 x) = if hx : x.val < 32 then sc (ix3 0 kv (⟨shift.toNat + (1024 + x.val), by omega⟩ : Fin 1152)) else new kv (ix2 0 (⟨x.val, by omega⟩ : Fin 128)) := by
  by_cases hx : x.val < 32
  · have e := roll_eq shift h (1024 + x.val) (by omega)
    match kv with
    | 0 =>
      pointwise [tailScales, rolled, lanes8]
      simp only [e, pick_yes (lt32 x hx), dif_pos hx]
    | 1 =>
      pointwise [tailScales, rolled, lanes8]
      simp only [e, pick_yes (lt32 x hx), dif_pos hx]
  · match kv with
    | 0 =>
      pointwise [tailScales, rolled, lanes8]
      simp only [pick_no (ge32 x hx), dif_neg hx]
    | 1 =>
      pointwise [tailScales, rolled, lanes8]
      simp only [pick_no (ge32 x hx), dif_neg hx]

theorem tok_at (shift : BitVec 32) (h : shift.toNat ≤ 96) (sc : Vec Ideal S1x2x1152 .f32) (new : Fin 2 → FVec Ideal S1x128 .f32) (kv : Fin 2) (y : Fin 1088) :
    (if hy : y.val < 1024 then headScales shift sc kv (ix2 0 (⟨y.val, hy⟩ : Fin 1024)) else tailScales shift sc new kv (ix2 0 (⟨y.val - 1024, by omega⟩ : Fin 64)))
      = tokScale shift h sc new kv y := by
  unfold tokScale
  by_cases hy : y.val < 1024
  · rw [dif_pos hy, dif_pos (by omega), headScales_at shift sc kv _ h]
  · rw [dif_neg hy, tailScales_at shift sc new kv _ h]
    by_cases hz : y.val < 1056
    · rw [dif_pos hz, dif_pos (show y.val - 1024 < 32 by omega)]
      refine congrArg (fun z => sc (ix3 0 kv z)) (Fin.ext ?_)
      show shift.toNat + (1024 + (y.val - 1024)) = shift.toNat + y.val
      omega
    · rw [dif_neg hz, dif_neg (show ¬ y.val - 1024 < 32 by omega)]

theorem row_at (off shift : BitVec 32) (hs : shift.toNat ≤ 96) (o : Fin 4 → BitVec 32) (x : Vec Ideal S1x64x128 .bf16) (k v : Fin 2 → Vec Ideal S1x1x1088x128 .fp8e4m3)
    (ks vs : Vec Ideal S1x2x1152 .f32) (nK nV : Fin 2 → FVec Ideal S1x128 .f32) (i : Fin 4) (kv : Fin 2) (g : Fin 8) (d : Fin 128) :
    batchOut off shift (o 0) (o 1) (o 2) (o 3) x (k 0) (k 1) (v 0) (v 1) ks vs nK nV (ix2 (⟨16 * i.val + 8 * kv.val + g.val, by omega⟩ : Fin 64) (⟨128 * kv.val + d.val, by omega⟩ : Fin 256))
      = ∑ y, share (fun y => kScore off (BitVec.ofNat 32 i.val) (o 0) (o i) y
            (dotOf (fun l => x (ix3 0 (⟨16 * i.val + 8 * kv.val + g.val, by omega⟩ : Fin 64) l)) (fun l => k kv (ix4 0 0 y l))) (tokScale shift hs ks nK kv y)) y
          * tokScale shift hs vs nV kv y * v kv (ix4 0 0 y d) := by
  unfold batchOut
  rw [mixed_at]
  refine Finset.sum_congr rfl fun y _ => ?_
  rw [allProbs_at]
  unfold rowProbs
  rw [probs_at, tok_at shift hs]
  refine congrArg (fun z => z * _ * _) (congrArg (fun S => share S y) (funext fun z => ?_))
  rw [scores_at, tok_at shift hs]
  refine congrArg (fun t => kScore _ _ _ _ z t _) ?_
  rw [← dots_at]
  pointwise []

end Cert.KernelIdeal.Hand

end
-- ==== Proof.KernelIdealRun.lean ====
/- The kernel's run by value: every run of @main ends with the results at what the operands determine. -/
module

public import proofs.«01_k».proof.Proof.KernelIdealFrame
public import proofs.«01_k».proof.Proof.KernelIdealSpec
public import Idealize.ShloMosaic.Lib.Pipeline.FrameSuffixV

@[expose] public section

noncomputable section

namespace Cert.KernelIdeal.Run

open Cert.KernelIdeal.Hand hiding frame
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F] [∀ e, Nonempty (Elt F e)]

local notation "𝕄" => MT nD τ sig Unit (Elt F) ℕ (Pipeline.UD sig nD τ) ℕ

variable (m : (ℓ : Loc nD τ sig) → Buf (Elt F) ℓ) (ρ : Dev nD → PrngReg)

/-- The five results, from the operands as the region finds them. -/
def res8 (c : Dev nD) : Vec F S8x64x128 .bf16 :=
  resultOf (V m c main_arg7) (V m c main_v0) (V m c main_v1) (V m c main_v2) (V m c main_v3) (V m c main_v4) (V m c main_v5) (V m c main_v6)
def res9 (c : Dev nD) : Vec F S64x128 .fp8e4m3 := allCodes (V m c main_v1)
def res10 (c : Dev nD) : Vec F S8x8 .f32 := allScales (V m c main_v1)
def res11 (c : Dev nD) : Vec F S64x128 .fp8e4m3 := allCodes (V m c main_v2)
def res12 (c : Dev nD) : Vec F S8x8 .f32 := allScales (V m c main_v2)

/-- What the buffers hold when the region ends. -/
def G (c : Dev nD) : (b : Ref sig .tc) → Buf (Elt F) ((c.tc : Thread nD τ).loc b) :=
  Function.update (Function.update (Function.update (Function.update (Function.update (V m c) main_v7_0 (res8 m c)) main_v7_1 (res9 m c)) main_v7_2 (res10 m c)) main_v7_3 (res11 m c)) main_v7_4 (res12 m c)

theorem G_8 (c : Dev nD) : G m c main_v7_0 = res8 m c := by
  unfold G
  rw [Function.update_of_ne (by decide), Function.update_of_ne (by decide), Function.update_of_ne (by decide), Function.update_of_ne (by decide), Function.update_self]
theorem G_9 (c : Dev nD) : G m c main_v7_1 = res9 m c := by
  unfold G
  rw [Function.update_of_ne (by decide), Function.update_of_ne (by decide), Function.update_of_ne (by decide), Function.update_self]
theorem G_10 (c : Dev nD) : G m c main_v7_2 = res10 m c := by
  unfold G
  rw [Function.update_of_ne (by decide), Function.update_of_ne (by decide), Function.update_self]
theorem G_11 (c : Dev nD) : G m c main_v7_3 = res11 m c := by
  unfold G
  rw [Function.update_of_ne (by decide), Function.update_self]
theorem G_12 (c : Dev nD) : G m c main_v7_4 = res12 m c := by
  unfold G
  rw [Function.update_self]

theorem resPts_eq (c : Dev nD) (U : (b : Ref sig .tc) → Buf (Elt F) ((c.tc : Thread nD τ).loc b)) :
    (bigSep R0 (fun b => ((c : Thread nD τ).loc b) ↦{fullShare} U b) : sProp 𝕄) = iprop(mPt c hb8 (U main_v7_0) ∗ mPt c hb9 (U main_v7_1) ∗ mPt c hb10 (U main_v7_2) ∗ mPt c hb11 (U main_v7_3) ∗ mPt c hb12 (U main_v7_4)) := by
  rw [BI.bigSep_eq_bigSepL_of_eq [main_v7_0, main_v7_1, main_v7_2, main_v7_3, main_v7_4] (by decide) (by decide)]; rfl

/-- The invariant: the results at `U`. -/
theorem PhiV_eq (c : Dev nD) (U : (c : Dev nD) → (b : Ref sig .tc) → Buf (Elt F) ((c.tc : Thread nD τ).loc b)) :
    (Pipeline.ΦDRV osem0 (cfg0.spec) H0 R0 (V m) U c : sProp 𝕄)
      = iprop(scr c ∗ cellsZero c ∗ ins c (V m c main_arg7) (V m c main_v0) (V m c main_v1) (V m c main_v2) (V m c main_v3) (V m c main_v4) (V m c main_v5) (V m c main_v6)
          ∗ mPt c hb8 (U c main_v7_0) ∗ mPt c hb9 (U c main_v7_1) ∗ mPt c hb10 (U c main_v7_2) ∗ mPt c hb11 (U c main_v7_3) ∗ mPt c hb12 (U c main_v7_4)) := by
  unfold Pipeline.ΦDRV
  rw [scopedRest0_eq, ownSems00_eq, hbmPts0_eq, resPts_eq]

/-- What the results hold before the region's only point, and after it. -/
def stageV (t : Fin (cfg0.N + 1)) : (c : Dev nD) → (b : Ref sig .tc) → Buf (Elt F) ((c.tc : Thread nD τ).loc b) := if t.val = 0 then V m else G m

def datsV (_ : Fin 1) (c : Dev nD) : Dat τ (Elt F) Unit ℕ (Pipeline.UD sig nD τ) ℕ cfg0 c where
  A w := V m c (Pipeline.arrRef cfg0.spec w)
  after w t := Pipeline.Dat.unnamed (cfg := cfg0) w t
  Φ t := Pipeline.ΦDRV osem0 (cfg0.spec) H0 R0 (V m) (stageV m t) c
  q _ := fullShare
  owed _ := 0

def bodyPreV (c : Dev nD) (t : Fin cfg0.N) : sProp 𝕄 :=
  iprop((datsV m 0 c).Φ t.castSucc ∗ (datsV m 0 c).owesAt () t.castSucc ∗ emp)
def bodyPostV (c : Dev nD) (t : Fin cfg0.N) : sProp 𝕄 :=
  iprop((datsV m 0 c).Φ t.succ ∗ (datsV m 0 c).owesAt () t.succ ∗ emp)

theorem N_one : cfg0.N = 1 := by decide

set_option maxHeartbeats 8000000 in
theorem sound_bodyV (c : Dev nD) (t : Fin cfg0.N) :
    bodyPreV m c t ⊢ wp frame (wpE (defs₀ (F := F)) Variants.none c none) Set.univ (bodyAt0 t) (fun _ => bodyPostV m c t) := by
  unfold bodyPreV bodyPostV bodyAt0
  have ht : t.val = 0 := by have := t.isLt; have := N_one; omega
  rw [show (datsV m 0 c).Φ t.succ = Pipeline.ΦDRV osem0 (cfg0.spec) H0 R0 (V m) (G m) c by
        show Pipeline.ΦDRV osem0 (cfg0.spec) H0 R0 (V m) (stageV m t.succ) c = _
        rw [show stageV m t.succ = G m from if_neg (Nat.succ_ne_zero _)],
    show (datsV m 0 c).owesAt () t.succ = (datsV m 0 c).owesAt () t.castSucc from rfl,
    show (datsV m 0 c).Φ t.castSucc = Pipeline.ΦDRV osem0 (cfg0.spec) H0 R0 (V m) (V m) c by
        show Pipeline.ΦDRV osem0 (cfg0.spec) H0 R0 (V m) (stageV m t.castSucc) c = _
        rw [show stageV m t.castSucc = V m from if_pos ht], PhiV_eq, PhiV_eq]
  unfold Dat.owesAt Pipeline.owesWithin
  rw [show (datsV m 0 c).owed t.castSucc = 0 from rfl]
  iintro ⟨⟨⟨⟨%s1, HS1⟩, ⟨%s2, HS2⟩, ⟨%s3, HS3⟩, ⟨%s4, HS4⟩, ⟨%s5, HS5⟩, ⟨%s6, HS6⟩, ⟨%s7, HS7⟩, ⟨%s8, HS8⟩, ⟨%s9, HS9⟩, ⟨%s10, HS10⟩, ⟨%s11, HS11⟩, ⟨%s12, HS12⟩, ⟨%s13, HS13⟩, ⟨%s14, HS14⟩, ⟨%s0, HS0⟩⟩, HC, HI, HR8, HR9, HR10, HR11, HR12⟩, ⟨%W, %hW, HO⟩, -⟩
  iapply ((kernelRun c (V m c main_arg7) (V m c main_v0) (V m c main_v1) (V m c main_v2) (V m c main_v3) (V m c main_v4) (V m c main_v5) (V m c main_v6) (V m c main_v7_0) (V m c main_v7_1) (V m c main_v7_2) (V m c main_v7_3) (V m c main_v7_4) s0 s1 s2 s3 s4 s5 s6 s7 s8 s9 s10 s11 s12 s13 s14).2 W _)
  isplitl [HS1 HS2 HS3 HS4 HS5 HS6 HS7 HS8 HS9 HS10 HS11 HS12 HS13 HS14 HS0]
  · isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexact HS8
    isplitl [HS9]; · iexact HS9
    isplitl [HS10]; · iexact HS10
    isplitl [HS11]; · iexact HS11
    isplitl [HS12]; · iexact HS12
    isplitl [HS13]; · iexact HS13
    isplitl [HS14]; · iexact HS14
    iexact HS0
  isplitl [HC]; · iexact HC
  isplitl [HI]; · iexact HI
  isplitl [HR8]; · iexact HR8
  isplitl [HR9]; · iexact HR9
  isplitl [HR10]; · iexact HR10
  isplitl [HR11]; · iexact HR11
  isplitl [HR12]; · iexact HR12
  isplitl [HO]; · iexact HO
  let B : Bufs F c := ⟨V m c main_arg7, V m c main_v0, V m c main_v1, V m c main_v2, V m c main_v3, V m c main_v4, V m c main_v5, V m c main_v6, V m c main_v7_0, V m c main_v7_1, V m c main_v7_2, V m c main_v7_3, V m c main_v7_4,
    s0, s1, s2, s3, s4, s5, s6, s7, s8, s9, s10, s11, s12, s13, s14⟩
  rw [show (kernelRun c (V m c main_arg7) (V m c main_v0) (V m c main_v1) (V m c main_v2) (V m c main_v3) (V m c main_v4) (V m c main_v5) (V m c main_v6) (V m c main_v7_0) (V m c main_v7_1) (V m c main_v7_2) (V m c main_v7_3) (V m c main_v7_4) s0 s1 s2 s3 s4 s5 s6 s7 s8 s9 s10 s11 s12 s13 s14).1.1 = G m c main_v7_0 from (out_run B).trans (G_8 m c).symm,
    show (kernelRun c (V m c main_arg7) (V m c main_v0) (V m c main_v1) (V m c main_v2) (V m c main_v3) (V m c main_v4) (V m c main_v5) (V m c main_v6) (V m c main_v7_0) (V m c main_v7_1) (V m c main_v7_2) (V m c main_v7_3) (V m c main_v7_4) s0 s1 s2 s3 s4 s5 s6 s7 s8 s9 s10 s11 s12 s13 s14).1.2.1 = G m c main_v7_1 from (codesK_run B).trans (G_9 m c).symm,
    show (kernelRun c (V m c main_arg7) (V m c main_v0) (V m c main_v1) (V m c main_v2) (V m c main_v3) (V m c main_v4) (V m c main_v5) (V m c main_v6) (V m c main_v7_0) (V m c main_v7_1) (V m c main_v7_2) (V m c main_v7_3) (V m c main_v7_4) s0 s1 s2 s3 s4 s5 s6 s7 s8 s9 s10 s11 s12 s13 s14).1.2.2.1 = G m c main_v7_2 from (scalesK_run B).trans (G_10 m c).symm,
    show (kernelRun c (V m c main_arg7) (V m c main_v0) (V m c main_v1) (V m c main_v2) (V m c main_v3) (V m c main_v4) (V m c main_v5) (V m c main_v6) (V m c main_v7_0) (V m c main_v7_1) (V m c main_v7_2) (V m c main_v7_3) (V m c main_v7_4) s0 s1 s2 s3 s4 s5 s6 s7 s8 s9 s10 s11 s12 s13 s14).1.2.2.2.1 = G m c main_v7_3 from (codesV_run B).trans (G_11 m c).symm,
    show (kernelRun c (V m c main_arg7) (V m c main_v0) (V m c main_v1) (V m c main_v2) (V m c main_v3) (V m c main_v4) (V m c main_v5) (V m c main_v6) (V m c main_v7_0) (V m c main_v7_1) (V m c main_v7_2) (V m c main_v7_3) (V m c main_v7_4) s0 s1 s2 s3 s4 s5 s6 s7 s8 s9 s10 s11 s12 s13 s14).1.2.2.2.2 = G m c main_v7_4 from (scalesV_run B).trans (G_12 m c).symm]
  iintro ⟨HS, HC, HI, HR8, HR9, HR10, HR11, HR12, ⟨%W', HO⟩⟩
  isplitl [HS HC HI HR8 HR9 HR10 HR11 HR12]
  · isplitl [HS]; · iexact HS
    isplitl [HC]; · iexact HC
    isplitl [HI]; · iexact HI
    isplitl [HR8]; · iexact HR8
    isplitl [HR9]; · iexact HR9
    isplitl [HR10]; · iexact HR10
    isplitl [HR11]; · iexact HR11
    iexact HR12
  isplitl [HO]
  · iexists W'; isplitr; · ipureintro; exact fun _ _ => Or.inl trivial
    iexact HO
  iempintro

theorem body_obligationV (c : Dev nD) :
    BodyObligation (datsV (F := F) m 0 c) (defs₀ (F := F)) Variants.none () Set.univ := fun t => by
  rw [Finset.univ_eq_empty, bigSep_empty, bigSep_empty, defs₀_row]
  exact triple_restated (sound_bodyV m c t) rfl .rfl fun _ => .rfl

set_option backward.isDefEq.respectTransparency.types false in
/-- Every run of @main ends with every buffer of the host lines at what they leave there from the results, and every counter at zero. -/
theorem run_value :
    θ_run defs (onTc (τ := τ) (main (F := F))) (s₀ m ρ)
      (fun r => ∀ c : Dev nD, ∀ b ∈ Pipeline.restRefs sig cfg0.spec, r.2.mem ((c.tc : Thread nD τ).loc b)
        = StableHlo.after (List.flatten [hostOps1]) (Pipeline.withArrays cfg0.spec c (Pipeline.withR (V0 m c) R0 c (G m c)) fun w => (datsV m 0 c).arrAt w cfg0.N) (Proc.devRef .tc b)) :=
  Pipeline.θ_run_frame_dmaR_aroundV (Q' := _) cfgs (datsV m) (0 : Fin 1) launch0 osem0 defs₀ Variants.none ownSemFacts0 H0 R0 H0_sub R0_sub m ρ main
    (hbody := fun c => (body_obligationV m c).loose) (hshare := fun c => (datsV m 0 c).share_full fun _ => rfl)
    (howed := fun _ _ => rfl) (V₀ := V0 m) (opss := [hostOps1]) (hsub := sfx_sub) (hfresh := sfx_fresh) (hkeep := sfx_keeps)
    (G := G m) (hmain := hmainD m Variants.none) (hA := fun _ w => w.elim0)
    (hin := fun _ => .rfl) (hout := fun _ => .rfl) (hQ' := fun _ h c => (h.1 c).2)

end Cert.KernelIdeal.Run

end
-- ==== Proof.KernelIdealHost.lean ====
/- The host operations around the kernel: the rows it reads, and the results from what it writes. -/
module

public import proofs.«01_k».proof.Proof.KernelIdealQuant
public import proofs.«01_k».proof.Proof.KernelIdealRun
public import Idealize.ShloMosaic.Lib.StableHlo.ReadAt

@[expose] public section

set_option maxHeartbeats 1000000
set_option maxRecDepth 16384

noncomputable section

namespace Cert.KernelIdeal.Hand

open Cert.KernelIdeal Cert.KernelIdeal.Gen Cert.Quant Cert.Values Cert.Soft
open Idealize.ShloMosaic Idealize.ShloMosaic.TcCoe

variable (m : (ℓ : Loc nD τ sig) → Buf (Elt Ideal) ℓ) (c : Dev nD)

theorem v0_at (b : Fin 8) (i : Fin 4) (h : Fin 16) (l : Fin 128) :
    (V m c main_v0 : Vec Ideal S8x64x128 .bf16) (ix3 b (⟨16 * i.val + h.val, by omega⟩ : Fin 64) l)
      = (m (c, Proc.devRef .tc main_arg0) : Vec Ideal S8x4x16x128 .bf16) (ix4 b i h l) := by
  unfold V V0
  simp only [List.flatten_cons, List.flatten_nil, List.append_nil, List.cons_append, List.nil_append]
  after_reads_at
theorem v1_at (b : Fin 8) (s : Fin 4) (k : Fin 2) (l : Fin 128) :
    (V m c main_v1 : Vec Ideal S64x128 .bf16) (ix2 (⟨2 * (4 * b.val + s.val) + k.val, by omega⟩ : Fin 64) l)
      = (m (c, Proc.devRef .tc main_arg1) : Vec Ideal S8x4x2x128 .bf16) (ix4 b s k l) := by
  unfold V V0
  simp only [List.flatten_cons, List.flatten_nil, List.append_nil, List.cons_append, List.nil_append]
  after_reads_at
theorem v2_at (b : Fin 8) (s : Fin 4) (k : Fin 2) (l : Fin 128) :
    (V m c main_v2 : Vec Ideal S64x128 .bf16) (ix2 (⟨2 * (4 * b.val + s.val) + k.val, by omega⟩ : Fin 64) l)
      = (m (c, Proc.devRef .tc main_arg2) : Vec Ideal S8x4x2x128 .bf16) (ix4 b s k l) := by
  unfold V V0
  simp only [List.flatten_cons, List.flatten_nil, List.append_nil, List.cons_append, List.nil_append]
  after_reads_at
theorem v3_at (b : Fin 8) (k : Fin 2) (p : Fin 131072) (l : Fin 128) :
    (V m c main_v3 : Vec Ideal S8x2x131072x128 .fp8e4m3) (ix4 b k p l)
      = (m (c, Proc.devRef .tc main_arg3) : Vec Ideal S8x131072x2x128 .fp8e4m3) (ix4 b p k l) := by
  unfold V V0
  simp only [List.flatten_cons, List.flatten_nil, List.append_nil, List.cons_append, List.nil_append]
  after_reads_at
theorem v4_at (b : Fin 8) (k : Fin 2) (p : Fin 131072) :
    (V m c main_v4 : Vec Ideal S8x2x131072 .f32) (ix3 b k p)
      = (m (c, Proc.devRef .tc main_arg4) : Vec Ideal S8x131072x2 .f32) (ix3 b p k) := by
  unfold V V0
  simp only [List.flatten_cons, List.flatten_nil, List.append_nil, List.cons_append, List.nil_append]
  after_reads_at
theorem v5_at (b : Fin 8) (k : Fin 2) (p : Fin 131072) (l : Fin 128) :
    (V m c main_v5 : Vec Ideal S8x2x131072x128 .fp8e4m3) (ix4 b k p l)
      = (m (c, Proc.devRef .tc main_arg5) : Vec Ideal S8x131072x2x128 .fp8e4m3) (ix4 b p k l) := by
  unfold V V0
  simp only [List.flatten_cons, List.flatten_nil, List.append_nil, List.cons_append, List.nil_append]
  after_reads_at
theorem v6_at (b : Fin 8) (k : Fin 2) (p : Fin 131072) :
    (V m c main_v6 : Vec Ideal S8x2x131072 .f32) (ix3 b k p)
      = (m (c, Proc.devRef .tc main_arg6) : Vec Ideal S8x131072x2 .f32) (ix3 b p k) := by
  unfold V V0
  simp only [List.flatten_cons, List.flatten_nil, List.append_nil, List.cons_append, List.nil_append]
  after_reads_at

variable (W : Valuation τ sig (Elt Ideal))

theorem v10_at (b : Fin 8) (s : Fin 4) (k : Fin 2) (g : Fin 8) (d : Fin 128) :
    (StableHlo.after hostOps1 W (Proc.devRef .tc main_v10) : Vec Ideal S8x4x2048 .bf16) (ix3 b s (⟨k.val * 1024 + g.val * 128 + d.val, by omega⟩ : Fin 2048))
      = (W (Proc.devRef .tc main_v7_0) : Vec Ideal S8x64x128 .bf16) (ix3 b (⟨32 * k.val + 4 * g.val + s.val, by omega⟩ : Fin 64) d) := by
  after_reads_at
  have e1 : (k.val * 1024 + g.val * 128 + d.val) / 128 * 4 + s.val = 32 * k.val + 4 * g.val + s.val := by omega
  simp only [e1]
theorem v12_at (b : Fin 8) (s : Fin 4) (k : Fin 2) (l : Fin 128) :
    (StableHlo.after hostOps1 W (Proc.devRef .tc main_v12) : Vec Ideal S8x4x2x128 .fp8e4m3) (ix4 b s k l)
      = (W (Proc.devRef .tc main_v7_1) : Vec Ideal S64x128 .fp8e4m3) (ix2 (⟨8 * b.val + 4 * k.val + s.val, by omega⟩ : Fin 64) l) := by
  after_reads_at
  have e1 : b.val * 8 + k.val * 4 + s.val = 8 * b.val + 4 * k.val + s.val := by omega
  simp only [e1]
theorem v14_at (b : Fin 8) (s : Fin 4) (k : Fin 2) (l : Fin 128) :
    (StableHlo.after hostOps1 W (Proc.devRef .tc main_v14) : Vec Ideal S8x4x2x128 .fp8e4m3) (ix4 b s k l)
      = (W (Proc.devRef .tc main_v7_3) : Vec Ideal S64x128 .fp8e4m3) (ix2 (⟨8 * b.val + 4 * k.val + s.val, by omega⟩ : Fin 64) l) := by
  after_reads_at
  have e1 : b.val * 8 + k.val * 4 + s.val = 8 * b.val + 4 * k.val + s.val := by omega
  simp only [e1]
theorem v16_at (b : Fin 8) (s : Fin 4) (k : Fin 2) :
    (StableHlo.after hostOps1 W (Proc.devRef .tc main_v16) : Vec Ideal S8x4x2 .f32) (ix3 b s k)
      = (W (Proc.devRef .tc main_v7_2) : Vec Ideal S8x8 .f32) (ix2 (⟨2 * s.val + k.val, by omega⟩ : Fin 8) b) := by
  after_reads_at
  have e1 : s.val * 2 + k.val = 2 * s.val + k.val := by omega
  simp only [e1]
theorem v18_at (b : Fin 8) (s : Fin 4) (k : Fin 2) :
    (StableHlo.after hostOps1 W (Proc.devRef .tc main_v18) : Vec Ideal S8x4x2 .f32) (ix3 b s k)
      = (W (Proc.devRef .tc main_v7_4) : Vec Ideal S8x8 .f32) (ix2 (⟨2 * s.val + k.val, by omega⟩ : Fin 8) b) := by
  after_reads_at
  have e1 : s.val * 2 + k.val = 2 * s.val + k.val := by omega
  simp only [e1]

end Cert.KernelIdeal.Hand

end
-- ==== Proof.Window.lean ====
/- The kernel's row of scores, token for token: where the window of 1024 tokens and the new tokens lie in it. -/
module

public import proofs.«01_k».proof.Proof.Values
public import proofs.«01_k».proof.Proof.Words

@[expose] public section

set_option maxHeartbeats 1000000

noncomputable section

namespace Cert.Window

open Idealize.ShloMosaic Cert.Soft Cert.Values

theorem start_toNat (n : BitVec 32) (h0 : 1024 ≤ n.toNat) (h1 : n.toNat ≤ 131072) : (Words.start n).toNat = n.toNat - 1024 := by
  have ex : (n - 1024#32).toNat = n.toNat - 1024 := by
    rw [BitVec.toNat_sub, show (1024#32).toNat = 1024 from rfl]; omega
  unfold Words.start Scalar.minsi Scalar.maxsi Scalar.subi IntOp.minsi IntOp.maxsi IntOp.subi
  generalize n - 1024#32 = x at *
  have e0 : (0#32).toInt = 0 := by decide
  have e1 : (130048#32).toInt = 130048 := by decide
  have e2 : x.toInt = (x.toNat : ℤ) := BitVec.toInt_eq_toNat_of_lt (by omega)
  have h : ¬ x.toInt < (0#32).toInt := by rw [e0, e2]; omega
  have h' : ¬ (130048#32).toInt < x.toInt := by rw [e1, e2]; omega
  simp only [BitVec.slt_eq_decide, decide_eq_true_eq, h, h', if_false]
  exact ex

/-- How far into the loaded tokens the window begins. -/
def shiftIn (n : BitVec 32) : ℕ := (Words.start n).toNat - (Words.lo n).toNat
theorem shiftIn_le (n : BitVec 32) : shiftIn n ≤ 32 := by
  unfold shiftIn
  have := Words.lo_toNat n; have := Words.start_le n; omega
theorem lo_add (n : BitVec 32) : (Words.lo n).toNat + shiftIn n = (Words.start n).toNat := by
  unfold shiftIn
  have := Words.lo_toNat n; have := Words.start_le n; omega

theorem off_toNat (n : BitVec 32) (h0 : 1024 ≤ n.toNat) (h1 : n.toNat ≤ 131072) : (Scalar.subi n (Words.lo n)).toNat = 1024 + shiftIn n := by
  have e := start_toNat n h0 h1
  have := lo_add n
  show (n - Words.lo n).toNat = _
  rw [BitVec.toNat_sub]; omega

theorem toInt_eq (w : BitVec 32) (k : ℕ) (h : w.toNat = k) (hk : k < 2000000) : w.toInt = (k : ℤ) := by
  rw [BitVec.toInt_eq_toNat_of_lt (by omega), h]

theorem slt_eq (v w : BitVec 32) (x y : ℕ) (hv : v.toNat = x) (hw : w.toNat = y) (hx : x < 2000000) (hy : y < 2000000) : IntOp.cmpi .slt v w = BitVec.ofBool (decide (x < y)) := by
  show BitVec.ofBool (BitVec.slt v w) = _
  unfold BitVec.slt
  rw [toInt_eq v x hv hx, toInt_eq w y hw hy]; norm_cast
theorem sgt_eq (v w : BitVec 32) (x y : ℕ) (hv : v.toNat = x) (hw : w.toNat = y) (hx : x < 2000000) (hy : y < 2000000) : IntOp.cmpi .sgt v w = BitVec.ofBool (decide (y < x)) :=
  slt_eq w v y x hw hv hy hx
theorem sle_eq (v w : BitVec 32) (x y : ℕ) (hv : v.toNat = x) (hw : w.toNat = y) (hx : x < 2000000) (hy : y < 2000000) : IntOp.cmpi .sle v w = BitVec.ofBool (decide (x ≤ y)) := by
  show BitVec.ofBool (BitVec.sle v w) = _
  unfold BitVec.sle
  rw [toInt_eq v x hv hx, toInt_eq w y hw hy]; norm_cast
theorem sge_eq (v w : BitVec 32) (x y : ℕ) (hv : v.toNat = x) (hw : w.toNat = y) (hx : x < 2000000) (hy : y < 2000000) : IntOp.cmpi .sge v w = BitVec.ofBool (decide (y ≤ x)) :=
  sle_eq w v y x hw hv hy hx

theorem select_if (P : Prop) [Decidable P] (x y : EReal) : Scalar.select (BitVec.ofBool (decide P)) x y = if P then x else y := by
  by_cases h : P
  · rw [if_pos h, decide_eq_true h]; rfl
  · rw [if_neg h, decide_eq_false h]; rfl
theorem and_if (P Q : Prop) [Decidable P] [Decidable Q] : IntOp.andi (BitVec.ofBool (decide P)) (BitVec.ofBool (decide Q)) = BitVec.ofBool (decide (P ∧ Q)) := by
  by_cases h : P <;> by_cases k : Q <;> simp [h, k] <;> rfl
theorem or_if (P Q : Prop) [Decidable P] [Decidable Q] : IntOp.ori (BitVec.ofBool (decide P)) (BitVec.ofBool (decide Q)) = BitVec.ofBool (decide (P ∨ Q)) := by
  by_cases h : P <;> by_cases k : Q <;> simp [h, k] <;> rfl

theorem ofNat_toNat (k : ℕ) (h : k < 2000000) : (BitVec.ofNat 32 k).toNat = k := by
  rw [BitVec.toNat_ofNat]; omega

variable (n : BitVec 32) (h0 : 1024 ≤ n.toNat) (h1 : n.toNat ≤ 131072) (b : Fin 8) (i : Fin 4)
include h0 h1

theorem add_toNat (k : ℕ) (hk : k < 4) : (IntOp.addi n (BitVec.ofNat 32 k)).toNat = n.toNat + k := by
  show (n + BitVec.ofNat 32 k).toNat = _
  rw [BitVec.toNat_add, ofNat_toNat k (by omega)]; omega

theorem cached_eq (t : Fin 1024) (dot sc : EReal) :
    cachedScore n (BitVec.ofNat 32 ((Words.start n).toNat + t.val)) i dot sc = if i.val < t.val then dot * (sc * Ideal.ofBits .f32 0x3DB504F3#32) else ⊥ := by
  have e := start_toNat n h0 h1
  unfold cachedScore
  rw [slt_eq _ _ (n.toNat - 1024 + t.val) n.toNat (by rw [ofNat_toNat _ (by omega), e]) rfl (by omega) (by omega),
    sgt_eq _ _ (n.toNat - 1024 + t.val) (n.toNat + i.val - 1024) (by rw [ofNat_toNat _ (by omega), e])
      (by show (IntOp.addi n (BitVec.ofNat 32 i.val) - 1024#32).toNat = _; rw [BitVec.toNat_sub, add_toNat n h0 h1 _ i.isLt, show (1024#32).toNat = 1024 from rfl]; omega) (by omega) (by omega),
    and_if, select_if]
  exact if_congr (by omega) rfl rfl

theorem new_eq (j : Fin 4) (dot sc : EReal) :
    newScore n j i dot sc = if j.val ≤ i.val then dot * (sc * Ideal.ofBits .f32 0x3DB504F3#32) else ⊥ := by
  unfold newScore
  rw [sle_eq _ _ (n.toNat + j.val) (n.toNat + i.val) (add_toNat n h0 h1 _ j.isLt) (add_toNat n h0 h1 _ i.isLt) (by omega) (by omega),
    sgt_eq _ _ (n.toNat + j.val) (n.toNat + i.val - 1024) (add_toNat n h0 h1 _ j.isLt)
      (by show (IntOp.addi n (BitVec.ofNat 32 i.val) - 1024#32).toNat = _; rw [BitVec.toNat_sub, add_toNat n h0 h1 _ i.isLt, show (1024#32).toNat = 1024 from rfl]; omega) (by omega) (by omega),
    and_if, select_if]
  exact if_congr (by omega) rfl rfl

theorem kScore_eq (y : Fin 1088) (dot sc : EReal) :
    kScore (Scalar.subi n (Words.lo n)) (BitVec.ofNat 32 i.val) (BitVec.ofNat 32 (32 + 4 * b.val + 0)) (BitVec.ofNat 32 (32 + 4 * b.val + i.val)) y dot sc
      = if (y.val < 1024 ∧ (y.val < 128 → shiftIn n + i.val < y.val)) ∨ (1024 ≤ y.val ∧ (y.val - 1024 < shiftIn n ∨ (32 + 4 * b.val ≤ y.val - 1024 ∧ y.val - 1024 ≤ 32 + 4 * b.val + i.val)))
        then dot * (sc * Ideal.ofBits .f32 0x3DB504F3#32 * L) else ⊥ := by
  have e := off_toNat n h0 h1
  have hd := shiftIn_le n
  unfold kScore
  by_cases hy : y.val < 1024
  · rw [if_pos hy]
    by_cases hz : y.val < 128
    · rw [if_pos hz, sgt_eq _ _ y.val (shiftIn n + i.val) (ofNat_toNat _ (by omega))
        (by show (Scalar.subi n (Words.lo n) + BitVec.ofNat 32 i.val - 1024#32).toNat = _; rw [BitVec.toNat_sub, BitVec.toNat_add, e, ofNat_toNat i.val (by omega), show (1024#32).toNat = 1024 from rfl]; omega) (by omega) (by omega), select_if]
      exact if_congr (by omega) rfl rfl
    · rw [if_neg hz, if_pos (by omega)]
  · rw [if_neg hy, slt_eq _ _ (y.val - 1024) (shiftIn n) (ofNat_toNat _ (by omega))
      (by show (Scalar.subi n (Words.lo n) - 1024#32).toNat = _; rw [BitVec.toNat_sub, e, show (1024#32).toNat = 1024 from rfl]; omega) (by omega) (by omega),
      sge_eq _ _ (y.val - 1024) (32 + 4 * b.val + 0) (ofNat_toNat _ (by omega)) (ofNat_toNat _ (by omega)) (by omega) (by omega),
      sle_eq _ _ (y.val - 1024) (32 + 4 * b.val + i.val) (ofNat_toNat _ (by omega)) (ofNat_toNat _ (by omega)) (by omega) (by omega), and_if, or_if, select_if]
    exact if_congr (by omega) rfl rfl

omit h0 h1 in
/-- Where the window's tokens and the new ones lie among those the kernel scores. -/
def place (u : Fin 1028) : Fin 1088 :=
  if h : u.val < 1024 then ⟨shiftIn n + u.val, by have := shiftIn_le n; omega⟩ else ⟨1056 + 4 * b.val + (u.val - 1024), by omega⟩

omit h0 h1 in
theorem place_left (u : Fin 1028) (h : u.val < 1024) : (place n b u).val = shiftIn n + u.val := by unfold place; rw [dif_pos h]
omit h0 h1 in
theorem place_right (u : Fin 1028) (h : ¬ u.val < 1024) : (place n b u).val = 1056 + 4 * b.val + (u.val - 1024) := by unfold place; rw [dif_neg h]

omit h0 h1 in
theorem place_inj : Function.Injective (place n b) := by
  intro u v h
  have hd := shiftIn_le n
  have h' := congrArg Fin.val h
  apply Fin.ext
  by_cases hu : u.val < 1024 <;> by_cases hv : v.val < 1024
  · rw [place_left n b u hu, place_left n b v hv] at h'; omega
  · rw [place_left n b u hu, place_right n b v hv] at h'; omega
  · rw [place_right n b u hu, place_left n b v hv] at h'; omega
  · rw [place_right n b u hu, place_right n b v hv] at h'; omega

theorem scores_eq (K : Fin 1088 → EReal) (T : Fin 1088 → EReal) (kd ks : Fin 1024 → EReal) (nd ns : Fin 4 → EReal)
    (hK : ∀ u, K (place n b u) = joined kd nd u) (hT : ∀ u, T (place n b u) = joined ks ns u) (u : Fin 1028) :
    kScore (Scalar.subi n (Words.lo n)) (BitVec.ofNat 32 i.val) (BitVec.ofNat 32 (32 + 4 * b.val + 0)) (BitVec.ofNat 32 (32 + 4 * b.val + i.val)) (place n b u) (K (place n b u)) (T (place n b u))
      = joined (fun t => cachedScore n (BitVec.ofNat 32 ((Words.start n).toNat + t.val)) i (kd t) (ks t)) (fun j => newScore n j i (nd j) (ns j)) u * L := by
  have hd := shiftIn_le n
  rw [kScore_eq n h0 h1, hK, hT]
  unfold joined
  have hb : (⊥ : EReal) * L = ⊥ := EReal.bot_mul_of_pos L_pos
  by_cases hu : u.val < 1024
  · have hp := place_left n b u hu
    simp only [dif_pos hu]
    have hc := cached_eq n h0 h1 i ⟨u.val, hu⟩ (kd ⟨u.val, hu⟩) (ks ⟨u.val, hu⟩)
    dsimp only at hc
    rw [hc, ite_mul, hb]
    refine if_congr ?_ (by simp only [mul_assoc]) rfl
    rw [hp]
    show _ ↔ i.val < u.val
    omega
  · have hp := place_right n b u hu
    simp only [dif_neg hu]
    rw [new_eq n h0 h1, ite_mul, hb]
    refine if_congr ?_ (by simp only [mul_assoc]) rfl
    rw [hp]
    show _ ↔ u.val - 1024 ≤ i.val
    omega

theorem scores_off (y : Fin 1088) (hy : ∀ u, place n b u ≠ y) (dot sc : EReal) :
    kScore (Scalar.subi n (Words.lo n)) (BitVec.ofNat 32 i.val) (BitVec.ofNat 32 (32 + 4 * b.val + 0)) (BitVec.ofNat 32 (32 + 4 * b.val + i.val)) y dot sc = ⊥ := by
  have hd := shiftIn_le n
  rw [kScore_eq n h0 h1, if_neg]
  intro h
  by_cases hc : shiftIn n ≤ y.val ∧ y.val < shiftIn n + 1024
  · refine hy ⟨y.val - shiftIn n, by omega⟩ (Fin.ext ?_)
    rw [place_left n b _ (show y.val - shiftIn n < 1024 by omega)]
    show shiftIn n + (y.val - shiftIn n) = y.val
    omega
  · have : 1056 + 4 * b.val ≤ y.val ∧ y.val ≤ 1056 + 4 * b.val + i.val := by omega
    refine hy ⟨1024 + (y.val - (1056 + 4 * b.val)), by omega⟩ (Fin.ext ?_)
    rw [place_right n b _ (show ¬ (1024 + (y.val - (1056 + 4 * b.val)) < 1024) by omega)]
    show 1056 + 4 * b.val + (1024 + (y.val - (1056 + 4 * b.val)) - 1024) = y.val
    omega

/-- The kernel's sum over its 1088 tokens is the softmax's over the window's 1024 and the four new ones. -/
theorem attend_eq (K T TV V : Fin 1088 → EReal) (kd ks vs vd : Fin 1024 → EReal) (nd ns nvs nvd : Fin 4 → EReal)
    (hK : ∀ u, K (place n b u) = joined kd nd u) (hT : ∀ u, T (place n b u) = joined ks ns u)
    (hTV : ∀ u, TV (place n b u) = joined vs nvs u) (hV : ∀ u, V (place n b u) = joined vd nvd u) :
    ∑ y, share (fun y => kScore (Scalar.subi n (Words.lo n)) (BitVec.ofNat 32 i.val) (BitVec.ofNat 32 (32 + 4 * b.val + 0)) (BitVec.ofNat 32 (32 + 4 * b.val + i.val)) y (K y) (T y)) y * TV y * V y
      = attend (joined (fun t => cachedScore n (BitVec.ofNat 32 ((Words.start n).toNat + t.val)) i (kd t) (ks t)) (fun j => newScore n j i (nd j) (ns j)))
          (joined vs nvs) (joined vd nvd) := by
  unfold share attend
  rw [softmax_eq (place n b) (place_inj n b) _ _ (scores_eq n h0 h1 b i K T kd ks nd ns hK hT) (fun y hy => scores_off n h0 h1 b i y hy _ _)]
  simp only [hTV, hV]

end Cert.Window

end
-- ==== Proof.KernelIdealValue.lean ====
/- The kernel’s attention result at each index, over the window of 1024 tokens and the four new ones. -/
module

public import proofs.«01_k».proof.Proof.KernelIdealQuant
public import proofs.«01_k».proof.Proof.KernelIdealRow
public import proofs.«01_k».proof.Proof.KernelIdealHost
public import proofs.«01_k».proof.Proof.Window

@[expose] public section

set_option maxHeartbeats 1000000
set_option maxRecDepth 16384

noncomputable section

namespace Cert.KernelIdeal.Hand

open Cert.KernelIdeal Cert.KernelIdeal.Gen Cert.Quant Cert.Values Cert.Soft Cert.Window Cert.KernelIdeal.Run
open Idealize.ShloMosaic Idealize.ShloMosaic.TcCoe

theorem dotOf_comm (f g : Fin 128 → EReal) : dotOf f g = dotOf g f := Finset.sum_congr rfl fun x _ => mul_comm _ _

theorem shift_toNat (n : BitVec 32) : (Scalar.subi (Words.lo n) (Words.laneLo n)).toNat = (Words.lo n).toNat - (Words.laneLo n).toNat := by
  have := Words.laneLo_toNat n
  have := Words.lo_le n
  show (Words.lo n - Words.laneLo n).toNat = _
  rw [BitVec.toNat_sub]; omega
theorem shift_le (n : BitVec 32) : (Scalar.subi (Words.lo n) (Words.laneLo n)).toNat ≤ 96 := by
  rw [shift_toNat]
  have := Words.laneLo_toNat n
  have := Words.lo_dvd n
  omega

/-- The cache's position at place `t` of the window of a sequence of length `n`. -/
def tokenAt (n : BitVec 32) (t : Fin 1024) : Fin 131072 := ⟨(Words.start n).toNat + t.val, by have := Words.start_le n; omega⟩

/-- The row of the head `kv` of new token `j` of batch row `b`. -/
def newRow (src : Vec Ideal S64x128 .bf16) (b : Fin 8) (kv : Fin 2) (j : Fin 4) : Fin 128 → EReal := fun x =>
  src (ix2 (⟨2 * (4 * b.val + j.val) + kv.val, by omega⟩ : Fin 64) x)

theorem head_at (n : Vec Ideal S8 .i32) (g : Vec Ideal S8x2x131072x128 .fp8e4m3) (new : Vec Ideal S64x128 .bf16) (hr : ∀ r : Fin 64, InRange (amax fun x => new (ix2 r x)))
    (b : Fin 8) (kv : Fin 2) (u : Fin 1028) (l : Fin 128) :
    (headOf n g new b kv (ix4 0 0 (place (n (ix1 b)) b u) l) : EReal)
      = joined (fun t => g (ix4 b kv (tokenAt (n (ix1 b)) t) l)) (fun j => code (newRow new b kv j) l) u := by
  have hd := shiftIn_le (n (ix1 b))
  have hl := lo_add (n (ix1 b))
  unfold joined
  by_cases hu : u.val < 1024
  · have hp := place_left (n (ix1 b)) b u hu
    rw [dif_pos hu]
    unfold headOf keysBuf
    refine Eq.trans (dif_pos (show (place (n (ix1 b)) b u).val < 1056 by omega)) ?_
    refine congrArg g (congrArg (fun p => ix4 b kv p l) (Fin.ext ?_))
    show (Words.lo (n (ix1 b))).toNat + (place (n (ix1 b)) b u).val = (Words.start (n (ix1 b))).toNat + u.val
    omega
  · have hp := place_right (n (ix1 b)) b u hu
    rw [dif_neg hu]
    unfold headOf keysBuf
    refine Eq.trans (dif_neg (show ¬ (place (n (ix1 b)) b u).val < 1056 by omega)) ?_
    have hrow : (⟨(place (n (ix1 b)) b u).val - 1056, by omega⟩ : Fin 32) = ⟨4 * b.val + (u.val - 1024), by omega⟩ := Fin.ext (show (place (n (ix1 b)) b u).val - 1056 = 4 * b.val + (u.val - 1024) by omega)
    refine Eq.trans (b := codesOf (rowsOf new kv) (ix2 (⟨4 * b.val + (u.val - 1024), by omega⟩ : Fin 32) l)) ?_ ?_
    · refine Eq.trans (b := codesPiece (rowsOf new kv) (ix4 0 0 (⟨4 * b.val + (u.val - 1024), by omega⟩ : Fin 32) l)) ?_ ?_
      · exact congrArg (fun r => codesPiece (rowsOf new kv) (ix4 0 0 r l)) hrow
      · pointwise [codesPiece]
    · rw [codesOf_at _ _ _ (by rw [rows_at]; exact hr _), rows_at]
      rfl

theorem lanes_at (n : Vec Ideal S8 .i32) (g : Vec Ideal S8x2x131072 .f32) (new : Vec Ideal S64x128 .bf16) (hr : ∀ r : Fin 64, InRange (amax fun x => new (ix2 r x)))
    (b : Fin 8) (kv : Fin 2) (u : Fin 1028) :
    tokScale (Scalar.subi (Words.lo (n (ix1 b))) (Words.laneLo (n (ix1 b)))) (shift_le _) (lanesOf n g b) (fun kv => newScales (rowsOf new kv)) kv (place (n (ix1 b)) b u)
      = joined (fun t => g (ix3 b kv (tokenAt (n (ix1 b)) t))) (fun j => scale (newRow new b kv j)) u := by
  have hd := shiftIn_le (n (ix1 b))
  have hl := lo_add (n (ix1 b))
  unfold joined tokScale
  by_cases hu : u.val < 1024
  · have hp := place_left (n (ix1 b)) b u hu
    rw [dif_pos hu, dif_pos (show (place (n (ix1 b)) b u).val < 1056 by omega)]
    refine congrArg g (congrArg (fun p => ix3 b kv p) (Fin.ext ?_))
    show (Words.laneLo (n (ix1 b))).toNat + ((Scalar.subi (Words.lo (n (ix1 b))) (Words.laneLo (n (ix1 b)))).toNat + (place (n (ix1 b)) b u).val) = (Words.start (n (ix1 b))).toNat + u.val
    rw [shift_toNat]
    have := Words.laneLo_toNat (n (ix1 b))
    omega
  · have hp := place_right (n (ix1 b)) b u hu
    rw [dif_neg hu, dif_neg (show ¬ (place (n (ix1 b)) b u).val < 1056 by omega)]
    have hrow : (⟨(place (n (ix1 b)) b u).val - 1024, by omega⟩ : Fin 128) = ⟨(⟨4 * b.val + (u.val - 1024), by omega⟩ : Fin 32).val + 32, by show 4 * b.val + (u.val - 1024) + 32 < 128; omega⟩ := Fin.ext (show (place (n (ix1 b)) b u).val - 1024 = 4 * b.val + (u.val - 1024) + 32 by omega)
    rw [hrow]
    show newScales (rowsOf new kv) (ix2 0 _) = _
    rw [newScales_at _ _ (by rw [rows_at]; exact hr _), rows_at]
    rfl

theorem out_at (n : Vec Ideal S8 .i32) (x : Vec Ideal S8x64x128 .bf16) (kn vn : Vec Ideal S64x128 .bf16) (k : Vec Ideal S8x2x131072x128 .fp8e4m3) (ks : Vec Ideal S8x2x131072 .f32)
    (v : Vec Ideal S8x2x131072x128 .fp8e4m3) (vs : Vec Ideal S8x2x131072 .f32) (b : Fin 8) (h0 : 1024 ≤ (n (ix1 b)).toNat) (h1 : (n (ix1 b)).toNat ≤ 131072)
    (hk : ∀ r : Fin 64, InRange (amax fun x => kn (ix2 r x))) (hv : ∀ r : Fin 64, InRange (amax fun x => vn (ix2 r x))) (i : Fin 4) (kv : Fin 2) (g : Fin 8) (d : Fin 128) :
    resultOf n x kn vn k ks v vs (ix3 b (⟨32 * kv.val + 4 * g.val + i.val, by omega⟩ : Fin 64) d)
      = attend (joined (fun t => cachedScore (n (ix1 b)) (BitVec.ofNat 32 (tokenAt (n (ix1 b)) t).val) i
              (dotOf (fun l => k (ix4 b kv (tokenAt (n (ix1 b)) t) l)) (fun l => x (ix3 b (⟨16 * i.val + 8 * kv.val + g.val, by omega⟩ : Fin 64) l))) (ks (ix3 b kv (tokenAt (n (ix1 b)) t))))
            (fun j => newScore (n (ix1 b)) j i (dotOf (code (newRow kn b kv j)) (fun l => x (ix3 b (⟨16 * i.val + 8 * kv.val + g.val, by omega⟩ : Fin 64) l))) (scale (newRow kn b kv j))))
          (joined (fun t => vs (ix3 b kv (tokenAt (n (ix1 b)) t))) (fun j => scale (newRow vn b kv j)))
          (joined (fun t => v (ix4 b kv (tokenAt (n (ix1 b)) t) d)) (fun j => code (newRow vn b kv j) d)) := by
  have hpick : resultOf n x kn vn k ks v vs (ix3 b (⟨32 * kv.val + 4 * g.val + i.val, by omega⟩ : Fin 64) d)
      = outOf n x kn vn k ks v vs b (ix2 (⟨16 * i.val + 8 * kv.val + g.val, by omega⟩ : Fin 64) (⟨128 * kv.val + d.val, by omega⟩ : Fin 256)) := by
    show outOf n x kn vn k ks v vs b (ix2 (⟨8 * (2 * ((32 * kv.val + 4 * g.val + i.val) % 4) + (32 * kv.val + 4 * g.val + i.val) / 32) + (32 * kv.val + 4 * g.val + i.val) % 32 / 4, _⟩ : Fin 64)
      (⟨128 * ((32 * kv.val + 4 * g.val + i.val) / 32) + d.val, _⟩ : Fin 256)) = _
    refine congrArg (outOf n x kn vn k ks v vs b) (congrArg₂ (fun r l => ix2 r l) (Fin.ext ?_) (Fin.ext ?_))
    · show 8 * (2 * ((32 * kv.val + 4 * g.val + i.val) % 4) + (32 * kv.val + 4 * g.val + i.val) / 32) + (32 * kv.val + 4 * g.val + i.val) % 32 / 4 = 16 * i.val + 8 * kv.val + g.val
      omega
    · show 128 * ((32 * kv.val + 4 * g.val + i.val) / 32) + d.val = 128 * kv.val + d.val
      omega
  rw [hpick]
  unfold outOf
  refine (row_at _ _ (shift_le (n (ix1 b))) (fun i => own b i.val) _ (fun kv => headOf n k kn b kv) (fun kv => headOf n v vn b kv) _ _ _ _ i kv g d).trans ?_
  refine attend_eq (n (ix1 b)) h0 h1 b i _ _ _ _ _ _ _ _ _ _ _ _ (fun u => ?_) (fun u => lanes_at n ks kn hk b kv u) (fun u => lanes_at n vs vn hv b kv u) (fun u => head_at n v vn hv b kv u d)
  rw [dotOf_comm]
  unfold dotOf
  simp only [head_at n k kn hk b kv u]
  unfold joined
  by_cases hu : u.val < 1024
  · simp only [dif_pos hu]
    rfl
  · simp only [dif_neg hu]
    rfl

end Cert.KernelIdeal.Hand

end
-- ==== Proof.ReferenceSuffix.lean ====
/- The host operations behind the quantiser: scores, softmax, and the sum over the values. -/
module

public import proofs.«01_k».proof.Proof.Gen.ReferenceIdeal.Frame
public import proofs.«01_k».proof.Proof.Values
public import Idealize.ShloMosaic.Lib.StableHlo.ReadAt
public import Idealize.ShloMosaic.Lib.Pointwise
public import Idealize.ShloMosaic.Lib.IdealHost

@[expose] public section

set_option maxHeartbeats 4000000
set_option maxRecDepth 16384

noncomputable section

namespace Cert.ReferenceIdeal.Hand

open Cert.ReferenceIdeal Cert.ReferenceIdeal.Gen Cert.Values Cert.Quant
open Idealize.ShloMosaic Idealize.ShloMosaic.TcCoe

theorem tail_at (W : Valuation τ sig (Elt Ideal)) (b : Fin 8) (k : Fin 2) (g : Fin 8) (s : Fin 4) (d : Fin 128) :
    (StableHlo.after hostOps1_4 W (Proc.devRef .tc main_v123) : Vec Ideal S8x4x2048 .bf16) (ix3 b s (⟨k.val * 1024 + g.val * 128 + d.val, by omega⟩ : Fin 2048))
      = attend (joined (fun t => (W (Proc.devRef .tc main_v90) : Vec Ideal S8x2x8x4x1024 .f32) (ix5 b k g s t)) (fun j => (W (Proc.devRef .tc main_v92) : Vec Ideal S8x2x8x4x4 .f32) (ix5 b k g s j)))
          (joined (fun t => (W (Proc.devRef .tc main_v36) : Vec Ideal S8x1024x2 .f32) (ix3 b t k)) (fun j => (W (Proc.devRef .tc main_v39) : Vec Ideal S8x4x2 .f32) (ix3 b j k)))
          (joined (fun t => (W (Proc.devRef .tc main_v37_1) : Vec Ideal S8x1024x2x128 .bf16) (ix4 b t k d)) (fun j => (W (Proc.devRef .tc main_v37_7) : Vec Ideal S8x4x2x128 .bf16) (ix4 b j k d))) := by
  rw [attend_joined]
  unfold Cert.Soft.top joined
  rw [← negInf]
  have e1 : (k.val * 1024 + g.val * 128 + d.val) / 1024 = k.val := by omega
  have e2 : (k.val * 1024 + g.val * 128 + d.val) / 128 % 8 = g.val := by omega
  have e3 : (k.val * 1024 + g.val * 128 + d.val) % 128 = d.val := by omega
  after_reads_at
  simp only [StableHlo.upto_zero, e1, e2, e3, Fin.eta]

theorem v90_at (W : Valuation τ sig (Elt Ideal)) (b : Fin 8) (k : Fin 2) (g : Fin 8) (s : Fin 4) (t : Fin 1024) :
    (StableHlo.after (hostOps1 ++ (hostOps1_1 ++ (hostOps1_2 ++ hostOps1_3))) W (Proc.devRef .tc main_v90) : Vec Ideal S8x2x8x4x1024 .f32) (ix5 b k g s t)
      = cachedScore ((W (Proc.devRef .tc main_arg7) : Vec Ideal S8 .i32) (ix1 b)) ((W (Proc.devRef .tc main_v8) : Vec Ideal S8x1024 .i32) (ix2 b t)) s
          (dotOf (fun x => (W (Proc.devRef .tc main_v37_0) : Vec Ideal S8x1024x2x128 .bf16) (ix4 b t k x)) (fun x => (W (Proc.devRef .tc main_arg0) : Vec Ideal S8x4x16x128 .bf16) (ix4 b s (⟨k.val * 8 + g.val, by omega⟩ : Fin 16) x)))
          ((W (Proc.devRef .tc main_v22) : Vec Ideal S8x1024x2 .f32) (ix3 b t k)) := by
  unfold cachedScore dotOf
  rw [← negInf]
  simp only [List.cons_append, List.nil_append]
  after_reads_at
  rfl

theorem v92_at (W : Valuation τ sig (Elt Ideal)) (b : Fin 8) (k : Fin 2) (g : Fin 8) (s : Fin 4) (t : Fin 4) :
    (StableHlo.after (hostOps1 ++ (hostOps1_1 ++ (hostOps1_2 ++ hostOps1_3))) W (Proc.devRef .tc main_v92) : Vec Ideal S8x2x8x4x4 .f32) (ix5 b k g s t)
      = newScore ((W (Proc.devRef .tc main_arg7) : Vec Ideal S8 .i32) (ix1 b)) t s
          (dotOf (fun x => (W (Proc.devRef .tc main_v37_6) : Vec Ideal S8x4x2x128 .bf16) (ix4 b t k x)) (fun x => (W (Proc.devRef .tc main_arg0) : Vec Ideal S8x4x16x128 .bf16) (ix4 b s (⟨k.val * 8 + g.val, by omega⟩ : Fin 16) x)))
          ((W (Proc.devRef .tc main_v37_3) : Vec Ideal S8x4x2x1 .f32) (ix4 b t k 0)) := by
  unfold newScore dotOf
  rw [← negInf]
  simp only [List.cons_append, List.nil_append]
  after_reads_at
  rfl

end Cert.ReferenceIdeal.Hand

end
-- ==== Proof.ReferenceArrays.lean ====
/- The arrays the reference’s quantiser writes. -/
module

public import proofs.«01_k».proof.Proof.Gen.ReferenceIdeal.Frame
public import proofs.«01_k».proof.Proof.Values
public import Idealize.ShloMosaic.Lib.Pipeline.ValueKit
public import Idealize.ShloMosaic.Lib.Pointwise
public import Idealize.ShloMosaic.Lib.IdealHost

@[expose] public section

set_option maxHeartbeats 400000
set_option maxRecDepth 16384

noncomputable section

namespace Cert.ReferenceIdeal.Hand

open Cert.ReferenceIdeal Cert.ReferenceIdeal.Gen Cert.Values Cert.Quant
open Idealize.ShloMosaic Idealize.ShloMosaic.TcCoe

variable (m : (ℓ : Loc nD τ sig) → Buf (Elt Ideal) ℓ) (c : Dev nD)

theorem iblk_0 : iblk m c 0 t0_0 = V m c main_v15 := by
  funext y
  refine congrArg (V m c main_v15) (funext fun a => Fin.ext ?_)
  match a with
  | 0 => blk_simp; rw [show win0_0.index t0_0 0 = 0 by decide +kernel, Nat.zero_mul, Nat.zero_add]
  | 1 => blk_simp; rw [show win0_0.index t0_0 1 = 0 by decide +kernel, Nat.zero_mul, Nat.zero_add]
  | 2 => blk_simp; rw [show win0_0.index t0_0 2 = 0 by decide +kernel, Nat.zero_mul, Nat.zero_add]
  | 3 => blk_simp; rw [show win0_0.index t0_0 3 = 0 by decide +kernel, Nat.zero_mul, Nat.zero_add]
theorem iblk_1 : iblk m c 1 t0_0 = V m c main_v29 := by
  funext y
  refine congrArg (V m c main_v29) (funext fun a => Fin.ext ?_)
  match a with
  | 0 => blk_simp; rw [show win0_1.index t0_0 0 = 0 by decide +kernel, Nat.zero_mul, Nat.zero_add]
  | 1 => blk_simp; rw [show win0_1.index t0_0 1 = 0 by decide +kernel, Nat.zero_mul, Nat.zero_add]
  | 2 => blk_simp; rw [show win0_1.index t0_0 2 = 0 by decide +kernel, Nat.zero_mul, Nat.zero_add]
  | 3 => blk_simp; rw [show win0_1.index t0_0 3 = 0 by decide +kernel, Nat.zero_mul, Nat.zero_add]
theorem iblk_2 : iblk m c 2 t0_0 = V m c main_arg1 := by
  funext y
  refine congrArg (V m c main_arg1) (funext fun a => Fin.ext ?_)
  match a with
  | 0 => blk_simp; rw [show win0_2.index t0_0 0 = 0 by decide +kernel, Nat.zero_mul, Nat.zero_add]
  | 1 => blk_simp; rw [show win0_2.index t0_0 1 = 0 by decide +kernel, Nat.zero_mul, Nat.zero_add]
  | 2 => blk_simp; rw [show win0_2.index t0_0 2 = 0 by decide +kernel, Nat.zero_mul, Nat.zero_add]
  | 3 => blk_simp; rw [show win0_2.index t0_0 3 = 0 by decide +kernel, Nat.zero_mul, Nat.zero_add]
theorem iblk_3 : iblk m c 3 t0_0 = V m c main_arg2 := by
  funext y
  refine congrArg (V m c main_arg2) (funext fun a => Fin.ext ?_)
  match a with
  | 0 => blk_simp; rw [show win0_3.index t0_0 0 = 0 by decide +kernel, Nat.zero_mul, Nat.zero_add]
  | 1 => blk_simp; rw [show win0_3.index t0_0 1 = 0 by decide +kernel, Nat.zero_mul, Nat.zero_add]
  | 2 => blk_simp; rw [show win0_3.index t0_0 2 = 0 by decide +kernel, Nat.zero_mul, Nat.zero_add]
  | 3 => blk_simp; rw [show win0_3.index t0_0 3 = 0 by decide +kernel, Nat.zero_mul, Nat.zero_add]

theorem arr_kc : (dats m 0 c).arrAt 4 cfg0.N = k0_pay3 (V m c main_v15) := by
  refine (dats m 0 c).arrAt_eq_of_after_last 4 t0_0 (by decide +kernel) _ fun j => ?_
  blk_simp
  rw [after0_4]
  unfold out0_4
  rw [View.canon_cons_unit_lit _ _ _ (by decide)]
  rw [iblk_0, View.ld_unit_lit _ _ (by decide)]
theorem arr_vc : (dats m 0 c).arrAt 5 cfg0.N = k0_pay4 (V m c main_v29) := by
  refine (dats m 0 c).arrAt_eq_of_after_last 5 t0_0 (by decide +kernel) _ fun j => ?_
  blk_simp
  rw [after0_5]
  unfold out0_5
  rw [View.canon_cons_unit_lit _ _ _ (by decide)]
  rw [iblk_1, View.ld_unit_lit _ _ (by decide)]
theorem arr_kcodes : (dats m 0 c).arrAt 6 cfg0.N = k0_pay8 (k0_pay5 (V m c main_arg1)) (k0_pay6 (V m c main_arg1)) := by
  refine (dats m 0 c).arrAt_eq_of_after_last 6 t0_0 (by decide +kernel) _ fun j => ?_
  blk_simp
  rw [after0_6]
  unfold out0_6
  rw [View.canon_cons_unit_lit _ _ _ (by decide)]
  unfold k0_pay13 k0_pay14
  rw [iblk_2, View.ld_unit_lit _ _ (by decide)]
theorem arr_kscale : (dats m 0 c).arrAt 7 cfg0.N = k0_pay7 (V m c main_arg1) := by
  refine (dats m 0 c).arrAt_eq_of_after_last 7 t0_0 (by decide +kernel) _ fun j => ?_
  blk_simp
  rw [after0_7]
  unfold out0_7
  rw [View.canon_cons_unit_lit _ _ _ (by decide)]
  rw [iblk_2, View.ld_unit_lit _ _ (by decide)]
theorem arr_vcodes : (dats m 0 c).arrAt 8 cfg0.N = k0_pay1 (k0_pay10 (V m c main_arg2)) (k0_pay11 (V m c main_arg2)) := by
  refine (dats m 0 c).arrAt_eq_of_after_last 8 t0_0 (by decide +kernel) _ fun j => ?_
  blk_simp
  rw [after0_8]
  unfold out0_8
  rw [View.canon_cons_unit_lit _ _ _ (by decide)]
  unfold k0_pay15 k0_pay16
  rw [iblk_3, View.ld_unit_lit _ _ (by decide)]
theorem arr_vscale : (dats m 0 c).arrAt 9 cfg0.N = k0_pay12 (V m c main_arg2) := by
  refine (dats m 0 c).arrAt_eq_of_after_last 9 t0_0 (by decide +kernel) _ fun j => ?_
  blk_simp
  rw [after0_9]
  unfold out0_9
  rw [View.canon_cons_unit_lit _ _ _ (by decide)]
  rw [iblk_3, View.ld_unit_lit _ _ (by decide)]
theorem arr_kn : (dats m 0 c).arrAt 10 cfg0.N = k0_pay9 (k0_pay5 (V m c main_arg1)) (k0_pay6 (V m c main_arg1)) := by
  refine (dats m 0 c).arrAt_eq_of_after_last 10 t0_0 (by decide +kernel) _ fun j => ?_
  blk_simp
  rw [after0_10]
  unfold out0_10
  rw [View.canon_cons_unit_lit _ _ _ (by decide)]
  unfold k0_pay13 k0_pay14
  rw [iblk_2, View.ld_unit_lit _ _ (by decide)]
theorem arr_vn : (dats m 0 c).arrAt 11 cfg0.N = k0_pay2 (k0_pay10 (V m c main_arg2)) (k0_pay11 (V m c main_arg2)) := by
  refine (dats m 0 c).arrAt_eq_of_after_last 11 t0_0 (by decide +kernel) _ fun j => ?_
  blk_simp
  rw [after0_11]
  unfold out0_11
  rw [View.canon_cons_unit_lit _ _ _ (by decide)]
  unfold k0_pay15 k0_pay16
  rw [iblk_3, View.ld_unit_lit _ _ (by decide)]

end Cert.ReferenceIdeal.Hand

end
-- ==== Proof.ReferenceQuant.lean ====
/- The reference's quantiser on a row. -/
module

public import proofs.«01_k».proof.Proof.Gen.ReferenceIdeal.Frame
public import proofs.«01_k».proof.Proof.Values
public import Idealize.ShloMosaic.Lib.StableHlo.ReadAt
public import Idealize.ShloMosaic.Lib.Pointwise
public import Idealize.ShloMosaic.Lib.IdealHost

@[expose] public section

set_option maxHeartbeats 4000000
set_option maxRecDepth 16384

noncomputable section

namespace Cert.ReferenceIdeal.Hand

open Cert.ReferenceIdeal Cert.ReferenceIdeal.Gen Cert.Values Cert.Quant
open Idealize.ShloMosaic Idealize.ShloMosaic.TcCoe

theorem pay7_at (v : Vec Ideal S8x4x2x128 .bf16) (b : Fin 8) (s : Fin 4) (k : Fin 2) : k0_pay7 v (ix4 b s k 0) = scale fun x => v (ix4 b s k x) := by
  pointwise [k0_pay7, k0_pay6, k0_pay5]
  rfl
theorem pay8_at (v : Vec Ideal S8x4x2x128 .bf16) (b : Fin 8) (s : Fin 4) (k : Fin 2) (x : Fin 128) : k0_pay8 (k0_pay5 v) (k0_pay6 v) (ix4 b s k x) = code (fun x => v (ix4 b s k x)) x := by
  pointwise [k0_pay8, k0_pay6, k0_pay5]
  rfl
theorem pay12_at (v : Vec Ideal S8x4x2x128 .bf16) (b : Fin 8) (s : Fin 4) (k : Fin 2) : k0_pay12 v (ix4 b s k 0) = scale fun x => v (ix4 b s k x) := by
  pointwise [k0_pay12, k0_pay11, k0_pay10]
  rfl
theorem pay1_at (v : Vec Ideal S8x4x2x128 .bf16) (b : Fin 8) (s : Fin 4) (k : Fin 2) (x : Fin 128) : k0_pay1 (k0_pay10 v) (k0_pay11 v) (ix4 b s k x) = code (fun x => v (ix4 b s k x)) x := by
  pointwise [k0_pay1, k0_pay11, k0_pay10]
  rfl

end Cert.ReferenceIdeal.Hand

end
-- ==== Proof.ReferenceGather.lean ====
/- What the reference gathers of the caches. -/
module

public import proofs.«01_k».proof.Proof.Gen.ReferenceIdeal.Frame
public import proofs.«01_k».proof.Proof.Values
public import Idealize.ShloMosaic.Lib.StableHlo.ReadAt
public import Idealize.ShloMosaic.Lib.Pointwise
public import Idealize.ShloMosaic.Lib.IdealHost

@[expose] public section

set_option maxHeartbeats 4000000
set_option maxRecDepth 16384

noncomputable section

namespace Cert.ReferenceIdeal.Hand

open Cert.ReferenceIdeal Cert.ReferenceIdeal.Gen Cert.Values Cert.Quant
open Idealize.ShloMosaic Idealize.ShloMosaic.TcCoe

theorem gather4_at (x : Vec Ideal S8x131072x2x128 .fp8e4m3) (idx : IVec S8x1024x2 32) (b : Fin 8) (t : Fin 1024) (k : Fin 2) (e : Fin 128) (n : Fin 131072)
    (h0 : (idx (ix3 b t 0)) = BitVec.ofNat 32 b.val) (h1 : idx (ix3 b t 1) = BitVec.ofNat 32 n.val) :
    Host.gather gather_S8x131072x2x128_S8x1024x2_S8x1024x2x128_23_01_n_n_01_2_112128 x idx (ix4 b t k e) = x (ix4 b n k e) := by
  have i0 : ((idx (ix3 b t 0)).toInt.toNat) = b.val := by rw [h0]; exact (by decide : ∀ b : Fin 8, (BitVec.ofNat 32 b.val).toInt.toNat = b.val) b
  have i1 : ((idx (ix3 b t 1)).toInt.toNat) = n.val := by
    have := n.isLt
    rw [h1, BitVec.toInt_eq_toNat_cond, BitVec.toNat_ofNat, Nat.mod_eq_of_lt (by omega), if_pos (by omega), Int.toNat_natCast]
  have s0 : (gather_S8x131072x2x128_S8x1024x2_S8x1024x2x128_23_01_n_n_01_2_112128).siIdx (ix4 b t k e) ⟨0, by decide⟩ = ix3 b t 0 := by
    funext a; match a with | ⟨0, _⟩ => rfl | ⟨1, _⟩ => rfl | ⟨2, _⟩ => rfl
  have s1 : (gather_S8x131072x2x128_S8x1024x2_S8x1024x2x128_23_01_n_n_01_2_112128).siIdx (ix4 b t k e) ⟨1, by decide⟩ = ix3 b t 1 := by
    funext a; match a with | ⟨0, _⟩ => rfl | ⟨1, _⟩ => rfl | ⟨2, _⟩ => rfl
  unfold Host.gather
  refine congrArg x ?_
  funext a
  apply Fin.ext
  match a with
  | ⟨0, _⟩ =>
    show min (idx (GatherDims.siIdx _ _ _)).toInt.toNat 7 + 0 + 0 = b.val
    erw [s0]; rw [i0]; have := b.isLt; omega
  | ⟨1, _⟩ =>
    show min (idx (GatherDims.siIdx _ _ _)).toInt.toNat 131071 + 0 + 0 = n.val
    erw [s1]; rw [i1]; have := n.isLt; omega
  | ⟨2, _⟩ => show 0 + 0 + k.val = k.val; omega
  | ⟨3, _⟩ => show 0 + 0 + e.val = e.val; omega

theorem gather3_at (x : Vec Ideal S8x131072x2 .f32) (idx : IVec S8x1024x2 32) (b : Fin 8) (t : Fin 1024) (k : Fin 2) (n : Fin 131072)
    (h0 : (idx (ix3 b t 0)) = BitVec.ofNat 32 b.val) (h1 : idx (ix3 b t 1) = BitVec.ofNat 32 n.val) :
    Host.gather gather_S8x131072x2_S8x1024x2_S8x1024x2_2_01_n_n_01_2_112 x idx (ix3 b t k) = x (ix3 b n k) := by
  have i0 : ((idx (ix3 b t 0)).toInt.toNat) = b.val := by rw [h0]; exact (by decide : ∀ b : Fin 8, (BitVec.ofNat 32 b.val).toInt.toNat = b.val) b
  have i1 : ((idx (ix3 b t 1)).toInt.toNat) = n.val := by
    have := n.isLt
    rw [h1, BitVec.toInt_eq_toNat_cond, BitVec.toNat_ofNat, Nat.mod_eq_of_lt (by omega), if_pos (by omega), Int.toNat_natCast]
  have s0 : (gather_S8x131072x2_S8x1024x2_S8x1024x2_2_01_n_n_01_2_112).siIdx (ix3 b t k) ⟨0, by decide⟩ = ix3 b t 0 := by
    funext a; match a with | ⟨0, _⟩ => rfl | ⟨1, _⟩ => rfl | ⟨2, _⟩ => rfl
  have s1 : (gather_S8x131072x2_S8x1024x2_S8x1024x2_2_01_n_n_01_2_112).siIdx (ix3 b t k) ⟨1, by decide⟩ = ix3 b t 1 := by
    funext a; match a with | ⟨0, _⟩ => rfl | ⟨1, _⟩ => rfl | ⟨2, _⟩ => rfl
  unfold Host.gather
  refine congrArg x ?_
  funext a
  apply Fin.ext
  match a with
  | ⟨0, _⟩ =>
    show min (idx (GatherDims.siIdx _ _ _)).toInt.toNat 7 + 0 + 0 = b.val
    erw [s0]; rw [i0]; have := b.isLt; omega
  | ⟨1, _⟩ =>
    show min (idx (GatherDims.siIdx _ _ _)).toInt.toNat 131071 + 0 + 0 = n.val
    erw [s1]; rw [i1]; have := n.isLt; omega
  | ⟨2, _⟩ => show 0 + 0 + k.val = k.val; omega

end Cert.ReferenceIdeal.Hand

end
-- ==== Proof.ReferencePrefix.lean ====
/- The positions and the gathered arrays of the reference. -/
module

public import proofs.«01_k».proof.Proof.Gen.ReferenceIdeal.Frame
public import proofs.«01_k».proof.Proof.ReferenceGather
public import proofs.«01_k».proof.Proof.Words
public import Idealize.ShloMosaic.Lib.StableHlo.ReadAt
public import Idealize.ShloMosaic.Lib.Pointwise
public import Idealize.ShloMosaic.Lib.IdealHost

@[expose] public section

set_option maxHeartbeats 4000000
set_option maxRecDepth 16384

noncomputable section

namespace Cert.ReferenceIdeal.Hand

open Cert.ReferenceIdeal Cert.ReferenceIdeal.Gen Cert.Values Cert.Quant
open Idealize.ShloMosaic Idealize.ShloMosaic.TcCoe

/-- The cache's position at place `t` of the window of a sequence of length `n`. -/
def pos (n : BitVec 32) (t : Fin 1024) : Fin 131072 := ⟨(Words.start n).toNat + t.val, by have := Words.start_le n; omega⟩

theorem pos_word (n : BitVec 32) (t : Fin 1024) : IntOp.addi (Words.start n) (BitVec.ofNat 32 t.val) = BitVec.ofNat 32 (pos n t).val := by
  apply BitVec.eq_of_toNat_eq
  have := Words.start_le n
  show (Words.start n + BitVec.ofNat 32 t.val).toNat = _
  rw [BitVec.toNat_add, BitVec.toNat_ofNat, BitVec.toNat_ofNat]
  show _ = ((Words.start n).toNat + t.val) % _
  omega

variable (m : (ℓ : Loc nD τ sig) → Buf (Elt Ideal) ℓ) (c : Dev nD)

/-- A sequence's length. -/
def len (b : Fin 8) : BitVec 32 := (m (c, Proc.devRef .tc main_arg7) : Vec Ideal S8 .i32) (ix1 b)

theorem v8_at (b : Fin 8) (t : Fin 1024) : (V m c main_v8 : Vec Ideal S8x1024 .i32) (ix2 b t) = BitVec.ofNat 32 (pos (len m c b) t).val := by
  rw [← pos_word]
  unfold V V0
  simp only [List.flatten_cons, List.flatten_nil, List.append_nil, List.cons_append, List.nil_append]
  after_reads_at
  rfl

theorem v14_0 (b : Fin 8) (t : Fin 1024) : (V m c main_v14 : Vec Ideal S8x1024x2 .i32) (ix3 b t 0) = BitVec.ofNat 32 b.val := by
  unfold V V0
  simp only [List.flatten_cons, List.flatten_nil, List.append_nil, List.cons_append, List.nil_append]
  after_reads_at
theorem v14_1 (b : Fin 8) (t : Fin 1024) : (V m c main_v14 : Vec Ideal S8x1024x2 .i32) (ix3 b t 1) = BitVec.ofNat 32 (pos (len m c b) t).val := by
  rw [← pos_word]
  unfold V V0
  simp only [List.flatten_cons, List.flatten_nil, List.append_nil, List.cons_append, List.nil_append]
  after_reads_at
  rfl
theorem v21_0 (b : Fin 8) (t : Fin 1024) : (V m c main_v21 : Vec Ideal S8x1024x2 .i32) (ix3 b t 0) = BitVec.ofNat 32 b.val := by
  unfold V V0
  simp only [List.flatten_cons, List.flatten_nil, List.append_nil, List.cons_append, List.nil_append]
  after_reads_at
theorem v21_1 (b : Fin 8) (t : Fin 1024) : (V m c main_v21 : Vec Ideal S8x1024x2 .i32) (ix3 b t 1) = BitVec.ofNat 32 (pos (len m c b) t).val := by
  rw [← pos_word]
  unfold V V0
  simp only [List.flatten_cons, List.flatten_nil, List.append_nil, List.cons_append, List.nil_append]
  after_reads_at
  rfl
theorem v28_0 (b : Fin 8) (t : Fin 1024) : (V m c main_v28 : Vec Ideal S8x1024x2 .i32) (ix3 b t 0) = BitVec.ofNat 32 b.val := by
  unfold V V0
  simp only [List.flatten_cons, List.flatten_nil, List.append_nil, List.cons_append, List.nil_append]
  after_reads_at
theorem v28_1 (b : Fin 8) (t : Fin 1024) : (V m c main_v28 : Vec Ideal S8x1024x2 .i32) (ix3 b t 1) = BitVec.ofNat 32 (pos (len m c b) t).val := by
  rw [← pos_word]
  unfold V V0
  simp only [List.flatten_cons, List.flatten_nil, List.append_nil, List.cons_append, List.nil_append]
  after_reads_at
  rfl
theorem v35_0 (b : Fin 8) (t : Fin 1024) : (V m c main_v35 : Vec Ideal S8x1024x2 .i32) (ix3 b t 0) = BitVec.ofNat 32 b.val := by
  unfold V V0
  simp only [List.flatten_cons, List.flatten_nil, List.append_nil, List.cons_append, List.nil_append]
  after_reads_at
theorem v35_1 (b : Fin 8) (t : Fin 1024) : (V m c main_v35 : Vec Ideal S8x1024x2 .i32) (ix3 b t 1) = BitVec.ofNat 32 (pos (len m c b) t).val := by
  rw [← pos_word]
  unfold V V0
  simp only [List.flatten_cons, List.flatten_nil, List.append_nil, List.cons_append, List.nil_append]
  after_reads_at
  rfl
theorem v15_at (b : Fin 8) (t : Fin 1024) (k : Fin 2) (e : Fin 128) :
    (V m c main_v15 : Vec Ideal S8x1024x2x128 .fp8e4m3) (ix4 b t k e) = (m (c, Proc.devRef .tc main_arg3) : Vec Ideal S8x131072x2x128 .fp8e4m3) (ix4 b (pos (len m c b) t) k e) := by
  have h : (V m c main_v15 : Vec Ideal S8x1024x2x128 .fp8e4m3)
      = Host.gather gather_S8x131072x2x128_S8x1024x2_S8x1024x2x128_23_01_n_n_01_2_112128 (m (c, Proc.devRef .tc main_arg3) : Vec Ideal S8x131072x2x128 .fp8e4m3) (V m c main_v14 : Vec Ideal S8x1024x2 .i32) := by rfl
  rw [h]
  exact gather4_at _ _ b t k e _ (v14_0 m c b t) (v14_1 m c b t)
theorem v29_at (b : Fin 8) (t : Fin 1024) (k : Fin 2) (e : Fin 128) :
    (V m c main_v29 : Vec Ideal S8x1024x2x128 .fp8e4m3) (ix4 b t k e) = (m (c, Proc.devRef .tc main_arg5) : Vec Ideal S8x131072x2x128 .fp8e4m3) (ix4 b (pos (len m c b) t) k e) := by
  have h : (V m c main_v29 : Vec Ideal S8x1024x2x128 .fp8e4m3)
      = Host.gather gather_S8x131072x2x128_S8x1024x2_S8x1024x2x128_23_01_n_n_01_2_112128 (m (c, Proc.devRef .tc main_arg5) : Vec Ideal S8x131072x2x128 .fp8e4m3) (V m c main_v28 : Vec Ideal S8x1024x2 .i32) := by rfl
  rw [h]
  exact gather4_at _ _ b t k e _ (v28_0 m c b t) (v28_1 m c b t)
theorem v22_at (b : Fin 8) (t : Fin 1024) (k : Fin 2) :
    (V m c main_v22 : Vec Ideal S8x1024x2 .f32) (ix3 b t k) = (m (c, Proc.devRef .tc main_arg4) : Vec Ideal S8x131072x2 .f32) (ix3 b (pos (len m c b) t) k) := by
  have h : (V m c main_v22 : Vec Ideal S8x1024x2 .f32)
      = Host.gather gather_S8x131072x2_S8x1024x2_S8x1024x2_2_01_n_n_01_2_112 (m (c, Proc.devRef .tc main_arg4) : Vec Ideal S8x131072x2 .f32) (V m c main_v21 : Vec Ideal S8x1024x2 .i32) := by rfl
  rw [h]
  exact gather3_at _ _ b t k _ (v21_0 m c b t) (v21_1 m c b t)
theorem v36_at (b : Fin 8) (t : Fin 1024) (k : Fin 2) :
    (V m c main_v36 : Vec Ideal S8x1024x2 .f32) (ix3 b t k) = (m (c, Proc.devRef .tc main_arg6) : Vec Ideal S8x131072x2 .f32) (ix3 b (pos (len m c b) t) k) := by
  have h : (V m c main_v36 : Vec Ideal S8x1024x2 .f32)
      = Host.gather gather_S8x131072x2_S8x1024x2_S8x1024x2_2_01_n_n_01_2_112 (m (c, Proc.devRef .tc main_arg6) : Vec Ideal S8x131072x2 .f32) (V m c main_v35 : Vec Ideal S8x1024x2 .i32) := by rfl
  rw [h]
  exact gather3_at _ _ b t k _ (v35_0 m c b t) (v35_1 m c b t)

end Cert.ReferenceIdeal.Hand

end
-- ==== Proof.ReferenceRun.lean ====
/- The reference’s results: the attention over the window and the new tokens, and the codes and scales. -/
module

public import proofs.«01_k».proof.Proof.Gen.ReferenceIdeal.Frame
public import proofs.«01_k».proof.Proof.ReferenceSuffix
public import proofs.«01_k».proof.Proof.ReferenceArrays
public import proofs.«01_k».proof.Proof.ReferenceQuant
public import proofs.«01_k».proof.Proof.ReferencePrefix
public import Idealize.ShloMosaic.Lib.StableHlo.ReadAt
public import Idealize.ShloMosaic.Lib.Pointwise
public import Idealize.ShloMosaic.Lib.IdealHost

@[expose] public section

set_option maxHeartbeats 1000000
set_option maxRecDepth 16384

noncomputable section

namespace Cert.ReferenceIdeal.Hand

open Cert.ReferenceIdeal Cert.ReferenceIdeal.Gen Cert.Values Cert.Quant
open Idealize.ShloMosaic Idealize.ShloMosaic.TcCoe

variable (m : (ℓ : Loc nD τ sig) → Buf (Elt Ideal) ℓ) (c : Dev nD)

/-- What the buffers hold when the quantiser ends. -/
def atEnd : Valuation τ sig (Elt Ideal) := Pipeline.withArrays spec0 c (V0 m c) fun w => (dats m 0 c).arrAt w cfg0.N

theorem arr_inj : Function.Injective (Pipeline.arrRef spec0) := launch0.win.arr_inj

theorem end_kc : atEnd m c (Proc.devRef .tc main_v37_0) = (dats m 0 c).arrAt 4 cfg0.N :=
  Pipeline.withArrays_arr spec0 arr_inj c (V0 m c) (fun w => (dats m 0 c).arrAt w cfg0.N) 4
theorem end_vc : atEnd m c (Proc.devRef .tc main_v37_1) = (dats m 0 c).arrAt 5 cfg0.N :=
  Pipeline.withArrays_arr spec0 arr_inj c (V0 m c) (fun w => (dats m 0 c).arrAt w cfg0.N) 5
theorem end_kcodes : atEnd m c (Proc.devRef .tc main_v37_2) = (dats m 0 c).arrAt 6 cfg0.N :=
  Pipeline.withArrays_arr spec0 arr_inj c (V0 m c) (fun w => (dats m 0 c).arrAt w cfg0.N) 6
theorem end_kscale : atEnd m c (Proc.devRef .tc main_v37_3) = (dats m 0 c).arrAt 7 cfg0.N :=
  Pipeline.withArrays_arr spec0 arr_inj c (V0 m c) (fun w => (dats m 0 c).arrAt w cfg0.N) 7
theorem end_vcodes : atEnd m c (Proc.devRef .tc main_v37_4) = (dats m 0 c).arrAt 8 cfg0.N :=
  Pipeline.withArrays_arr spec0 arr_inj c (V0 m c) (fun w => (dats m 0 c).arrAt w cfg0.N) 8
theorem end_vscale : atEnd m c (Proc.devRef .tc main_v37_5) = (dats m 0 c).arrAt 9 cfg0.N :=
  Pipeline.withArrays_arr spec0 arr_inj c (V0 m c) (fun w => (dats m 0 c).arrAt w cfg0.N) 9
theorem end_kn : atEnd m c (Proc.devRef .tc main_v37_6) = (dats m 0 c).arrAt 10 cfg0.N :=
  Pipeline.withArrays_arr spec0 arr_inj c (V0 m c) (fun w => (dats m 0 c).arrAt w cfg0.N) 10
theorem end_vn : atEnd m c (Proc.devRef .tc main_v37_7) = (dats m 0 c).arrAt 11 cfg0.N :=
  Pipeline.withArrays_arr spec0 arr_inj c (V0 m c) (fun w => (dats m 0 c).arrAt w cfg0.N) 11
theorem end_v8 : atEnd m c (Proc.devRef .tc main_v8) = V m c main_v8 :=
  Pipeline.withArrays_of_ne spec0 c (V0 m c) (fun w => (dats m 0 c).arrAt w cfg0.N) main_v8 (by decide)
theorem end_v22 : atEnd m c (Proc.devRef .tc main_v22) = V m c main_v22 :=
  Pipeline.withArrays_of_ne spec0 c (V0 m c) (fun w => (dats m 0 c).arrAt w cfg0.N) main_v22 (by decide)
theorem end_v36 : atEnd m c (Proc.devRef .tc main_v36) = V m c main_v36 :=
  Pipeline.withArrays_of_ne spec0 c (V0 m c) (fun w => (dats m 0 c).arrAt w cfg0.N) main_v36 (by decide)
theorem end_arg0 : atEnd m c (Proc.devRef .tc main_arg0) = V m c main_arg0 :=
  Pipeline.withArrays_of_ne spec0 c (V0 m c) (fun w => (dats m 0 c).arrAt w cfg0.N) main_arg0 (by decide)
theorem end_arg7 : atEnd m c (Proc.devRef .tc main_arg7) = V m c main_arg7 :=
  Pipeline.withArrays_of_ne spec0 c (V0 m c) (fun w => (dats m 0 c).arrAt w cfg0.N) main_arg7 (by decide)

theorem after_append (l₁ l₂ : List (HloOp τ sig (Elt Ideal))) (W : Valuation τ sig (Elt Ideal)) :
    StableHlo.after (l₁ ++ l₂) W = StableHlo.after l₂ (StableHlo.after l₁ W) := by
  induction l₁ generalizing W with
  | nil => rfl
  | cons op l ih => exact ih _

variable (W : Valuation τ sig (Elt Ideal))

theorem keep_v36 (b : Fin 8) (t : Fin 1024) (k : Fin 2) : (StableHlo.after (hostOps1 ++ (hostOps1_1 ++ (hostOps1_2 ++ hostOps1_3))) W (Proc.devRef .tc main_v36) : Vec Ideal S8x1024x2 .f32) (ix3 b t k) = (W (Proc.devRef .tc main_v36) : Vec Ideal S8x1024x2 .f32) (ix3 b t k) := by
  simp only [List.cons_append, List.nil_append]
  after_reads_at
theorem keep_v37_1 (b : Fin 8) (t : Fin 1024) (k : Fin 2) (d : Fin 128) : (StableHlo.after (hostOps1 ++ (hostOps1_1 ++ (hostOps1_2 ++ hostOps1_3))) W (Proc.devRef .tc main_v37_1) : Vec Ideal S8x1024x2x128 .bf16) (ix4 b t k d) = (W (Proc.devRef .tc main_v37_1) : Vec Ideal S8x1024x2x128 .bf16) (ix4 b t k d) := by
  simp only [List.cons_append, List.nil_append]
  after_reads_at
theorem keep_v37_7 (b : Fin 8) (t : Fin 4) (k : Fin 2) (d : Fin 128) : (StableHlo.after (hostOps1 ++ (hostOps1_1 ++ (hostOps1_2 ++ hostOps1_3))) W (Proc.devRef .tc main_v37_7) : Vec Ideal S8x4x2x128 .bf16) (ix4 b t k d) = (W (Proc.devRef .tc main_v37_7) : Vec Ideal S8x4x2x128 .bf16) (ix4 b t k d) := by
  simp only [List.cons_append, List.nil_append]
  after_reads_at
theorem v39_in (b : Fin 8) (s : Fin 4) (k : Fin 2) :
    (StableHlo.after (hostOps1 ++ (hostOps1_1 ++ (hostOps1_2 ++ hostOps1_3))) W (Proc.devRef .tc main_v39) : Vec Ideal S8x4x2 .f32) (ix3 b s k) = (W (Proc.devRef .tc main_v37_5) : Vec Ideal S8x4x2x1 .f32) (ix4 b s k 0) := by
  simp only [List.cons_append, List.nil_append]
  after_reads_at
theorem v38_end (b : Fin 8) (s : Fin 4) (k : Fin 2) :
    (StableHlo.after (List.flatten [hostOps1, hostOps1_1, hostOps1_2, hostOps1_3, hostOps1_4]) W (Proc.devRef .tc main_v38) : Vec Ideal S8x4x2 .f32) (ix3 b s k) = (W (Proc.devRef .tc main_v37_3) : Vec Ideal S8x4x2x1 .f32) (ix4 b s k 0) := by
  simp only [List.flatten_cons, List.flatten_nil, List.append_nil, List.cons_append, List.nil_append]
  after_reads_at
theorem v39_end (b : Fin 8) (s : Fin 4) (k : Fin 2) :
    (StableHlo.after (List.flatten [hostOps1, hostOps1_1, hostOps1_2, hostOps1_3, hostOps1_4]) W (Proc.devRef .tc main_v39) : Vec Ideal S8x4x2 .f32) (ix3 b s k) = (W (Proc.devRef .tc main_v37_5) : Vec Ideal S8x4x2x1 .f32) (ix4 b s k 0) := by
  simp only [List.flatten_cons, List.flatten_nil, List.append_nil, List.cons_append, List.nil_append]
  after_reads_at

/-- The new rows of keys and values. -/
def newK (b : Fin 8) (j : Fin 4) (k : Fin 2) : Fin 128 → EReal := fun x => (m (c, Proc.devRef .tc main_arg1) : Vec Ideal S8x4x2x128 .bf16) (ix4 b j k x)
def newV (b : Fin 8) (j : Fin 4) (k : Fin 2) : Fin 128 → EReal := fun x => (m (c, Proc.devRef .tc main_arg2) : Vec Ideal S8x4x2x128 .bf16) (ix4 b j k x)

theorem pay3_at (v : Vec Ideal S8x1024x2x128 .fp8e4m3) (b : Fin 8) (t : Fin 1024) (k : Fin 2) (x : Fin 128) : k0_pay3 v (ix4 b t k x) = v (ix4 b t k x) := by
  pointwise [k0_pay3]
theorem pay4_at (v : Vec Ideal S8x1024x2x128 .fp8e4m3) (b : Fin 8) (t : Fin 1024) (k : Fin 2) (x : Fin 128) : k0_pay4 v (ix4 b t k x) = v (ix4 b t k x) := by
  pointwise [k0_pay4]

theorem end_v37_0_at (b : Fin 8) (t : Fin 1024) (k : Fin 2) (x : Fin 128) :
    (atEnd m c (Proc.devRef .tc main_v37_0) : Vec Ideal S8x1024x2x128 .bf16) (ix4 b t k x) = (m (c, Proc.devRef .tc main_arg3) : Vec Ideal S8x131072x2x128 .fp8e4m3) (ix4 b (pos (len m c b) t) k x) := by
  rw [end_kc, arr_kc]
  refine (pay3_at _ b t k x).trans ?_
  exact v15_at m c b t k x
theorem end_v37_1_at (b : Fin 8) (t : Fin 1024) (k : Fin 2) (x : Fin 128) :
    (atEnd m c (Proc.devRef .tc main_v37_1) : Vec Ideal S8x1024x2x128 .bf16) (ix4 b t k x) = (m (c, Proc.devRef .tc main_arg5) : Vec Ideal S8x131072x2x128 .fp8e4m3) (ix4 b (pos (len m c b) t) k x) := by
  rw [end_vc, arr_vc]
  refine (pay4_at _ b t k x).trans ?_
  exact v29_at m c b t k x
theorem end_v37_2_at (b : Fin 8) (j : Fin 4) (k : Fin 2) (x : Fin 128) : ((dats m 0 c).arrAt 6 cfg0.N : Vec Ideal S8x4x2x128 .fp8e4m3) (ix4 b j k x) = code (newK m c b j k) x := by
  rw [arr_kcodes, V_main_arg1]
  exact pay8_at _ b j k x
theorem end_v37_4_at (b : Fin 8) (j : Fin 4) (k : Fin 2) (x : Fin 128) : ((dats m 0 c).arrAt 8 cfg0.N : Vec Ideal S8x4x2x128 .fp8e4m3) (ix4 b j k x) = code (newV m c b j k) x := by
  rw [arr_vcodes, V_main_arg2]
  exact pay1_at _ b j k x
theorem end_v37_3_at (b : Fin 8) (j : Fin 4) (k : Fin 2) : (atEnd m c (Proc.devRef .tc main_v37_3) : Vec Ideal S8x4x2x1 .f32) (ix4 b j k 0) = scale (newK m c b j k) := by
  rw [end_kscale, arr_kscale, V_main_arg1]
  exact pay7_at _ b j k
theorem end_v37_5_at (b : Fin 8) (j : Fin 4) (k : Fin 2) : (atEnd m c (Proc.devRef .tc main_v37_5) : Vec Ideal S8x4x2x1 .f32) (ix4 b j k 0) = scale (newV m c b j k) := by
  rw [end_vscale, arr_vscale, V_main_arg2]
  exact pay12_at _ b j k
theorem end_v37_6_at (b : Fin 8) (j : Fin 4) (k : Fin 2) (x : Fin 128) : (atEnd m c (Proc.devRef .tc main_v37_6) : Vec Ideal S8x4x2x128 .bf16) (ix4 b j k x) = code (newK m c b j k) x := by
  rw [end_kn, arr_kn, V_main_arg1]
  exact pay8_at _ b j k x
theorem end_v37_7_at (b : Fin 8) (j : Fin 4) (k : Fin 2) (x : Fin 128) : (atEnd m c (Proc.devRef .tc main_v37_7) : Vec Ideal S8x4x2x128 .bf16) (ix4 b j k x) = code (newV m c b j k) x := by
  rw [end_vn, arr_vn, V_main_arg2]
  exact pay1_at _ b j k x

theorem cachedScore_congr {n n' p p' : BitVec 32} {s : Fin 4} {f f' g g' : Fin 128 → EReal} {z z' : EReal} (h1 : n = n') (h2 : p = p') (h3 : ∀ x, f x = f' x) (h4 : ∀ x, g x = g' x) (h5 : z = z') :
    cachedScore n p s (dotOf f g) z = cachedScore n' p' s (dotOf f' g') z' := by
  rw [h1, h2, funext h3, funext h4, h5]
theorem newScore_congr {n n' : BitVec 32} {j s : Fin 4} {f f' g g' : Fin 128 → EReal} {z z' : EReal} (h1 : n = n') (h3 : ∀ x, f x = f' x) (h4 : ∀ x, g x = g' x) (h5 : z = z') :
    newScore n j s (dotOf f g) z = newScore n' j s (dotOf f' g') z' := by
  rw [h1, funext h3, funext h4, h5]
theorem attend_congr {a a' e e' i i' : Fin 1024 → EReal} {b b' f f' j j' : Fin 4 → EReal} (h1 : ∀ t, a t = a' t) (h2 : ∀ t, b t = b' t) (h3 : ∀ t, e t = e' t) (h4 : ∀ t, f t = f' t) (h5 : ∀ t, i t = i' t) (h6 : ∀ t, j t = j' t) :
    attend (joined a b) (joined e f) (joined i j) = attend (joined a' b') (joined e' f') (joined i' j') := by
  rw [funext h1, funext h2, funext h3, funext h4, funext h5, funext h6]

/-- The reference's attention at each index. -/
theorem v123_at (b : Fin 8) (s : Fin 4) (k : Fin 2) (g : Fin 8) (d : Fin 128) :
    (StableHlo.after (List.flatten [hostOps1, hostOps1_1, hostOps1_2, hostOps1_3, hostOps1_4]) (atEnd m c) (Proc.devRef .tc main_v123) : Vec Ideal S8x4x2048 .bf16) (ix3 b s (⟨k.val * 1024 + g.val * 128 + d.val, by omega⟩ : Fin 2048))
      = attend (joined (fun t => cachedScore (len m c b) (BitVec.ofNat 32 (pos (len m c b) t).val) s
              (dotOf (fun x => (m (c, Proc.devRef .tc main_arg3) : Vec Ideal S8x131072x2x128 .fp8e4m3) (ix4 b (pos (len m c b) t) k x)) (fun x => (m (c, Proc.devRef .tc main_arg0) : Vec Ideal S8x4x16x128 .bf16) (ix4 b s (⟨k.val * 8 + g.val, by omega⟩ : Fin 16) x)))
              ((m (c, Proc.devRef .tc main_arg4) : Vec Ideal S8x131072x2 .f32) (ix3 b (pos (len m c b) t) k)))
            (fun j => newScore (len m c b) j s (dotOf (code (newK m c b j k)) (fun x => (m (c, Proc.devRef .tc main_arg0) : Vec Ideal S8x4x16x128 .bf16) (ix4 b s (⟨k.val * 8 + g.val, by omega⟩ : Fin 16) x))) (scale (newK m c b j k))))
          (joined (fun t => (m (c, Proc.devRef .tc main_arg6) : Vec Ideal S8x131072x2 .f32) (ix3 b (pos (len m c b) t) k)) (fun j => scale (newV m c b j k)))
          (joined (fun t => (m (c, Proc.devRef .tc main_arg5) : Vec Ideal S8x131072x2x128 .fp8e4m3) (ix4 b (pos (len m c b) t) k d)) (fun j => code (newV m c b j k) d)) := by
  rw [show List.flatten [hostOps1, hostOps1_1, hostOps1_2, hostOps1_3, hostOps1_4] = (hostOps1 ++ (hostOps1_1 ++ (hostOps1_2 ++ hostOps1_3))) ++ (hostOps1_4 : List (HloOp τ sig (Elt Ideal))) from rfl, after_append]
  refine (tail_at _ b k g s d).trans ?_
  have ha : ∀ x : Fin 128, (atEnd m c (Proc.devRef .tc main_arg0) : Vec Ideal S8x4x16x128 .bf16) (ix4 b s (⟨k.val * 8 + g.val, by omega⟩ : Fin 16) x) = (m (c, Proc.devRef .tc main_arg0) : Vec Ideal S8x4x16x128 .bf16) (ix4 b s (⟨k.val * 8 + g.val, by omega⟩ : Fin 16) x) := fun x => by
    rw [end_arg0, V_main_arg0]
  have hn : (atEnd m c (Proc.devRef .tc main_arg7) : Vec Ideal S8 .i32) (ix1 b) = len m c b := by
    rw [end_arg7, V_main_arg7]
    rfl
  refine attend_congr (fun t => ?_) (fun t => ?_) (fun t => ?_) (fun t => ?_) (fun t => ?_) (fun t => ?_)
  · refine (v90_at _ b k g s t).trans (cachedScore_congr hn ?_ (fun x => end_v37_0_at m c b t k x) ha ?_)
    · rw [end_v8]; exact v8_at m c b t
    · rw [end_v22]; exact v22_at m c b t k
  · exact (v92_at _ b k g s t).trans (newScore_congr hn (fun x => end_v37_6_at m c b t k x) ha (end_v37_3_at m c b t k))
  · refine (keep_v36 _ b t k).trans ?_
    rw [end_v36]; exact v36_at m c b t k
  · exact (v39_in _ b t k).trans (end_v37_5_at m c b t k)
  · exact (keep_v37_1 _ b t k d).trans (end_v37_1_at m c b t k d)
  · exact (keep_v37_7 _ b t k d).trans (end_v37_7_at m c b t k d)

end Cert.ReferenceIdeal.Hand

end
-- ==== Proof.KernelIdealEnd.lean ====
/- The kernel’s five results at each index, from its arguments. -/
module

public import proofs.«01_k».proof.Proof.KernelIdealValue
public import proofs.«01_k».proof.Proof.KernelIdealRun
public import proofs.«01_k».proof.Proof.ReferenceRun

@[expose] public section

set_option maxHeartbeats 1000000
set_option maxRecDepth 16384

noncomputable section

namespace Cert.KernelIdeal.Hand

open Cert.KernelIdeal Cert.KernelIdeal.Gen Cert.Quant Cert.Values Cert.Soft Cert.Window Cert.KernelIdeal.Run
open Cert.ReferenceIdeal.Hand (attend_congr cachedScore_congr newScore_congr)
open Idealize.ShloMosaic Idealize.ShloMosaic.TcCoe

/-- A new token's row. -/
def rowAt (a : Vec Ideal S8x4x2x128 .bf16) (b : Fin 8) (j : Fin 4) (k : Fin 2) : Fin 128 → EReal := fun x => a (ix4 b j k x)

/-- The attention over a sequence's window and its four new tokens, from the arguments. -/
def attention (a0 : Vec Ideal S8x4x16x128 .bf16) (a1 a2 : Vec Ideal S8x4x2x128 .bf16) (a3 : Vec Ideal S8x131072x2x128 .fp8e4m3) (a4 : Vec Ideal S8x131072x2 .f32)
    (a5 : Vec Ideal S8x131072x2x128 .fp8e4m3) (a6 : Vec Ideal S8x131072x2 .f32) (a7 : Vec Ideal S8 .i32) (b : Fin 8) (s : Fin 4) (k : Fin 2) (g : Fin 8) (d : Fin 128) : EReal :=
  attend (joined (fun t => cachedScore (a7 (ix1 b)) (BitVec.ofNat 32 (tokenAt (a7 (ix1 b)) t).val) s
        (dotOf (fun x => a3 (ix4 b (tokenAt (a7 (ix1 b)) t) k x)) (fun x => a0 (ix4 b s (⟨k.val * 8 + g.val, by omega⟩ : Fin 16) x))) (a4 (ix3 b (tokenAt (a7 (ix1 b)) t) k)))
      (fun j => newScore (a7 (ix1 b)) j s (dotOf (code (rowAt a1 b j k)) (fun x => a0 (ix4 b s (⟨k.val * 8 + g.val, by omega⟩ : Fin 16) x))) (scale (rowAt a1 b j k))))
    (joined (fun t => a6 (ix3 b (tokenAt (a7 (ix1 b)) t) k)) (fun j => scale (rowAt a2 b j k)))
    (joined (fun t => a5 (ix4 b (tokenAt (a7 (ix1 b)) t) k d)) (fun j => code (rowAt a2 b j k) d))

variable (m : (ℓ : Loc nD τ sig) → Buf (Elt Ideal) ℓ) (c : Dev nD)

/-- What the buffers hold when the kernel ends. -/
def atEnd : Valuation τ sig (Elt Ideal) :=
  Pipeline.withArrays cfg0.spec c (Pipeline.withR (V0 m c) R0 c (G m c)) fun w => (datsV m 0 c).arrAt w cfg0.N

theorem end_of (b : Ref sig .tc) (hb : b ∈ R0) : atEnd m c (Proc.devRef .tc b) = G m c b :=
  (Pipeline.withArrays_of_ne cfg0.spec c (Pipeline.withR (V0 m c) R0 c (G m c)) (fun w => (datsV m 0 c).arrAt w cfg0.N) b (fun w => w.elim0)).trans
    (Pipeline.withR_of_mem (V0 m c) R0 c (G m c) b hb)

theorem new1 (b : Fin 8) (k : Fin 2) (j : Fin 4) : newRow (V m c main_v1) b k j = rowAt (m (c, Proc.devRef .tc main_arg1)) b j k := funext fun x => v1_at m c b j k x
theorem new2 (b : Fin 8) (k : Fin 2) (j : Fin 4) : newRow (V m c main_v2) b k j = rowAt (m (c, Proc.devRef .tc main_arg2)) b j k := funext fun x => v2_at m c b j k x

theorem split64 (r : Fin 64) : r = (⟨2 * (4 * (⟨r.val / 8, by omega⟩ : Fin 8).val + (⟨r.val / 2 % 4, by omega⟩ : Fin 4).val) + (⟨r.val % 2, by omega⟩ : Fin 2).val, by
    show 2 * (4 * (r.val / 8) + r.val / 2 % 4) + r.val % 2 < 64; omega⟩ : Fin 64) :=
  Fin.ext (show r.val = 2 * (4 * (r.val / 8) + r.val / 2 % 4) + r.val % 2 by omega)

theorem range1 (h : ∀ (b : Fin 8) (s : Fin 4) (k : Fin 2), InRange (amax (rowAt (m (c, Proc.devRef .tc main_arg1)) b s k))) (r : Fin 64) :
    InRange (amax fun x => (V m c main_v1 : Vec Ideal S64x128 .bf16) (ix2 r x)) := by
  rw [split64 r]
  have e := new1 m c ⟨r.val / 8, by omega⟩ ⟨r.val % 2, by omega⟩ ⟨r.val / 2 % 4, by omega⟩
  unfold newRow at e
  rw [e]
  exact h _ _ _
theorem range2 (h : ∀ (b : Fin 8) (s : Fin 4) (k : Fin 2), InRange (amax (rowAt (m (c, Proc.devRef .tc main_arg2)) b s k))) (r : Fin 64) :
    InRange (amax fun x => (V m c main_v2 : Vec Ideal S64x128 .bf16) (ix2 r x)) := by
  rw [split64 r]
  have e := new2 m c ⟨r.val / 8, by omega⟩ ⟨r.val % 2, by omega⟩ ⟨r.val / 2 % 4, by omega⟩
  unfold newRow at e
  rw [e]
  exact h _ _ _

/-- What the host lines after the kernel leave. -/
def last (b : Ref sig .tc) : Buf (Elt Ideal) ((c.tc : Thread nD τ).loc b) := StableHlo.after (List.flatten [hostOps1]) (atEnd m c) (Proc.devRef .tc b)

theorem last_eq (b : Ref sig .tc) : last m c b = StableHlo.after hostOps1 (atEnd m c) (Proc.devRef .tc b) := by
  unfold last
  rw [List.flatten_cons, List.flatten_nil, List.append_nil]

variable (h1 : ∀ (b : Fin 8) (s : Fin 4) (k : Fin 2), InRange (amax (rowAt (m (c, Proc.devRef .tc main_arg1)) b s k)))
  (h2 : ∀ (b : Fin 8) (s : Fin 4) (k : Fin 2), InRange (amax (rowAt (m (c, Proc.devRef .tc main_arg2)) b s k)))
include h1 h2

theorem last_v12 (b : Fin 8) (s : Fin 4) (k : Fin 2) (l : Fin 128) : (last m c main_v12 : Vec Ideal S8x4x2x128 .fp8e4m3) (ix4 b s k l) = code (rowAt (m (c, Proc.devRef .tc main_arg1)) b s k) l := by
  rw [last_eq]
  refine (v12_at _ b s k l).trans ?_
  rw [end_of m c main_v7_1 (by decide), G_9, ← new1]
  exact allCodes_at _ b k s l (range1 m c h1)
theorem last_v14 (b : Fin 8) (s : Fin 4) (k : Fin 2) (l : Fin 128) : (last m c main_v14 : Vec Ideal S8x4x2x128 .fp8e4m3) (ix4 b s k l) = code (rowAt (m (c, Proc.devRef .tc main_arg2)) b s k) l := by
  rw [last_eq]
  refine (v14_at _ b s k l).trans ?_
  rw [end_of m c main_v7_3 (by decide), G_11, ← new2]
  exact allCodes_at _ b k s l (range2 m c h2)
theorem last_v16 (b : Fin 8) (s : Fin 4) (k : Fin 2) : (last m c main_v16 : Vec Ideal S8x4x2 .f32) (ix3 b s k) = scale (rowAt (m (c, Proc.devRef .tc main_arg1)) b s k) := by
  rw [last_eq]
  refine (v16_at _ b s k).trans ?_
  rw [end_of m c main_v7_2 (by decide), G_10, ← new1]
  exact allScales_at _ b k s (range1 m c h1)
theorem last_v18 (b : Fin 8) (s : Fin 4) (k : Fin 2) : (last m c main_v18 : Vec Ideal S8x4x2 .f32) (ix3 b s k) = scale (rowAt (m (c, Proc.devRef .tc main_arg2)) b s k) := by
  rw [last_eq]
  refine (v18_at _ b s k).trans ?_
  rw [end_of m c main_v7_4 (by decide), G_12, ← new2]
  exact allScales_at _ b k s (range2 m c h2)

theorem last_v10 (b : Fin 8) (hn : 1024 ≤ ((m (c, Proc.devRef .tc main_arg7) : Vec Ideal S8 .i32) (ix1 b)).toNat ∧ ((m (c, Proc.devRef .tc main_arg7) : Vec Ideal S8 .i32) (ix1 b)).toNat ≤ 131072)
    (s : Fin 4) (k : Fin 2) (g : Fin 8) (d : Fin 128) :
    (last m c main_v10 : Vec Ideal S8x4x2048 .bf16) (ix3 b s (⟨k.val * 1024 + g.val * 128 + d.val, by omega⟩ : Fin 2048))
      = attention (m (c, Proc.devRef .tc main_arg0)) (m (c, Proc.devRef .tc main_arg1)) (m (c, Proc.devRef .tc main_arg2)) (m (c, Proc.devRef .tc main_arg3)) (m (c, Proc.devRef .tc main_arg4))
          (m (c, Proc.devRef .tc main_arg5)) (m (c, Proc.devRef .tc main_arg6)) (m (c, Proc.devRef .tc main_arg7)) b s k g d := by
  rw [last_eq]
  refine (v10_at _ b s k g d).trans ?_
  rw [end_of m c main_v7_0 (by decide), G_8]
  unfold res8
  have ha : ∀ x : Fin 128, (V m c main_v0 : Vec Ideal S8x64x128 .bf16) (ix3 b (⟨16 * s.val + 8 * k.val + g.val, by omega⟩ : Fin 64) x) = (m (c, Proc.devRef .tc main_arg0) : Vec Ideal S8x4x16x128 .bf16) (ix4 b s (⟨k.val * 8 + g.val, by omega⟩ : Fin 16) x) := fun x => by
    rw [← v0_at m c b s (⟨k.val * 8 + g.val, by omega⟩ : Fin 16) x]
    exact congrArg (fun r => (V m c main_v0 : Vec Ideal S8x64x128 .bf16) (ix3 b r x)) (Fin.ext (show 16 * s.val + 8 * k.val + g.val = 16 * s.val + (k.val * 8 + g.val) by omega))
  have hl : (V m c main_arg7 : Vec Ideal S8 .i32) = m (c, Proc.devRef .tc main_arg7) := V_main_arg7 m c
  rw [hl]
  refine (out_at _ _ _ _ _ _ _ _ b hn.1 hn.2 (range1 m c h1) (range2 m c h2) s k g d).trans ?_
  unfold attention
  refine attend_congr (fun t => ?_) (fun j => ?_) (fun t => v6_at m c b k _) (fun j => ?_) (fun t => v5_at m c b k _ d) (fun j => ?_)
  · exact cachedScore_congr rfl rfl (fun x => v3_at m c b k _ x) ha (v4_at m c b k _)
  · exact newScore_congr rfl (fun x => by rw [new1]) ha (by rw [new1])
  · rw [new2]
  · rw [new2]

end Cert.KernelIdeal.Hand

end
-- ==== Proof.Equal.lean ====
/- From arguments in range and equal, the kernel and the reference end with equal results. -/
module

public import proofs.«01_k».proof.Defs
public import proofs.«01_k».proof.Proof.Range
public import proofs.«01_k».proof.Proof.KernelIdealEnd
public import proofs.«01_k».proof.Proof.KernelIdealFrame
public import proofs.«01_k».proof.Proof.ReferenceRun

@[expose] public section

set_option maxHeartbeats 1000000
set_option maxRecDepth 16384

noncomputable section

namespace Cert.Equal

open Cert.Values Cert.Quant
open Cert.KernelIdeal.Hand (attention rowAt last)
open Idealize.ShloMosaic Idealize.ShloMosaic.TcCoe Idealize.SL.Sem

theorem ext3 (f g : Vec Ideal Cert.KernelIdeal.S8x4x2 .f32) (h : ∀ (b : Fin 8) (s : Fin 4) (k : Fin 2), f (ix3 b s k) = g (ix3 b s k)) : f = g := funext fun y => by
  rw [eq_ix3 y]; exact h _ _ _
theorem ext4 (f g : Vec Ideal Cert.KernelIdeal.S8x4x2x128 .fp8e4m3) (h : ∀ (b : Fin 8) (s : Fin 4) (k : Fin 2) (l : Fin 128), f (ix4 b s k l) = g (ix4 b s k l)) : f = g := funext fun y => by
  rw [eq_ix4 y]; exact h _ _ _ _
/-- The attention's last index splits into the key head, the query head of its group and the lane. -/
theorem extOut (f g : Vec Ideal Cert.KernelIdeal.S8x4x2048 .bf16)
    (h : ∀ (b : Fin 8) (s : Fin 4) (k : Fin 2) (q : Fin 8) (d : Fin 128), f (ix3 b s (⟨k.val * 1024 + q.val * 128 + d.val, by omega⟩ : Fin 2048)) = g (ix3 b s (⟨k.val * 1024 + q.val * 128 + d.val, by omega⟩ : Fin 2048))) : f = g := funext fun y => by
  have hy : (y 2).val < 2048 := (y 2).isLt
  have e : (y 2 : Fin 2048) = (⟨(⟨(y 2).val / 1024, by omega⟩ : Fin 2).val * 1024 + (⟨(y 2).val / 128 % 8, by omega⟩ : Fin 8).val * 128 + (⟨(y 2).val % 128, by omega⟩ : Fin 128).val, by
      show (y 2).val / 1024 * 1024 + (y 2).val / 128 % 8 * 128 + (y 2).val % 128 < 2048; omega⟩ : Fin 2048) :=
    Fin.ext (show (y 2).val = (y 2).val / 1024 * 1024 + (y 2).val / 128 % 8 * 128 + (y 2).val % 128 by omega)
  rw [eq_ix3 y, e]
  exact h _ _ _ _ _

section reference
open Cert.ReferenceIdeal Cert.ReferenceIdeal.Gen Cert.ReferenceIdeal.Hand

variable (m : (ℓ : Loc nD τ sig) → Buf (Elt Ideal) ℓ) (c : Dev nD)

/-- What the host lines after the quantiser leave. -/
def rlast (b : Ref sig .tc) : Buf (Elt Ideal) ((c.tc : Thread nD τ).loc b) :=
  StableHlo.after (List.flatten [hostOps1, hostOps1_1, hostOps1_2, hostOps1_3, hostOps1_4]) (Cert.ReferenceIdeal.Hand.atEnd m c) (Proc.devRef .tc b)

theorem rlast_v123 (b : Fin 8) (s : Fin 4) (k : Fin 2) (g : Fin 8) (d : Fin 128) :
    (rlast m c main_v123 : Vec Ideal S8x4x2048 .bf16) (ix3 b s (⟨k.val * 1024 + g.val * 128 + d.val, by omega⟩ : Fin 2048))
      = attention (m (c, Proc.devRef .tc main_arg0)) (m (c, Proc.devRef .tc main_arg1)) (m (c, Proc.devRef .tc main_arg2)) (m (c, Proc.devRef .tc main_arg3)) (m (c, Proc.devRef .tc main_arg4))
          (m (c, Proc.devRef .tc main_arg5)) (m (c, Proc.devRef .tc main_arg6)) (m (c, Proc.devRef .tc main_arg7)) b s k g d :=
  v123_at m c b s k g d
theorem rlast_v38 (b : Fin 8) (s : Fin 4) (k : Fin 2) : (rlast m c main_v38 : Vec Ideal S8x4x2 .f32) (ix3 b s k) = scale (rowAt (m (c, Proc.devRef .tc main_arg1)) b s k) :=
  (v38_end _ b s k).trans (end_v37_3_at m c b s k)
theorem rlast_v39 (b : Fin 8) (s : Fin 4) (k : Fin 2) : (rlast m c main_v39 : Vec Ideal S8x4x2 .f32) (ix3 b s k) = scale (rowAt (m (c, Proc.devRef .tc main_arg2)) b s k) :=
  (v39_end _ b s k).trans (end_v37_5_at m c b s k)

/-- Every run of the reference ends with these results and its arguments unchanged. -/
theorem reference_run (g : Dev nD → PrngReg) :
    θ_run (defs (F := Ideal)) (onTc (τ := τ) (main (F := Ideal))) ⟨m, fun _ => 0, g⟩ (fun r => (∀ c : Dev nD,
        r.2.mem ((c.tc : Thread nD τ).loc main_v123) = rlast m c main_v123
        ∧ r.2.mem ((c.tc : Thread nD τ).loc main_v37_2) = (dats m 0 c).arrAt 6 cfg0.N
        ∧ r.2.mem ((c.tc : Thread nD τ).loc main_v38) = rlast m c main_v38
        ∧ r.2.mem ((c.tc : Thread nD τ).loc main_v37_4) = (dats m 0 c).arrAt 8 cfg0.N
        ∧ r.2.mem ((c.tc : Thread nD τ).loc main_v39) = rlast m c main_v39)
      ∧ ∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  θ_run_and ((θ_run defs _ _).mono (fun r h c =>
    ⟨(h c).2 main_v123 (Pipeline.mem_restRefs_of main_v123 (by decide) (by decide)), (h c).1 6,
      (h c).2 main_v38 (Pipeline.mem_restRefs_of main_v38 (by decide) (by decide)), (h c).1 8,
      (h c).2 main_v39 (Pipeline.mem_restRefs_of main_v39 (by decide) (by decide))⟩) (run_main m g)) (unchanged m g)

end reference

section kernel
open Cert.KernelIdeal Cert.KernelIdeal.Gen Cert.KernelIdeal.Hand

variable (m : (ℓ : Loc nD τ sig) → Buf (Elt Ideal) ℓ)

/-- Every run of the kernel ends with these results and its arguments unchanged. -/
theorem kernel_run (g : Dev nD → PrngReg) :
    θ_run (defs (F := Ideal)) (onTc (τ := τ) (main (F := Ideal))) ⟨m, fun _ => 0, g⟩ (fun r => (∀ c : Dev nD, ∀ b ∈ Pipeline.restRefs sig cfg0.spec, r.2.mem ((c.tc : Thread nD τ).loc b) = last m c b)
      ∧ ((∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) ∧ r.2.sem = fun _ => 0)) :=
  θ_run_and (Cert.KernelIdeal.Run.run_value m g) (Cert.KernelIdeal.Hand.frame m g)

theorem rest_of (b : Ref sig .tc) (hb : b.isScoped = false) : b ∈ Pipeline.restRefs sig cfg0.spec := Pipeline.mem_restRefs_of b hb (fun w => w.elim0)

end kernel

/-- Equal results of the kernel and the reference, all five. -/
theorem algebraic : Cert.algebraic_KernelIdeal_ReferenceIdeal_pre_in_range (hKernelIdeal := Cert.KernelIdeal.Gen.facts) (hReferenceIdeal := Cert.ReferenceIdeal.Gen.facts) (hPre_in_range := Cert.Range.facts) := by
  intro m g m' g' hpre hargs
  refine ⟨fun c => last m c _, fun c => last m c _, fun c => last m c _, fun c => last m c _, fun c => last m c _, ?_, ?_⟩
  · refine (θ_run _ _ _).mono (fun r h c => ?_) (kernel_run m g)
    exact ⟨h.1 c _ (rest_of _ (by decide)), h.1 c _ (rest_of _ (by decide)), h.1 c _ (rest_of _ (by decide)), h.1 c _ (rest_of _ (by decide)), h.1 c _ (rest_of _ (by decide)), h.2.1 c⟩
  · refine (θ_run _ _ _).mono (fun r h c => ?_) (reference_run m' g')
    haveI := Cert.Range.facts
    obtain ⟨hn, h1, h2⟩ := Cert.Range.of_pre _ _ _ _ _ _ _ _ (hpre c)
    obtain ⟨a0, a1, a2, a3, a4, a5, a6, a7⟩ := hargs c
    obtain ⟨r0, r1, r2, r3, r4⟩ := h.1 c
    refine ⟨r0.trans ?_, r1.trans ?_, r2.trans ?_, r3.trans ?_, r4.trans ?_, h.2 c⟩
    · refine extOut _ _ fun b s k q d => ?_
      refine (rlast_v123 m' c b s k q d).trans (Eq.trans ?_ (Cert.KernelIdeal.Hand.last_v10 m c h1 h2 b (hn b) s k q d).symm)
      exact (congrArg (fun x => attention x _ _ _ _ _ _ _ b s k q d) a0).trans <| (congrArg (fun x => attention _ x _ _ _ _ _ _ b s k q d) a1).trans <|
        (congrArg (fun x => attention _ _ x _ _ _ _ _ b s k q d) a2).trans <| (congrArg (fun x => attention _ _ _ x _ _ _ _ b s k q d) a3).trans <|
        (congrArg (fun x => attention _ _ _ _ x _ _ _ b s k q d) a4).trans <| (congrArg (fun x => attention _ _ _ _ _ x _ _ b s k q d) a5).trans <|
        (congrArg (fun x => attention _ _ _ _ _ _ x _ b s k q d) a6).trans (congrArg (fun x => attention _ _ _ _ _ _ _ x b s k q d) a7)
    · refine ext4 _ _ fun b s k l => ?_
      refine (Cert.ReferenceIdeal.Hand.end_v37_2_at m' c b s k l).trans (Eq.trans ?_ (Cert.KernelIdeal.Hand.last_v12 m c h1 h2 b s k l).symm)
      exact congrArg (fun x => code (rowAt x b s k) l) a1
    · refine ext3 _ _ fun b s k => ?_
      refine (rlast_v38 m' c b s k).trans (Eq.trans ?_ (Cert.KernelIdeal.Hand.last_v16 m c h1 h2 b s k).symm)
      exact congrArg (fun x => scale (rowAt x b s k)) a1
    · refine ext4 _ _ fun b s k l => ?_
      refine (Cert.ReferenceIdeal.Hand.end_v37_4_at m' c b s k l).trans (Eq.trans ?_ (Cert.KernelIdeal.Hand.last_v14 m c h1 h2 b s k l).symm)
      exact congrArg (fun x => code (rowAt x b s k) l) a2
    · refine ext3 _ _ fun b s k => ?_
      refine (rlast_v39 m' c b s k).trans (Eq.trans ?_ (Cert.KernelIdeal.Hand.last_v18 m c h1 h2 b s k).symm)
      exact congrArg (fun x => scale (rowAt x b s k)) a2

end Cert.Equal

end
-- ==== Proof.lean ====
/- The three frames, the idealization, and the equality of the kernel's and the reference's results. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.KernelFrame
public import proofs.«01_k».proof.Proof.KernelIdealFrame
public import proofs.«01_k».proof.Proof.Preserves
public import proofs.«01_k».proof.Proof.Equal
public import Idealize.ShloMosaic.Adequacy
public import Idealize.ShloMosaic.Init

@[expose] public section

noncomputable section

namespace Cert.Proof

open Idealize.ShloMosaic Idealize.SL.Sem Cert.Kernel

/-- Everything claimed: the three frames, the rewrites of the idealization, and the equality of all five results. -/
theorem claim : Cert.Claim := ⟨Cert.Kernel.Gen.facts, Cert.KernelIdeal.Gen.facts, Cert.ReferenceIdeal.Gen.facts, Cert.Range.facts,
  fun m ρ _ => Cert.Kernel.Hand.frame m ρ,
  fun m ρ _ => Cert.KernelIdeal.Hand.frame m ρ,
  fun m ρ _ => Cert.KernelIdeal.Hand.frame m ρ,
  fun m ρ _ => Cert.ReferenceIdeal.Gen.frame m ρ,
  fun m ρ _ => Cert.ReferenceIdeal.Gen.frame m ρ,
  Cert.Proof.preserves,
  Cert.Equal.algebraic⟩

end Cert.Proof

end
